-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNa (m : (ℓ : Loc Cert.KernelNa.nD Cert.KernelNa.τ Cert.KernelNa.sig) → Buf (Elt Bits) ℓ) : Prop :=
  True

def Pre_KernelNaIdeal (m : (ℓ : Loc Cert.KernelNaIdeal.nD Cert.KernelNaIdeal.τ Cert.KernelNaIdeal.sig) → Buf (Elt Ideal) ℓ) : Prop :=
  True

def Pre_KernelNaIdeal_finite_na [hPre_finite_na : Cert.Pre_finite_na.Facts] (m : (ℓ : Loc Cert.KernelNaIdeal.nD Cert.KernelNaIdeal.τ Cert.KernelNaIdeal.sig) → Buf (Elt Ideal) ℓ) : Prop :=
  ∀ c : Dev Cert.KernelNaIdeal.nD,
    (Cert.Pre_finite_na.fn (F := Ideal) (m ((c.tc : Thread Cert.KernelNaIdeal.nD Cert.KernelNaIdeal.τ).loc Cert.KernelNaIdeal.main_arg0)) (m ((c.tc : Thread Cert.KernelNaIdeal.nD Cert.KernelNaIdeal.τ).loc Cert.KernelNaIdeal.main_arg1)) (m ((c.tc : Thread Cert.KernelNaIdeal.nD Cert.KernelNaIdeal.τ).loc Cert.KernelNaIdeal.main_arg2)) (m ((c.tc : Thread Cert.KernelNaIdeal.nD Cert.KernelNaIdeal.τ).loc Cert.KernelNaIdeal.main_arg3))).1 = (fun _ => 1#1)
    ∧ (Cert.Pre_finite_na.fn (F := Ideal) (m ((c.tc : Thread Cert.KernelNaIdeal.nD Cert.KernelNaIdeal.τ).loc Cert.KernelNaIdeal.main_arg0)) (m ((c.tc : Thread Cert.KernelNaIdeal.nD Cert.KernelNaIdeal.τ).loc Cert.KernelNaIdeal.main_arg1)) (m ((c.tc : Thread Cert.KernelNaIdeal.nD Cert.KernelNaIdeal.τ).loc Cert.KernelNaIdeal.main_arg2)) (m ((c.tc : Thread Cert.KernelNaIdeal.nD Cert.KernelNaIdeal.τ).loc Cert.KernelNaIdeal.main_arg3))).2.1 = (fun _ => 1#1)
    ∧ (Cert.Pre_finite_na.fn (F := Ideal) (m ((c.tc : Thread Cert.KernelNaIdeal.nD Cert.KernelNaIdeal.τ).loc Cert.KernelNaIdeal.main_arg0)) (m ((c.tc : Thread Cert.KernelNaIdeal.nD Cert.KernelNaIdeal.τ).loc Cert.KernelNaIdeal.main_arg1)) (m ((c.tc : Thread Cert.KernelNaIdeal.nD Cert.KernelNaIdeal.τ).loc Cert.KernelNaIdeal.main_arg2)) (m ((c.tc : Thread Cert.KernelNaIdeal.nD Cert.KernelNaIdeal.τ).loc Cert.KernelNaIdeal.main_arg3))).2.2 = (fun _ => 1#1)

def Pre_ReferenceNaIdeal (m : (ℓ : Loc Cert.ReferenceNaIdeal.nD Cert.ReferenceNaIdeal.τ Cert.ReferenceNaIdeal.sig) → Buf (Elt Ideal) ℓ) : Prop :=
  True

def Pre_ReferenceNaIdeal_finite_na [hPre_finite_na : Cert.Pre_finite_na.Facts] (m : (ℓ : Loc Cert.ReferenceNaIdeal.nD Cert.ReferenceNaIdeal.τ Cert.ReferenceNaIdeal.sig) → Buf (Elt Ideal) ℓ) : Prop :=
  ∀ c : Dev Cert.ReferenceNaIdeal.nD,
    (Cert.Pre_finite_na.fn (F := Ideal) (m ((c.tc : Thread Cert.ReferenceNaIdeal.nD Cert.ReferenceNaIdeal.τ).loc Cert.ReferenceNaIdeal.main_arg0)) (m ((c.tc : Thread Cert.ReferenceNaIdeal.nD Cert.ReferenceNaIdeal.τ).loc Cert.ReferenceNaIdeal.main_arg1)) (m ((c.tc : Thread Cert.ReferenceNaIdeal.nD Cert.ReferenceNaIdeal.τ).loc Cert.ReferenceNaIdeal.main_arg2)) (m ((c.tc : Thread Cert.ReferenceNaIdeal.nD Cert.ReferenceNaIdeal.τ).loc Cert.ReferenceNaIdeal.main_arg3))).1 = (fun _ => 1#1)
    ∧ (Cert.Pre_finite_na.fn (F := Ideal) (m ((c.tc : Thread Cert.ReferenceNaIdeal.nD Cert.ReferenceNaIdeal.τ).loc Cert.ReferenceNaIdeal.main_arg0)) (m ((c.tc : Thread Cert.ReferenceNaIdeal.nD Cert.ReferenceNaIdeal.τ).loc Cert.ReferenceNaIdeal.main_arg1)) (m ((c.tc : Thread Cert.ReferenceNaIdeal.nD Cert.ReferenceNaIdeal.τ).loc Cert.ReferenceNaIdeal.main_arg2)) (m ((c.tc : Thread Cert.ReferenceNaIdeal.nD Cert.ReferenceNaIdeal.τ).loc Cert.ReferenceNaIdeal.main_arg3))).2.1 = (fun _ => 1#1)
    ∧ (Cert.Pre_finite_na.fn (F := Ideal) (m ((c.tc : Thread Cert.ReferenceNaIdeal.nD Cert.ReferenceNaIdeal.τ).loc Cert.ReferenceNaIdeal.main_arg0)) (m ((c.tc : Thread Cert.ReferenceNaIdeal.nD Cert.ReferenceNaIdeal.τ).loc Cert.ReferenceNaIdeal.main_arg1)) (m ((c.tc : Thread Cert.ReferenceNaIdeal.nD Cert.ReferenceNaIdeal.τ).loc Cert.ReferenceNaIdeal.main_arg2)) (m ((c.tc : Thread Cert.ReferenceNaIdeal.nD Cert.ReferenceNaIdeal.τ).loc Cert.ReferenceNaIdeal.main_arg3))).2.2 = (fun _ => 1#1)

def Pre_KernelMods (m : (ℓ : Loc Cert.KernelMods.nD Cert.KernelMods.τ Cert.KernelMods.sig) → Buf (Elt Bits) ℓ) : Prop :=
  True

def Pre_KernelModsIdeal (m : (ℓ : Loc Cert.KernelModsIdeal.nD Cert.KernelModsIdeal.τ Cert.KernelModsIdeal.sig) → Buf (Elt Ideal) ℓ) : Prop :=
  True

def Pre_ReferenceModsIdeal (m : (ℓ : Loc Cert.ReferenceModsIdeal.nD Cert.ReferenceModsIdeal.τ Cert.ReferenceModsIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2.2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2.2.2.2.2 = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2.2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2.2.2.2.2 = (fun _ => 1#1)

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelGluCtx (m : (ℓ : Loc Cert.KernelGluCtx.nD Cert.KernelGluCtx.τ Cert.KernelGluCtx.sig) → Buf (Elt Bits) ℓ) : Prop :=
  True

def Pre_KernelGluCtxIdeal (m : (ℓ : Loc Cert.KernelGluCtxIdeal.nD Cert.KernelGluCtxIdeal.τ Cert.KernelGluCtxIdeal.sig) → Buf (Elt Ideal) ℓ) : Prop :=
  True

def Pre_ReferenceGluCtxIdeal (m : (ℓ : Loc Cert.ReferenceGluCtxIdeal.nD Cert.ReferenceGluCtxIdeal.τ Cert.ReferenceGluCtxIdeal.sig) → Buf (Elt Ideal) ℓ) : Prop :=
  True

def Pre_KernelFt (m : (ℓ : Loc Cert.KernelFt.nD Cert.KernelFt.τ Cert.KernelFt.sig) → Buf (Elt Bits) ℓ) : Prop :=
  True

def Pre_KernelFtIdeal (m : (ℓ : Loc Cert.KernelFtIdeal.nD Cert.KernelFtIdeal.τ Cert.KernelFtIdeal.sig) → Buf (Elt Ideal) ℓ) : Prop :=
  True

def Pre_ReferenceFtIdeal (m : (ℓ : Loc Cert.ReferenceFtIdeal.nD Cert.ReferenceFtIdeal.τ Cert.ReferenceFtIdeal.sig) → Buf (Elt Ideal) ℓ) : Prop :=
  True

def Pre_KernelFtLat (m : (ℓ : Loc Cert.KernelFtLat.nD Cert.KernelFtLat.τ Cert.KernelFtLat.sig) → Buf (Elt Bits) ℓ) : Prop :=
  True

def Pre_KernelFtLatIdeal (m : (ℓ : Loc Cert.KernelFtLatIdeal.nD Cert.KernelFtLatIdeal.τ Cert.KernelFtLatIdeal.sig) → Buf (Elt Ideal) ℓ) : Prop :=
  True

def Pre_ReferenceFtLatIdeal (m : (ℓ : Loc Cert.ReferenceFtLatIdeal.nD Cert.ReferenceFtLatIdeal.τ Cert.ReferenceFtLatIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelNa [hKernelNa : Cert.KernelNa.Facts] : Prop :=
  ∀ (m : (ℓ : Loc Cert.KernelNa.nD Cert.KernelNa.τ Cert.KernelNa.sig) → Buf (Elt Bits) ℓ) (g : Dev Cert.KernelNa.nD → PrngReg), Pre_KernelNa m →
    θ_run (Cert.KernelNa.defs (F := Bits)) (onTc (τ := Cert.KernelNa.τ) (Cert.KernelNa.main (F := Bits))) ⟨m, fun _ => 0, g⟩ (fun r => (∀ c : Dev Cert.KernelNa.nD,
      r.2.mem ((c.tc : Thread Cert.KernelNa.nD Cert.KernelNa.τ).loc Cert.KernelNa.main_arg0) = m ((c.tc : Thread Cert.KernelNa.nD Cert.KernelNa.τ).loc Cert.KernelNa.main_arg0)
      ∧ r.2.mem ((c.tc : Thread Cert.KernelNa.nD Cert.KernelNa.τ).loc Cert.KernelNa.main_arg1) = m ((c.tc : Thread Cert.KernelNa.nD Cert.KernelNa.τ).loc Cert.KernelNa.main_arg1)
      ∧ r.2.mem ((c.tc : Thread Cert.KernelNa.nD Cert.KernelNa.τ).loc Cert.KernelNa.main_arg2) = m ((c.tc : Thread Cert.KernelNa.nD Cert.KernelNa.τ).loc Cert.KernelNa.main_arg2)
      ∧ r.2.mem ((c.tc : Thread Cert.KernelNa.nD Cert.KernelNa.τ).loc Cert.KernelNa.main_arg3) = m ((c.tc : Thread Cert.KernelNa.nD Cert.KernelNa.τ).loc Cert.KernelNa.main_arg3))
      ∧ r.2.sem = fun _ => 0)

def quiescent_KernelNaIdeal [hKernelNaIdeal : Cert.KernelNaIdeal.Facts] : Prop :=
  ∀ (m : (ℓ : Loc Cert.KernelNaIdeal.nD Cert.KernelNaIdeal.τ Cert.KernelNaIdeal.sig) → Buf (Elt Ideal) ℓ) (g : Dev Cert.KernelNaIdeal.nD → PrngReg), Pre_KernelNaIdeal m →
    θ_run (Cert.KernelNaIdeal.defs (F := Ideal)) (onTc (τ := Cert.KernelNaIdeal.τ) (Cert.KernelNaIdeal.main (F := Ideal))) ⟨m, fun _ => 0, g⟩ (fun r => (∀ c : Dev Cert.KernelNaIdeal.nD,
      r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
      ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1)
      ∧ r.2.mem ((c.tc : Thread Cert.KernelNaIdeal.nD Cert.KernelNaIdeal.τ).loc Cert.KernelNaIdeal.main_arg2) = m ((c.tc : Thread Cert.KernelNaIdeal.nD Cert.KernelNaIdeal.τ).loc Cert.KernelNaIdeal.main_arg2)
      ∧ r.2.mem ((c.tc : Thread Cert.KernelNaIdeal.nD Cert.KernelNaIdeal.τ).loc Cert.KernelNaIdeal.main_arg3) = m ((c.tc : Thread Cert.KernelNaIdeal.nD Cert.KernelNaIdeal.τ).loc Cert.KernelNaIdeal.main_arg3))
      ∧ r.2.sem = fun _ => 0)

def quiescent_KernelNaIdeal_pre_finite_na [hKernelNaIdeal : Cert.KernelNaIdeal.Facts] [hPre_finite_na : Cert.Pre_finite_na.Facts] : Prop :=
  ∀ (m : (ℓ : Loc Cert.KernelNaIdeal.nD Cert.KernelNaIdeal.τ Cert.KernelNaIdeal.sig) → Buf (Elt Ideal) ℓ) (g : Dev Cert.KernelNaIdeal.nD → PrngReg), Pre_KernelNaIdeal_finite_na m →
    θ_run (Cert.KernelNaIdeal.defs (F := Ideal)) (onTc (τ := Cert.KernelNaIdeal.τ) (Cert.KernelNaIdeal.main (F := Ideal))) ⟨m, fun _ => 0, g⟩ (fun r => (∀ c : Dev Cert.KernelNaIdeal.nD,
      r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
      ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1)
      ∧ r.2.mem ((c.tc : Thread Cert.KernelNaIdeal.nD Cert.KernelNaIdeal.τ).loc Cert.KernelNaIdeal.main_arg2) = m ((c.tc : Thread Cert.KernelNaIdeal.nD Cert.KernelNaIdeal.τ).loc Cert.KernelNaIdeal.main_arg2)
      ∧ r.2.mem ((c.tc : Thread Cert.KernelNaIdeal.nD Cert.KernelNaIdeal.τ).loc Cert.KernelNaIdeal.main_arg3) = m ((c.tc : Thread Cert.KernelNaIdeal.nD Cert.KernelNaIdeal.τ).loc Cert.KernelNaIdeal.main_arg3))
      ∧ r.2.sem = fun _ => 0)

def quiescent_ReferenceNaIdeal [hReferenceNaIdeal : Cert.ReferenceNaIdeal.Facts] : Prop :=
  ∀ (m : (ℓ : Loc Cert.ReferenceNaIdeal.nD Cert.ReferenceNaIdeal.τ Cert.ReferenceNaIdeal.sig) → Buf (Elt Ideal) ℓ) (g : Dev Cert.ReferenceNaIdeal.nD → PrngReg), Pre_ReferenceNaIdeal m →
    θ_run (Cert.ReferenceNaIdeal.defs (F := Ideal)) (onTc (τ := Cert.ReferenceNaIdeal.τ) (Cert.ReferenceNaIdeal.main (F := Ideal))) ⟨m, fun _ => 0, g⟩ (fun r => (∀ c : Dev Cert.ReferenceNaIdeal.nD,
      r.2.mem ((c.tc : Thread Cert.ReferenceNaIdeal.nD Cert.ReferenceNaIdeal.τ).loc Cert.ReferenceNaIdeal.main_arg0) = m ((c.tc : Thread Cert.ReferenceNaIdeal.nD Cert.ReferenceNaIdeal.τ).loc Cert.ReferenceNaIdeal.main_arg0)
      ∧ r.2.mem ((c.tc : Thread Cert.ReferenceNaIdeal.nD Cert.ReferenceNaIdeal.τ).loc Cert.ReferenceNaIdeal.main_arg1) = m ((c.tc : Thread Cert.ReferenceNaIdeal.nD Cert.ReferenceNaIdeal.τ).loc Cert.ReferenceNaIdeal.main_arg1)
      ∧ r.2.mem ((c.tc : Thread Cert.ReferenceNaIdeal.nD Cert.ReferenceNaIdeal.τ).loc Cert.ReferenceNaIdeal.main_arg2) = m ((c.tc : Thread Cert.ReferenceNaIdeal.nD Cert.ReferenceNaIdeal.τ).loc Cert.ReferenceNaIdeal.main_arg2)
      ∧ r.2.mem ((c.tc : Thread Cert.ReferenceNaIdeal.nD Cert.ReferenceNaIdeal.τ).loc Cert.ReferenceNaIdeal.main_arg3) = m ((c.tc : Thread Cert.ReferenceNaIdeal.nD Cert.ReferenceNaIdeal.τ).loc Cert.ReferenceNaIdeal.main_arg3))
      ∧ r.2.sem = fun _ => 0)

def quiescent_ReferenceNaIdeal_pre_finite_na [hReferenceNaIdeal : Cert.ReferenceNaIdeal.Facts] [hPre_finite_na : Cert.Pre_finite_na.Facts] : Prop :=
  ∀ (m : (ℓ : Loc Cert.ReferenceNaIdeal.nD Cert.ReferenceNaIdeal.τ Cert.ReferenceNaIdeal.sig) → Buf (Elt Ideal) ℓ) (g : Dev Cert.ReferenceNaIdeal.nD → PrngReg), Pre_ReferenceNaIdeal_finite_na m →
    θ_run (Cert.ReferenceNaIdeal.defs (F := Ideal)) (onTc (τ := Cert.ReferenceNaIdeal.τ) (Cert.ReferenceNaIdeal.main (F := Ideal))) ⟨m, fun _ => 0, g⟩ (fun r => (∀ c : Dev Cert.ReferenceNaIdeal.nD,
      r.2.mem ((c.tc : Thread Cert.ReferenceNaIdeal.nD Cert.ReferenceNaIdeal.τ).loc Cert.ReferenceNaIdeal.main_arg0) = m ((c.tc : Thread Cert.ReferenceNaIdeal.nD Cert.ReferenceNaIdeal.τ).loc Cert.ReferenceNaIdeal.main_arg0)
      ∧ r.2.mem ((c.tc : Thread Cert.ReferenceNaIdeal.nD Cert.ReferenceNaIdeal.τ).loc Cert.ReferenceNaIdeal.main_arg1) = m ((c.tc : Thread Cert.ReferenceNaIdeal.nD Cert.ReferenceNaIdeal.τ).loc Cert.ReferenceNaIdeal.main_arg1)
      ∧ r.2.mem ((c.tc : Thread Cert.ReferenceNaIdeal.nD Cert.ReferenceNaIdeal.τ).loc Cert.ReferenceNaIdeal.main_arg2) = m ((c.tc : Thread Cert.ReferenceNaIdeal.nD Cert.ReferenceNaIdeal.τ).loc Cert.ReferenceNaIdeal.main_arg2)
      ∧ r.2.mem ((c.tc : Thread Cert.ReferenceNaIdeal.nD Cert.ReferenceNaIdeal.τ).loc Cert.ReferenceNaIdeal.main_arg3) = m ((c.tc : Thread Cert.ReferenceNaIdeal.nD Cert.ReferenceNaIdeal.τ).loc Cert.ReferenceNaIdeal.main_arg3))
      ∧ r.2.sem = fun _ => 0)

def quiescent_KernelMods [hKernelMods : Cert.KernelMods.Facts] : Prop :=
  ∀ (m : (ℓ : Loc Cert.KernelMods.nD Cert.KernelMods.τ Cert.KernelMods.sig) → Buf (Elt Bits) ℓ) (g : Dev Cert.KernelMods.nD → PrngReg), Pre_KernelMods m →
    θ_run (Cert.KernelMods.defs (F := Bits)) (onTc (τ := Cert.KernelMods.τ) (Cert.KernelMods.main (F := Bits))) ⟨m, fun _ => 0, g⟩ (fun r => (∀ c : Dev Cert.KernelMods.nD,
      r.2.mem ((c.tc : Thread Cert.KernelMods.nD Cert.KernelMods.τ).loc Cert.KernelMods.main_arg0) = m ((c.tc : Thread Cert.KernelMods.nD Cert.KernelMods.τ).loc Cert.KernelMods.main_arg0)
      ∧ r.2.mem ((c.tc : Thread Cert.KernelMods.nD Cert.KernelMods.τ).loc Cert.KernelMods.main_arg1) = m ((c.tc : Thread Cert.KernelMods.nD Cert.KernelMods.τ).loc Cert.KernelMods.main_arg1))
      ∧ r.2.sem = fun _ => 0)

def quiescent_KernelModsIdeal [hKernelModsIdeal : Cert.KernelModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg), Pre_KernelModsIdeal m →
    θ_run (Cert.KernelModsIdeal.defs (F := Ideal)) (onTc (τ := Cert.KernelModsIdeal.τ) (Cert.KernelModsIdeal.main (F := Ideal))) ⟨m, fun _ => 0, g⟩ (fun r => (∀ c : Dev Cert.KernelModsIdeal.nD,
      r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
      ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1))
      ∧ r.2.sem = fun _ => 0)

def quiescent_ReferenceModsIdeal [hReferenceModsIdeal : Cert.ReferenceModsIdeal.Facts] : Prop :=
  ∀ (m : (ℓ : Loc Cert.ReferenceModsIdeal.nD Cert.ReferenceModsIdeal.τ Cert.ReferenceModsIdeal.sig) → Buf (Elt Ideal) ℓ) (g : Dev Cert.ReferenceModsIdeal.nD → PrngReg), Pre_ReferenceModsIdeal m →
    θ_run (Cert.ReferenceModsIdeal.defs (F := Ideal)) (onTc (τ := Cert.ReferenceModsIdeal.τ) (Cert.ReferenceModsIdeal.main (F := Ideal))) ⟨m, fun _ => 0, g⟩ (fun r => (∀ c : Dev Cert.ReferenceModsIdeal.nD,
      r.2.mem ((c.tc : Thread Cert.ReferenceModsIdeal.nD Cert.ReferenceModsIdeal.τ).loc Cert.ReferenceModsIdeal.main_arg0) = m ((c.tc : Thread Cert.ReferenceModsIdeal.nD Cert.ReferenceModsIdeal.τ).loc Cert.ReferenceModsIdeal.main_arg0)
      ∧ r.2.mem ((c.tc : Thread Cert.ReferenceModsIdeal.nD Cert.ReferenceModsIdeal.τ).loc Cert.ReferenceModsIdeal.main_arg1) = m ((c.tc : Thread Cert.ReferenceModsIdeal.nD Cert.ReferenceModsIdeal.τ).loc Cert.ReferenceModsIdeal.main_arg1))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3)
      ∧ r.2.mem ((c.tc : Thread Cert.KernelGlu.nD Cert.KernelGlu.τ).loc Cert.KernelGlu.main_arg4) = m ((c.tc : Thread Cert.KernelGlu.nD Cert.KernelGlu.τ).loc Cert.KernelGlu.main_arg4))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_KernelGluCtx [hKernelGluCtx : Cert.KernelGluCtx.Facts] : Prop :=
  ∀ (m : (ℓ : Loc Cert.KernelGluCtx.nD Cert.KernelGluCtx.τ Cert.KernelGluCtx.sig) → Buf (Elt Bits) ℓ) (g : Dev Cert.KernelGluCtx.nD → PrngReg), Pre_KernelGluCtx m →
    θ_run (Cert.KernelGluCtx.defs (F := Bits)) (onTc (τ := Cert.KernelGluCtx.τ) (Cert.KernelGluCtx.main (F := Bits))) ⟨m, fun _ => 0, g⟩ (fun r => (∀ c : Dev Cert.KernelGluCtx.nD,
      r.2.mem ((c.tc : Thread Cert.KernelGluCtx.nD Cert.KernelGluCtx.τ).loc Cert.KernelGluCtx.main_arg0) = m ((c.tc : Thread Cert.KernelGluCtx.nD Cert.KernelGluCtx.τ).loc Cert.KernelGluCtx.main_arg0)
      ∧ r.2.mem ((c.tc : Thread Cert.KernelGluCtx.nD Cert.KernelGluCtx.τ).loc Cert.KernelGluCtx.main_arg1) = m ((c.tc : Thread Cert.KernelGluCtx.nD Cert.KernelGluCtx.τ).loc Cert.KernelGluCtx.main_arg1)
      ∧ r.2.mem ((c.tc : Thread Cert.KernelGluCtx.nD Cert.KernelGluCtx.τ).loc Cert.KernelGluCtx.main_arg2) = m ((c.tc : Thread Cert.KernelGluCtx.nD Cert.KernelGluCtx.τ).loc Cert.KernelGluCtx.main_arg2)
      ∧ r.2.mem ((c.tc : Thread Cert.KernelGluCtx.nD Cert.KernelGluCtx.τ).loc Cert.KernelGluCtx.main_arg3) = m ((c.tc : Thread Cert.KernelGluCtx.nD Cert.KernelGluCtx.τ).loc Cert.KernelGluCtx.main_arg3)
      ∧ r.2.mem ((c.tc : Thread Cert.KernelGluCtx.nD Cert.KernelGluCtx.τ).loc Cert.KernelGluCtx.main_arg4) = m ((c.tc : Thread Cert.KernelGluCtx.nD Cert.KernelGluCtx.τ).loc Cert.KernelGluCtx.main_arg4))
      ∧ r.2.sem = fun _ => 0)

def quiescent_KernelGluCtxIdeal [hKernelGluCtxIdeal : Cert.KernelGluCtxIdeal.Facts] : Prop :=
  ∀ (m : (ℓ : Loc Cert.KernelGluCtxIdeal.nD Cert.KernelGluCtxIdeal.τ Cert.KernelGluCtxIdeal.sig) → Buf (Elt Ideal) ℓ) (g : Dev Cert.KernelGluCtxIdeal.nD → PrngReg), Pre_KernelGluCtxIdeal m →
    θ_run (Cert.KernelGluCtxIdeal.defs (F := Ideal)) (onTc (τ := Cert.KernelGluCtxIdeal.τ) (Cert.KernelGluCtxIdeal.main (F := Ideal))) ⟨m, fun _ => 0, g⟩ (fun r => (∀ c : Dev Cert.KernelGluCtxIdeal.nD,
      r.2.mem ((c.tc : Thread Cert.KernelGluCtxIdeal.nD Cert.KernelGluCtxIdeal.τ).loc Cert.KernelGluCtxIdeal.main_arg0) = m ((c.tc : Thread Cert.KernelGluCtxIdeal.nD Cert.KernelGluCtxIdeal.τ).loc Cert.KernelGluCtxIdeal.main_arg0)
      ∧ r.2.mem ((c.tc : Thread Cert.KernelGluCtxIdeal.nD Cert.KernelGluCtxIdeal.τ).loc Cert.KernelGluCtxIdeal.main_arg1) = m ((c.tc : Thread Cert.KernelGluCtxIdeal.nD Cert.KernelGluCtxIdeal.τ).loc Cert.KernelGluCtxIdeal.main_arg1)
      ∧ r.2.mem ((c.tc : Thread Cert.KernelGluCtxIdeal.nD Cert.KernelGluCtxIdeal.τ).loc Cert.KernelGluCtxIdeal.main_arg2) = m ((c.tc : Thread Cert.KernelGluCtxIdeal.nD Cert.KernelGluCtxIdeal.τ).loc Cert.KernelGluCtxIdeal.main_arg2)
      ∧ r.2.mem ((c.tc : Thread Cert.KernelGluCtxIdeal.nD Cert.KernelGluCtxIdeal.τ).loc Cert.KernelGluCtxIdeal.main_arg3) = m ((c.tc : Thread Cert.KernelGluCtxIdeal.nD Cert.KernelGluCtxIdeal.τ).loc Cert.KernelGluCtxIdeal.main_arg3)
      ∧ r.2.mem ((c.tc : Thread Cert.KernelGluCtxIdeal.nD Cert.KernelGluCtxIdeal.τ).loc Cert.KernelGluCtxIdeal.main_arg4) = m ((c.tc : Thread Cert.KernelGluCtxIdeal.nD Cert.KernelGluCtxIdeal.τ).loc Cert.KernelGluCtxIdeal.main_arg4))
      ∧ r.2.sem = fun _ => 0)

def quiescent_ReferenceGluCtxIdeal [hReferenceGluCtxIdeal : Cert.ReferenceGluCtxIdeal.Facts] : Prop :=
  ∀ (m : (ℓ : Loc Cert.ReferenceGluCtxIdeal.nD Cert.ReferenceGluCtxIdeal.τ Cert.ReferenceGluCtxIdeal.sig) → Buf (Elt Ideal) ℓ) (g : Dev Cert.ReferenceGluCtxIdeal.nD → PrngReg), Pre_ReferenceGluCtxIdeal m →
    θ_run (Cert.ReferenceGluCtxIdeal.defs (F := Ideal)) (onTc (τ := Cert.ReferenceGluCtxIdeal.τ) (Cert.ReferenceGluCtxIdeal.main (F := Ideal))) ⟨m, fun _ => 0, g⟩ (fun r => (∀ c : Dev Cert.ReferenceGluCtxIdeal.nD,
      r.2.mem ((c.tc : Thread Cert.ReferenceGluCtxIdeal.nD Cert.ReferenceGluCtxIdeal.τ).loc Cert.ReferenceGluCtxIdeal.main_arg0) = m ((c.tc : Thread Cert.ReferenceGluCtxIdeal.nD Cert.ReferenceGluCtxIdeal.τ).loc Cert.ReferenceGluCtxIdeal.main_arg0)
      ∧ r.2.mem ((c.tc : Thread Cert.ReferenceGluCtxIdeal.nD Cert.ReferenceGluCtxIdeal.τ).loc Cert.ReferenceGluCtxIdeal.main_arg1) = m ((c.tc : Thread Cert.ReferenceGluCtxIdeal.nD Cert.ReferenceGluCtxIdeal.τ).loc Cert.ReferenceGluCtxIdeal.main_arg1)
      ∧ r.2.mem ((c.tc : Thread Cert.ReferenceGluCtxIdeal.nD Cert.ReferenceGluCtxIdeal.τ).loc Cert.ReferenceGluCtxIdeal.main_arg2) = m ((c.tc : Thread Cert.ReferenceGluCtxIdeal.nD Cert.ReferenceGluCtxIdeal.τ).loc Cert.ReferenceGluCtxIdeal.main_arg2)
      ∧ r.2.mem ((c.tc : Thread Cert.ReferenceGluCtxIdeal.nD Cert.ReferenceGluCtxIdeal.τ).loc Cert.ReferenceGluCtxIdeal.main_arg3) = m ((c.tc : Thread Cert.ReferenceGluCtxIdeal.nD Cert.ReferenceGluCtxIdeal.τ).loc Cert.ReferenceGluCtxIdeal.main_arg3)
      ∧ r.2.mem ((c.tc : Thread Cert.ReferenceGluCtxIdeal.nD Cert.ReferenceGluCtxIdeal.τ).loc Cert.ReferenceGluCtxIdeal.main_arg4) = m ((c.tc : Thread Cert.ReferenceGluCtxIdeal.nD Cert.ReferenceGluCtxIdeal.τ).loc Cert.ReferenceGluCtxIdeal.main_arg4))
      ∧ r.2.sem = fun _ => 0)

def quiescent_KernelFt [hKernelFt : Cert.KernelFt.Facts] : Prop :=
  ∀ (m : (ℓ : Loc Cert.KernelFt.nD Cert.KernelFt.τ Cert.KernelFt.sig) → Buf (Elt Bits) ℓ) (g : Dev Cert.KernelFt.nD → PrngReg), Pre_KernelFt m →
    θ_run (Cert.KernelFt.defs (F := Bits)) (onTc (τ := Cert.KernelFt.τ) (Cert.KernelFt.main (F := Bits))) ⟨m, fun _ => 0, g⟩ (fun r => (∀ c : Dev Cert.KernelFt.nD,
      r.2.mem ((c.tc : Thread Cert.KernelFt.nD Cert.KernelFt.τ).loc Cert.KernelFt.main_arg0) = m ((c.tc : Thread Cert.KernelFt.nD Cert.KernelFt.τ).loc Cert.KernelFt.main_arg0)
      ∧ r.2.mem ((c.tc : Thread Cert.KernelFt.nD Cert.KernelFt.τ).loc Cert.KernelFt.main_arg1) = m ((c.tc : Thread Cert.KernelFt.nD Cert.KernelFt.τ).loc Cert.KernelFt.main_arg1))
      ∧ r.2.sem = fun _ => 0)

def quiescent_KernelFtIdeal [hKernelFtIdeal : Cert.KernelFtIdeal.Facts] : Prop :=
  ∀ (m : (ℓ : Loc Cert.KernelFtIdeal.nD Cert.KernelFtIdeal.τ Cert.KernelFtIdeal.sig) → Buf (Elt Ideal) ℓ) (g : Dev Cert.KernelFtIdeal.nD → PrngReg), Pre_KernelFtIdeal m →
    θ_run (Cert.KernelFtIdeal.defs (F := Ideal)) (onTc (τ := Cert.KernelFtIdeal.τ) (Cert.KernelFtIdeal.main (F := Ideal))) ⟨m, fun _ => 0, g⟩ (fun r => (∀ c : Dev Cert.KernelFtIdeal.nD,
      r.2.mem ((c.tc : Thread Cert.KernelFtIdeal.nD Cert.KernelFtIdeal.τ).loc Cert.KernelFtIdeal.main_arg0) = m ((c.tc : Thread Cert.KernelFtIdeal.nD Cert.KernelFtIdeal.τ).loc Cert.KernelFtIdeal.main_arg0)
      ∧ r.2.mem ((c.tc : Thread Cert.KernelFtIdeal.nD Cert.KernelFtIdeal.τ).loc Cert.KernelFtIdeal.main_arg1) = m ((c.tc : Thread Cert.KernelFtIdeal.nD Cert.KernelFtIdeal.τ).loc Cert.KernelFtIdeal.main_arg1))
      ∧ r.2.sem = fun _ => 0)

def quiescent_ReferenceFtIdeal [hReferenceFtIdeal : Cert.ReferenceFtIdeal.Facts] : Prop :=
  ∀ (m : (ℓ : Loc Cert.ReferenceFtIdeal.nD Cert.ReferenceFtIdeal.τ Cert.ReferenceFtIdeal.sig) → Buf (Elt Ideal) ℓ) (g : Dev Cert.ReferenceFtIdeal.nD → PrngReg), Pre_ReferenceFtIdeal m →
    θ_run (Cert.ReferenceFtIdeal.defs (F := Ideal)) (onTc (τ := Cert.ReferenceFtIdeal.τ) (Cert.ReferenceFtIdeal.main (F := Ideal))) ⟨m, fun _ => 0, g⟩ (fun r => (∀ c : Dev Cert.ReferenceFtIdeal.nD,
      r.2.mem ((c.tc : Thread Cert.ReferenceFtIdeal.nD Cert.ReferenceFtIdeal.τ).loc Cert.ReferenceFtIdeal.main_arg0) = m ((c.tc : Thread Cert.ReferenceFtIdeal.nD Cert.ReferenceFtIdeal.τ).loc Cert.ReferenceFtIdeal.main_arg0)
      ∧ r.2.mem ((c.tc : Thread Cert.ReferenceFtIdeal.nD Cert.ReferenceFtIdeal.τ).loc Cert.ReferenceFtIdeal.main_arg1) = m ((c.tc : Thread Cert.ReferenceFtIdeal.nD Cert.ReferenceFtIdeal.τ).loc Cert.ReferenceFtIdeal.main_arg1))
      ∧ r.2.sem = fun _ => 0)

def quiescent_KernelFtLat [hKernelFtLat : Cert.KernelFtLat.Facts] : Prop :=
  ∀ (m : (ℓ : Loc Cert.KernelFtLat.nD Cert.KernelFtLat.τ Cert.KernelFtLat.sig) → Buf (Elt Bits) ℓ) (g : Dev Cert.KernelFtLat.nD → PrngReg), Pre_KernelFtLat m →
    θ_run (Cert.KernelFtLat.defs (F := Bits)) (onTc (τ := Cert.KernelFtLat.τ) (Cert.KernelFtLat.main (F := Bits))) ⟨m, fun _ => 0, g⟩ (fun r => (∀ c : Dev Cert.KernelFtLat.nD,
      r.2.mem ((c.tc : Thread Cert.KernelFtLat.nD Cert.KernelFtLat.τ).loc Cert.KernelFtLat.main_arg0) = m ((c.tc : Thread Cert.KernelFtLat.nD Cert.KernelFtLat.τ).loc Cert.KernelFtLat.main_arg0)
      ∧ r.2.mem ((c.tc : Thread Cert.KernelFtLat.nD Cert.KernelFtLat.τ).loc Cert.KernelFtLat.main_arg1) = m ((c.tc : Thread Cert.KernelFtLat.nD Cert.KernelFtLat.τ).loc Cert.KernelFtLat.main_arg1))
      ∧ r.2.sem = fun _ => 0)

def quiescent_KernelFtLatIdeal [hKernelFtLatIdeal : Cert.KernelFtLatIdeal.Facts] : Prop :=
  ∀ (m : (ℓ : Loc Cert.KernelFtLatIdeal.nD Cert.KernelFtLatIdeal.τ Cert.KernelFtLatIdeal.sig) → Buf (Elt Ideal) ℓ) (g : Dev Cert.KernelFtLatIdeal.nD → PrngReg), Pre_KernelFtLatIdeal m →
    θ_run (Cert.KernelFtLatIdeal.defs (F := Ideal)) (onTc (τ := Cert.KernelFtLatIdeal.τ) (Cert.KernelFtLatIdeal.main (F := Ideal))) ⟨m, fun _ => 0, g⟩ (fun r => (∀ c : Dev Cert.KernelFtLatIdeal.nD,
      r.2.mem ((c.tc : Thread Cert.KernelFtLatIdeal.nD Cert.KernelFtLatIdeal.τ).loc Cert.KernelFtLatIdeal.main_arg0) = m ((c.tc : Thread Cert.KernelFtLatIdeal.nD Cert.KernelFtLatIdeal.τ).loc Cert.KernelFtLatIdeal.main_arg0)
      ∧ r.2.mem ((c.tc : Thread Cert.KernelFtLatIdeal.nD Cert.KernelFtLatIdeal.τ).loc Cert.KernelFtLatIdeal.main_arg1) = m ((c.tc : Thread Cert.KernelFtLatIdeal.nD Cert.KernelFtLatIdeal.τ).loc Cert.KernelFtLatIdeal.main_arg1))
      ∧ r.2.sem = fun _ => 0)

def quiescent_ReferenceFtLatIdeal [hReferenceFtLatIdeal : Cert.ReferenceFtLatIdeal.Facts] : Prop :=
  ∀ (m : (ℓ : Loc Cert.ReferenceFtLatIdeal.nD Cert.ReferenceFtLatIdeal.τ Cert.ReferenceFtLatIdeal.sig) → Buf (Elt Ideal) ℓ) (g : Dev Cert.ReferenceFtLatIdeal.nD → PrngReg), Pre_ReferenceFtLatIdeal m →
    θ_run (Cert.ReferenceFtLatIdeal.defs (F := Ideal)) (onTc (τ := Cert.ReferenceFtLatIdeal.τ) (Cert.ReferenceFtLatIdeal.main (F := Ideal))) ⟨m, fun _ => 0, g⟩ (fun r => (∀ c : Dev Cert.ReferenceFtLatIdeal.nD,
      r.2.mem ((c.tc : Thread Cert.ReferenceFtLatIdeal.nD Cert.ReferenceFtLatIdeal.τ).loc Cert.ReferenceFtLatIdeal.main_arg0) = m ((c.tc : Thread Cert.ReferenceFtLatIdeal.nD Cert.ReferenceFtLatIdeal.τ).loc Cert.ReferenceFtLatIdeal.main_arg0)
      ∧ r.2.mem ((c.tc : Thread Cert.ReferenceFtLatIdeal.nD Cert.ReferenceFtLatIdeal.τ).loc Cert.ReferenceFtLatIdeal.main_arg1) = m ((c.tc : Thread Cert.ReferenceFtLatIdeal.nD Cert.ReferenceFtLatIdeal.τ).loc Cert.ReferenceFtLatIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelNa_KernelNaIdeal : Prop :=
  True

def algebraic_KernelNaIdeal_ReferenceNaIdeal_pre_finite_na [hKernelNaIdeal : Cert.KernelNaIdeal.Facts] [hReferenceNaIdeal : Cert.ReferenceNaIdeal.Facts] [hPre_finite_na : Cert.Pre_finite_na.Facts] : Prop :=
  ∀ (m : (ℓ : Loc Cert.KernelNaIdeal.nD Cert.KernelNaIdeal.τ Cert.KernelNaIdeal.sig) → Buf (Elt Ideal) ℓ) (g : Dev Cert.KernelNaIdeal.nD → PrngReg)
    (m' : (ℓ : Loc Cert.ReferenceNaIdeal.nD Cert.ReferenceNaIdeal.τ Cert.ReferenceNaIdeal.sig) → Buf (Elt Ideal) ℓ) (g' : Dev Cert.ReferenceNaIdeal.nD → PrngReg), Pre_KernelNaIdeal_finite_na m →
    (∀ c : Dev Cert.KernelNaIdeal.nD,
      m' ((c.tc : Thread Cert.ReferenceNaIdeal.nD Cert.ReferenceNaIdeal.τ).loc Cert.ReferenceNaIdeal.main_arg0) = m ((c.tc : Thread Cert.KernelNaIdeal.nD Cert.KernelNaIdeal.τ).loc Cert.KernelNaIdeal.main_arg0)
      ∧ m' ((c.tc : Thread Cert.ReferenceNaIdeal.nD Cert.ReferenceNaIdeal.τ).loc Cert.ReferenceNaIdeal.main_arg1) = m ((c.tc : Thread Cert.KernelNaIdeal.nD Cert.KernelNaIdeal.τ).loc Cert.KernelNaIdeal.main_arg1)
      ∧ m' ((c.tc : Thread Cert.ReferenceNaIdeal.nD Cert.ReferenceNaIdeal.τ).loc Cert.ReferenceNaIdeal.main_arg2) = m ((c.tc : Thread Cert.KernelNaIdeal.nD Cert.KernelNaIdeal.τ).loc Cert.KernelNaIdeal.main_arg2)
      ∧ m' ((c.tc : Thread Cert.ReferenceNaIdeal.nD Cert.ReferenceNaIdeal.τ).loc Cert.ReferenceNaIdeal.main_arg3) = m ((c.tc : Thread Cert.KernelNaIdeal.nD Cert.KernelNaIdeal.τ).loc Cert.KernelNaIdeal.main_arg3)) →
    ∃ (v0 : (c : Dev Cert.KernelNaIdeal.nD) → Buf (Elt Ideal) ((c.tc : Thread Cert.KernelNaIdeal.nD Cert.KernelNaIdeal.τ).loc Cert.KernelNaIdeal.main_v56)),
      θ_run (Cert.KernelNaIdeal.defs (F := Ideal)) (onTc (τ := Cert.KernelNaIdeal.τ) (Cert.KernelNaIdeal.main (F := Ideal))) ⟨m, fun _ => 0, g⟩ (fun r => ∀ c : Dev Cert.KernelNaIdeal.nD,
          r.2.mem ((c.tc : Thread Cert.KernelNaIdeal.nD Cert.KernelNaIdeal.τ).loc Cert.KernelNaIdeal.main_v56) = v0 c
          ∧ r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
          ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1)
          ∧ r.2.mem ((c.tc : Thread Cert.KernelNaIdeal.nD Cert.KernelNaIdeal.τ).loc Cert.KernelNaIdeal.main_arg2) = m ((c.tc : Thread Cert.KernelNaIdeal.nD Cert.KernelNaIdeal.τ).loc Cert.KernelNaIdeal.main_arg2)
          ∧ r.2.mem ((c.tc : Thread Cert.KernelNaIdeal.nD Cert.KernelNaIdeal.τ).loc Cert.KernelNaIdeal.main_arg3) = m ((c.tc : Thread Cert.KernelNaIdeal.nD Cert.KernelNaIdeal.τ).loc Cert.KernelNaIdeal.main_arg3))
      ∧ θ_run (Cert.ReferenceNaIdeal.defs (F := Ideal)) (onTc (τ := Cert.ReferenceNaIdeal.τ) (Cert.ReferenceNaIdeal.main (F := Ideal))) ⟨m', fun _ => 0, g'⟩ (fun r => ∀ c : Dev Cert.ReferenceNaIdeal.nD,
          r.2.mem ((c.tc : Thread Cert.ReferenceNaIdeal.nD Cert.ReferenceNaIdeal.τ).loc Cert.ReferenceNaIdeal.main_v118) = v0 c
          ∧ r.2.mem ((c.tc : Thread Cert.ReferenceNaIdeal.nD Cert.ReferenceNaIdeal.τ).loc Cert.ReferenceNaIdeal.main_arg0) = m' ((c.tc : Thread Cert.ReferenceNaIdeal.nD Cert.ReferenceNaIdeal.τ).loc Cert.ReferenceNaIdeal.main_arg0)
          ∧ r.2.mem ((c.tc : Thread Cert.ReferenceNaIdeal.nD Cert.ReferenceNaIdeal.τ).loc Cert.ReferenceNaIdeal.main_arg1) = m' ((c.tc : Thread Cert.ReferenceNaIdeal.nD Cert.ReferenceNaIdeal.τ).loc Cert.ReferenceNaIdeal.main_arg1)
          ∧ r.2.mem ((c.tc : Thread Cert.ReferenceNaIdeal.nD Cert.ReferenceNaIdeal.τ).loc Cert.ReferenceNaIdeal.main_arg2) = m' ((c.tc : Thread Cert.ReferenceNaIdeal.nD Cert.ReferenceNaIdeal.τ).loc Cert.ReferenceNaIdeal.main_arg2)
          ∧ r.2.mem ((c.tc : Thread Cert.ReferenceNaIdeal.nD Cert.ReferenceNaIdeal.τ).loc Cert.ReferenceNaIdeal.main_arg3) = m' ((c.tc : Thread Cert.ReferenceNaIdeal.nD Cert.ReferenceNaIdeal.τ).loc Cert.ReferenceNaIdeal.main_arg3))

def preserves_KernelMods_KernelModsIdeal : Prop :=
  True

def algebraic_KernelModsIdeal_ReferenceModsIdeal [hKernelModsIdeal : Cert.KernelModsIdeal.Facts] [hReferenceModsIdeal : Cert.ReferenceModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg)
    (m' : (ℓ : Loc Cert.ReferenceModsIdeal.nD Cert.ReferenceModsIdeal.τ Cert.ReferenceModsIdeal.sig) → Buf (Elt Ideal) ℓ) (g' : Dev Cert.ReferenceModsIdeal.nD → PrngReg), Pre_KernelModsIdeal m →
    (∀ c : Dev Cert.KernelModsIdeal.nD,
      m' ((c.tc : Thread Cert.ReferenceModsIdeal.nD Cert.ReferenceModsIdeal.τ).loc Cert.ReferenceModsIdeal.main_arg0) = m ((c.tc : Thread Cert.KernelModsIdeal.nD Cert.KernelModsIdeal.τ).loc Cert.KernelModsIdeal.main_arg0)
      ∧ m' ((c.tc : Thread Cert.ReferenceModsIdeal.nD Cert.ReferenceModsIdeal.τ).loc Cert.ReferenceModsIdeal.main_arg1) = m ((c.tc : Thread Cert.KernelModsIdeal.nD Cert.KernelModsIdeal.τ).loc Cert.KernelModsIdeal.main_arg1)) →
    ∃ (v0 : (c : Dev Cert.KernelModsIdeal.nD) → Buf (Elt Ideal) ((c.tc : Thread Cert.KernelModsIdeal.nD Cert.KernelModsIdeal.τ).loc Cert.KernelModsIdeal.main_v2)),
      θ_run (Cert.KernelModsIdeal.defs (F := Ideal)) (onTc (τ := Cert.KernelModsIdeal.τ) (Cert.KernelModsIdeal.main (F := Ideal))) ⟨m, fun _ => 0, g⟩ (fun r => ∀ c : Dev Cert.KernelModsIdeal.nD,
          r.2.mem ((c.tc : Thread Cert.KernelModsIdeal.nD Cert.KernelModsIdeal.τ).loc Cert.KernelModsIdeal.main_v2) = v0 c
          ∧ r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
          ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1))
      ∧ θ_run (Cert.ReferenceModsIdeal.defs (F := Ideal)) (onTc (τ := Cert.ReferenceModsIdeal.τ) (Cert.ReferenceModsIdeal.main (F := Ideal))) ⟨m', fun _ => 0, g'⟩ (fun r => ∀ c : Dev Cert.ReferenceModsIdeal.nD,
          r.2.mem ((c.tc : Thread Cert.ReferenceModsIdeal.nD Cert.ReferenceModsIdeal.τ).loc Cert.ReferenceModsIdeal.main_v2) = v0 c
          ∧ r.2.mem ((c.tc : Thread Cert.ReferenceModsIdeal.nD Cert.ReferenceModsIdeal.τ).loc Cert.ReferenceModsIdeal.main_arg0) = m' ((c.tc : Thread Cert.ReferenceModsIdeal.nD Cert.ReferenceModsIdeal.τ).loc Cert.ReferenceModsIdeal.main_arg0)
          ∧ r.2.mem ((c.tc : Thread Cert.ReferenceModsIdeal.nD Cert.ReferenceModsIdeal.τ).loc Cert.ReferenceModsIdeal.main_arg1) = m' ((c.tc : Thread Cert.ReferenceModsIdeal.nD Cert.ReferenceModsIdeal.τ).loc Cert.ReferenceModsIdeal.main_arg1))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)) →
    ∃ (v0 : (c : Dev Cert.KernelLnIdeal.nD) → Buf (Elt Ideal) ((c.tc : Thread Cert.KernelLnIdeal.nD Cert.KernelLnIdeal.τ).loc Cert.KernelLnIdeal.main_v0)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v0) = v0 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v61) = v0 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v2_0)) (v1 : (c : Dev Cert.KernelMixIdeal.nD) → Buf (Elt Ideal) ((c.tc : Thread Cert.KernelMixIdeal.nD Cert.KernelMixIdeal.τ).loc Cert.KernelMixIdeal.main_v2_1)) (v2 : (c : Dev Cert.KernelMixIdeal.nD) → Buf (Elt Ideal) ((c.tc : Thread Cert.KernelMixIdeal.nD Cert.KernelMixIdeal.τ).loc Cert.KernelMixIdeal.main_v2_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2_0) = v0 c
          ∧ r.2.mem ((c.tc : Thread Cert.KernelMixIdeal.nD Cert.KernelMixIdeal.τ).loc Cert.KernelMixIdeal.main_v2_1) = v1 c
          ∧ r.2.mem ((c.tc : Thread Cert.KernelMixIdeal.nD Cert.KernelMixIdeal.τ).loc Cert.KernelMixIdeal.main_v2_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v125) = v0 c
          ∧ r.2.mem ((c.tc : Thread Cert.ReferenceMixIdeal.nD Cert.ReferenceMixIdeal.τ).loc Cert.ReferenceMixIdeal.main_v128) = v1 c
          ∧ r.2.mem ((c.tc : Thread Cert.ReferenceMixIdeal.nD Cert.ReferenceMixIdeal.τ).loc Cert.ReferenceMixIdeal.main_v129) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)
      ∧ m' ((c.tc : Thread Cert.ReferenceGluIdeal.nD Cert.ReferenceGluIdeal.τ).loc Cert.ReferenceGluIdeal.main_arg4) = m ((c.tc : Thread Cert.KernelGluIdeal.nD Cert.KernelGluIdeal.τ).loc Cert.KernelGluIdeal.main_arg4)) →
    ∃ (v0 : (c : Dev Cert.KernelGluIdeal.nD) → Buf (Elt Ideal) ((c.tc : Thread Cert.KernelGluIdeal.nD Cert.KernelGluIdeal.τ).loc Cert.KernelGluIdeal.main_v1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v1) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
          ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v28) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3)
          ∧ r.2.mem ((c.tc : Thread Cert.ReferenceGluIdeal.nD Cert.ReferenceGluIdeal.τ).loc Cert.ReferenceGluIdeal.main_arg4) = m' ((c.tc : Thread Cert.ReferenceGluIdeal.nD Cert.ReferenceGluIdeal.τ).loc Cert.ReferenceGluIdeal.main_arg4))

def preserves_KernelGluCtx_KernelGluCtxIdeal : Prop :=
  True

def algebraic_KernelGluCtxIdeal_ReferenceGluCtxIdeal [hKernelGluCtxIdeal : Cert.KernelGluCtxIdeal.Facts] [hReferenceGluCtxIdeal : Cert.ReferenceGluCtxIdeal.Facts] : Prop :=
  ∀ (m : (ℓ : Loc Cert.KernelGluCtxIdeal.nD Cert.KernelGluCtxIdeal.τ Cert.KernelGluCtxIdeal.sig) → Buf (Elt Ideal) ℓ) (g : Dev Cert.KernelGluCtxIdeal.nD → PrngReg)
    (m' : (ℓ : Loc Cert.ReferenceGluCtxIdeal.nD Cert.ReferenceGluCtxIdeal.τ Cert.ReferenceGluCtxIdeal.sig) → Buf (Elt Ideal) ℓ) (g' : Dev Cert.ReferenceGluCtxIdeal.nD → PrngReg), Pre_KernelGluCtxIdeal m →
    (∀ c : Dev Cert.KernelGluCtxIdeal.nD,
      m' ((c.tc : Thread Cert.ReferenceGluCtxIdeal.nD Cert.ReferenceGluCtxIdeal.τ).loc Cert.ReferenceGluCtxIdeal.main_arg0) = m ((c.tc : Thread Cert.KernelGluCtxIdeal.nD Cert.KernelGluCtxIdeal.τ).loc Cert.KernelGluCtxIdeal.main_arg0)
      ∧ m' ((c.tc : Thread Cert.ReferenceGluCtxIdeal.nD Cert.ReferenceGluCtxIdeal.τ).loc Cert.ReferenceGluCtxIdeal.main_arg1) = m ((c.tc : Thread Cert.KernelGluCtxIdeal.nD Cert.KernelGluCtxIdeal.τ).loc Cert.KernelGluCtxIdeal.main_arg1)
      ∧ m' ((c.tc : Thread Cert.ReferenceGluCtxIdeal.nD Cert.ReferenceGluCtxIdeal.τ).loc Cert.ReferenceGluCtxIdeal.main_arg2) = m ((c.tc : Thread Cert.KernelGluCtxIdeal.nD Cert.KernelGluCtxIdeal.τ).loc Cert.KernelGluCtxIdeal.main_arg2)
      ∧ m' ((c.tc : Thread Cert.ReferenceGluCtxIdeal.nD Cert.ReferenceGluCtxIdeal.τ).loc Cert.ReferenceGluCtxIdeal.main_arg3) = m ((c.tc : Thread Cert.KernelGluCtxIdeal.nD Cert.KernelGluCtxIdeal.τ).loc Cert.KernelGluCtxIdeal.main_arg3)
      ∧ m' ((c.tc : Thread Cert.ReferenceGluCtxIdeal.nD Cert.ReferenceGluCtxIdeal.τ).loc Cert.ReferenceGluCtxIdeal.main_arg4) = m ((c.tc : Thread Cert.KernelGluCtxIdeal.nD Cert.KernelGluCtxIdeal.τ).loc Cert.KernelGluCtxIdeal.main_arg4)) →
    ∃ (v0 : (c : Dev Cert.KernelGluCtxIdeal.nD) → Buf (Elt Ideal) ((c.tc : Thread Cert.KernelGluCtxIdeal.nD Cert.KernelGluCtxIdeal.τ).loc Cert.KernelGluCtxIdeal.main_v1)),
      θ_run (Cert.KernelGluCtxIdeal.defs (F := Ideal)) (onTc (τ := Cert.KernelGluCtxIdeal.τ) (Cert.KernelGluCtxIdeal.main (F := Ideal))) ⟨m, fun _ => 0, g⟩ (fun r => ∀ c : Dev Cert.KernelGluCtxIdeal.nD,
          r.2.mem ((c.tc : Thread Cert.KernelGluCtxIdeal.nD Cert.KernelGluCtxIdeal.τ).loc Cert.KernelGluCtxIdeal.main_v1) = v0 c
          ∧ r.2.mem ((c.tc : Thread Cert.KernelGluCtxIdeal.nD Cert.KernelGluCtxIdeal.τ).loc Cert.KernelGluCtxIdeal.main_arg0) = m ((c.tc : Thread Cert.KernelGluCtxIdeal.nD Cert.KernelGluCtxIdeal.τ).loc Cert.KernelGluCtxIdeal.main_arg0)
          ∧ r.2.mem ((c.tc : Thread Cert.KernelGluCtxIdeal.nD Cert.KernelGluCtxIdeal.τ).loc Cert.KernelGluCtxIdeal.main_arg1) = m ((c.tc : Thread Cert.KernelGluCtxIdeal.nD Cert.KernelGluCtxIdeal.τ).loc Cert.KernelGluCtxIdeal.main_arg1)
          ∧ r.2.mem ((c.tc : Thread Cert.KernelGluCtxIdeal.nD Cert.KernelGluCtxIdeal.τ).loc Cert.KernelGluCtxIdeal.main_arg2) = m ((c.tc : Thread Cert.KernelGluCtxIdeal.nD Cert.KernelGluCtxIdeal.τ).loc Cert.KernelGluCtxIdeal.main_arg2)
          ∧ r.2.mem ((c.tc : Thread Cert.KernelGluCtxIdeal.nD Cert.KernelGluCtxIdeal.τ).loc Cert.KernelGluCtxIdeal.main_arg3) = m ((c.tc : Thread Cert.KernelGluCtxIdeal.nD Cert.KernelGluCtxIdeal.τ).loc Cert.KernelGluCtxIdeal.main_arg3)
          ∧ r.2.mem ((c.tc : Thread Cert.KernelGluCtxIdeal.nD Cert.KernelGluCtxIdeal.τ).loc Cert.KernelGluCtxIdeal.main_arg4) = m ((c.tc : Thread Cert.KernelGluCtxIdeal.nD Cert.KernelGluCtxIdeal.τ).loc Cert.KernelGluCtxIdeal.main_arg4))
      ∧ θ_run (Cert.ReferenceGluCtxIdeal.defs (F := Ideal)) (onTc (τ := Cert.ReferenceGluCtxIdeal.τ) (Cert.ReferenceGluCtxIdeal.main (F := Ideal))) ⟨m', fun _ => 0, g'⟩ (fun r => ∀ c : Dev Cert.ReferenceGluCtxIdeal.nD,
          r.2.mem ((c.tc : Thread Cert.ReferenceGluCtxIdeal.nD Cert.ReferenceGluCtxIdeal.τ).loc Cert.ReferenceGluCtxIdeal.main_v28) = v0 c
          ∧ r.2.mem ((c.tc : Thread Cert.ReferenceGluCtxIdeal.nD Cert.ReferenceGluCtxIdeal.τ).loc Cert.ReferenceGluCtxIdeal.main_arg0) = m' ((c.tc : Thread Cert.ReferenceGluCtxIdeal.nD Cert.ReferenceGluCtxIdeal.τ).loc Cert.ReferenceGluCtxIdeal.main_arg0)
          ∧ r.2.mem ((c.tc : Thread Cert.ReferenceGluCtxIdeal.nD Cert.ReferenceGluCtxIdeal.τ).loc Cert.ReferenceGluCtxIdeal.main_arg1) = m' ((c.tc : Thread Cert.ReferenceGluCtxIdeal.nD Cert.ReferenceGluCtxIdeal.τ).loc Cert.ReferenceGluCtxIdeal.main_arg1)
          ∧ r.2.mem ((c.tc : Thread Cert.ReferenceGluCtxIdeal.nD Cert.ReferenceGluCtxIdeal.τ).loc Cert.ReferenceGluCtxIdeal.main_arg2) = m' ((c.tc : Thread Cert.ReferenceGluCtxIdeal.nD Cert.ReferenceGluCtxIdeal.τ).loc Cert.ReferenceGluCtxIdeal.main_arg2)
          ∧ r.2.mem ((c.tc : Thread Cert.ReferenceGluCtxIdeal.nD Cert.ReferenceGluCtxIdeal.τ).loc Cert.ReferenceGluCtxIdeal.main_arg3) = m' ((c.tc : Thread Cert.ReferenceGluCtxIdeal.nD Cert.ReferenceGluCtxIdeal.τ).loc Cert.ReferenceGluCtxIdeal.main_arg3)
          ∧ r.2.mem ((c.tc : Thread Cert.ReferenceGluCtxIdeal.nD Cert.ReferenceGluCtxIdeal.τ).loc Cert.ReferenceGluCtxIdeal.main_arg4) = m' ((c.tc : Thread Cert.ReferenceGluCtxIdeal.nD Cert.ReferenceGluCtxIdeal.τ).loc Cert.ReferenceGluCtxIdeal.main_arg4))

def preserves_KernelFt_KernelFtIdeal : Prop :=
  True

def algebraic_KernelFtIdeal_ReferenceFtIdeal [hKernelFtIdeal : Cert.KernelFtIdeal.Facts] [hReferenceFtIdeal : Cert.ReferenceFtIdeal.Facts] : Prop :=
  ∀ (m : (ℓ : Loc Cert.KernelFtIdeal.nD Cert.KernelFtIdeal.τ Cert.KernelFtIdeal.sig) → Buf (Elt Ideal) ℓ) (g : Dev Cert.KernelFtIdeal.nD → PrngReg)
    (m' : (ℓ : Loc Cert.ReferenceFtIdeal.nD Cert.ReferenceFtIdeal.τ Cert.ReferenceFtIdeal.sig) → Buf (Elt Ideal) ℓ) (g' : Dev Cert.ReferenceFtIdeal.nD → PrngReg), Pre_KernelFtIdeal m →
    (∀ c : Dev Cert.KernelFtIdeal.nD,
      m' ((c.tc : Thread Cert.ReferenceFtIdeal.nD Cert.ReferenceFtIdeal.τ).loc Cert.ReferenceFtIdeal.main_arg0) = m ((c.tc : Thread Cert.KernelFtIdeal.nD Cert.KernelFtIdeal.τ).loc Cert.KernelFtIdeal.main_arg0)
      ∧ m' ((c.tc : Thread Cert.ReferenceFtIdeal.nD Cert.ReferenceFtIdeal.τ).loc Cert.ReferenceFtIdeal.main_arg1) = m ((c.tc : Thread Cert.KernelFtIdeal.nD Cert.KernelFtIdeal.τ).loc Cert.KernelFtIdeal.main_arg1)) →
    ∃ (v0 : (c : Dev Cert.KernelFtIdeal.nD) → Buf (Elt Ideal) ((c.tc : Thread Cert.KernelFtIdeal.nD Cert.KernelFtIdeal.τ).loc Cert.KernelFtIdeal.main_v37)),
      θ_run (Cert.KernelFtIdeal.defs (F := Ideal)) (onTc (τ := Cert.KernelFtIdeal.τ) (Cert.KernelFtIdeal.main (F := Ideal))) ⟨m, fun _ => 0, g⟩ (fun r => ∀ c : Dev Cert.KernelFtIdeal.nD,
          r.2.mem ((c.tc : Thread Cert.KernelFtIdeal.nD Cert.KernelFtIdeal.τ).loc Cert.KernelFtIdeal.main_v37) = v0 c
          ∧ r.2.mem ((c.tc : Thread Cert.KernelFtIdeal.nD Cert.KernelFtIdeal.τ).loc Cert.KernelFtIdeal.main_arg0) = m ((c.tc : Thread Cert.KernelFtIdeal.nD Cert.KernelFtIdeal.τ).loc Cert.KernelFtIdeal.main_arg0)
          ∧ r.2.mem ((c.tc : Thread Cert.KernelFtIdeal.nD Cert.KernelFtIdeal.τ).loc Cert.KernelFtIdeal.main_arg1) = m ((c.tc : Thread Cert.KernelFtIdeal.nD Cert.KernelFtIdeal.τ).loc Cert.KernelFtIdeal.main_arg1))
      ∧ θ_run (Cert.ReferenceFtIdeal.defs (F := Ideal)) (onTc (τ := Cert.ReferenceFtIdeal.τ) (Cert.ReferenceFtIdeal.main (F := Ideal))) ⟨m', fun _ => 0, g'⟩ (fun r => ∀ c : Dev Cert.ReferenceFtIdeal.nD,
          r.2.mem ((c.tc : Thread Cert.ReferenceFtIdeal.nD Cert.ReferenceFtIdeal.τ).loc Cert.ReferenceFtIdeal.main_v46) = v0 c
          ∧ r.2.mem ((c.tc : Thread Cert.ReferenceFtIdeal.nD Cert.ReferenceFtIdeal.τ).loc Cert.ReferenceFtIdeal.main_arg0) = m' ((c.tc : Thread Cert.ReferenceFtIdeal.nD Cert.ReferenceFtIdeal.τ).loc Cert.ReferenceFtIdeal.main_arg0)
          ∧ r.2.mem ((c.tc : Thread Cert.ReferenceFtIdeal.nD Cert.ReferenceFtIdeal.τ).loc Cert.ReferenceFtIdeal.main_arg1) = m' ((c.tc : Thread Cert.ReferenceFtIdeal.nD Cert.ReferenceFtIdeal.τ).loc Cert.ReferenceFtIdeal.main_arg1))

def preserves_KernelFtLat_KernelFtLatIdeal : Prop :=
  True

def algebraic_KernelFtLatIdeal_ReferenceFtLatIdeal [hKernelFtLatIdeal : Cert.KernelFtLatIdeal.Facts] [hReferenceFtLatIdeal : Cert.ReferenceFtLatIdeal.Facts] : Prop :=
  ∀ (m : (ℓ : Loc Cert.KernelFtLatIdeal.nD Cert.KernelFtLatIdeal.τ Cert.KernelFtLatIdeal.sig) → Buf (Elt Ideal) ℓ) (g : Dev Cert.KernelFtLatIdeal.nD → PrngReg)
    (m' : (ℓ : Loc Cert.ReferenceFtLatIdeal.nD Cert.ReferenceFtLatIdeal.τ Cert.ReferenceFtLatIdeal.sig) → Buf (Elt Ideal) ℓ) (g' : Dev Cert.ReferenceFtLatIdeal.nD → PrngReg), Pre_KernelFtLatIdeal m →
    (∀ c : Dev Cert.KernelFtLatIdeal.nD,
      m' ((c.tc : Thread Cert.ReferenceFtLatIdeal.nD Cert.ReferenceFtLatIdeal.τ).loc Cert.ReferenceFtLatIdeal.main_arg0) = m ((c.tc : Thread Cert.KernelFtLatIdeal.nD Cert.KernelFtLatIdeal.τ).loc Cert.KernelFtLatIdeal.main_arg0)
      ∧ m' ((c.tc : Thread Cert.ReferenceFtLatIdeal.nD Cert.ReferenceFtLatIdeal.τ).loc Cert.ReferenceFtLatIdeal.main_arg1) = m ((c.tc : Thread Cert.KernelFtLatIdeal.nD Cert.KernelFtLatIdeal.τ).loc Cert.KernelFtLatIdeal.main_arg1)) →
    ∃ (v0 : (c : Dev Cert.KernelFtLatIdeal.nD) → Buf (Elt Ideal) ((c.tc : Thread Cert.KernelFtLatIdeal.nD Cert.KernelFtLatIdeal.τ).loc Cert.KernelFtLatIdeal.main_v37)),
      θ_run (Cert.KernelFtLatIdeal.defs (F := Ideal)) (onTc (τ := Cert.KernelFtLatIdeal.τ) (Cert.KernelFtLatIdeal.main (F := Ideal))) ⟨m, fun _ => 0, g⟩ (fun r => ∀ c : Dev Cert.KernelFtLatIdeal.nD,
          r.2.mem ((c.tc : Thread Cert.KernelFtLatIdeal.nD Cert.KernelFtLatIdeal.τ).loc Cert.KernelFtLatIdeal.main_v37) = v0 c
          ∧ r.2.mem ((c.tc : Thread Cert.KernelFtLatIdeal.nD Cert.KernelFtLatIdeal.τ).loc Cert.KernelFtLatIdeal.main_arg0) = m ((c.tc : Thread Cert.KernelFtLatIdeal.nD Cert.KernelFtLatIdeal.τ).loc Cert.KernelFtLatIdeal.main_arg0)
          ∧ r.2.mem ((c.tc : Thread Cert.KernelFtLatIdeal.nD Cert.KernelFtLatIdeal.τ).loc Cert.KernelFtLatIdeal.main_arg1) = m ((c.tc : Thread Cert.KernelFtLatIdeal.nD Cert.KernelFtLatIdeal.τ).loc Cert.KernelFtLatIdeal.main_arg1))
      ∧ θ_run (Cert.ReferenceFtLatIdeal.defs (F := Ideal)) (onTc (τ := Cert.ReferenceFtLatIdeal.τ) (Cert.ReferenceFtLatIdeal.main (F := Ideal))) ⟨m', fun _ => 0, g'⟩ (fun r => ∀ c : Dev Cert.ReferenceFtLatIdeal.nD,
          r.2.mem ((c.tc : Thread Cert.ReferenceFtLatIdeal.nD Cert.ReferenceFtLatIdeal.τ).loc Cert.ReferenceFtLatIdeal.main_v46) = v0 c
          ∧ r.2.mem ((c.tc : Thread Cert.ReferenceFtLatIdeal.nD Cert.ReferenceFtLatIdeal.τ).loc Cert.ReferenceFtLatIdeal.main_arg0) = m' ((c.tc : Thread Cert.ReferenceFtLatIdeal.nD Cert.ReferenceFtLatIdeal.τ).loc Cert.ReferenceFtLatIdeal.main_arg0)
          ∧ r.2.mem ((c.tc : Thread Cert.ReferenceFtLatIdeal.nD Cert.ReferenceFtLatIdeal.τ).loc Cert.ReferenceFtLatIdeal.main_arg1) = m' ((c.tc : Thread Cert.ReferenceFtLatIdeal.nD Cert.ReferenceFtLatIdeal.τ).loc Cert.ReferenceFtLatIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelNa : Cert.KernelNa.Facts) (hKernelNaIdeal : Cert.KernelNaIdeal.Facts) (hReferenceNaIdeal : Cert.ReferenceNaIdeal.Facts) (hKernelMods : Cert.KernelMods.Facts) (hKernelModsIdeal : Cert.KernelModsIdeal.Facts) (hReferenceModsIdeal : Cert.ReferenceModsIdeal.Facts) (hKernelLn : Cert.KernelLn.Facts) (hKernelLnIdeal : Cert.KernelLnIdeal.Facts) (hReferenceLnIdeal : Cert.ReferenceLnIdeal.Facts) (hKernelMix : Cert.KernelMix.Facts) (hKernelMixIdeal : Cert.KernelMixIdeal.Facts) (hReferenceMixIdeal : Cert.ReferenceMixIdeal.Facts) (hKernelGlu : Cert.KernelGlu.Facts) (hKernelGluIdeal : Cert.KernelGluIdeal.Facts) (hReferenceGluIdeal : Cert.ReferenceGluIdeal.Facts) (hKernelGluCtx : Cert.KernelGluCtx.Facts) (hKernelGluCtxIdeal : Cert.KernelGluCtxIdeal.Facts) (hReferenceGluCtxIdeal : Cert.ReferenceGluCtxIdeal.Facts) (hKernelFt : Cert.KernelFt.Facts) (hKernelFtIdeal : Cert.KernelFtIdeal.Facts) (hReferenceFtIdeal : Cert.ReferenceFtIdeal.Facts) (hKernelFtLat : Cert.KernelFtLat.Facts) (hKernelFtLatIdeal : Cert.KernelFtLatIdeal.Facts) (hReferenceFtLatIdeal : Cert.ReferenceFtLatIdeal.Facts) (hPre_finite_na : Cert.Pre_finite_na.Facts) (hPre_finite_mix : Cert.Pre_finite_mix.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNa (hKernelNa := hKernelNa)
    ∧ quiescent_KernelNaIdeal (hKernelNaIdeal := hKernelNaIdeal)
    ∧ quiescent_KernelNaIdeal_pre_finite_na (hKernelNaIdeal := hKernelNaIdeal) (hPre_finite_na := hPre_finite_na)
    ∧ quiescent_ReferenceNaIdeal (hReferenceNaIdeal := hReferenceNaIdeal)
    ∧ quiescent_ReferenceNaIdeal_pre_finite_na (hReferenceNaIdeal := hReferenceNaIdeal) (hPre_finite_na := hPre_finite_na)
    ∧ quiescent_KernelMods (hKernelMods := hKernelMods)
    ∧ quiescent_KernelModsIdeal (hKernelModsIdeal := hKernelModsIdeal)
    ∧ quiescent_ReferenceModsIdeal (hReferenceModsIdeal := hReferenceModsIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelGluCtx (hKernelGluCtx := hKernelGluCtx)
    ∧ quiescent_KernelGluCtxIdeal (hKernelGluCtxIdeal := hKernelGluCtxIdeal)
    ∧ quiescent_ReferenceGluCtxIdeal (hReferenceGluCtxIdeal := hReferenceGluCtxIdeal)
    ∧ quiescent_KernelFt (hKernelFt := hKernelFt)
    ∧ quiescent_KernelFtIdeal (hKernelFtIdeal := hKernelFtIdeal)
    ∧ quiescent_ReferenceFtIdeal (hReferenceFtIdeal := hReferenceFtIdeal)
    ∧ quiescent_KernelFtLat (hKernelFtLat := hKernelFtLat)
    ∧ quiescent_KernelFtLatIdeal (hKernelFtLatIdeal := hKernelFtLatIdeal)
    ∧ quiescent_ReferenceFtLatIdeal (hReferenceFtLatIdeal := hReferenceFtLatIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelNa_KernelNaIdeal
    ∧ algebraic_KernelNaIdeal_ReferenceNaIdeal_pre_finite_na (hKernelNaIdeal := hKernelNaIdeal) (hReferenceNaIdeal := hReferenceNaIdeal) (hPre_finite_na := hPre_finite_na)
    ∧ preserves_KernelMods_KernelModsIdeal
    ∧ algebraic_KernelModsIdeal_ReferenceModsIdeal (hKernelModsIdeal := hKernelModsIdeal) (hReferenceModsIdeal := hReferenceModsIdeal)
    ∧ preserves_KernelLn_KernelLnIdeal
    ∧ algebraic_KernelLnIdeal_ReferenceLnIdeal (hKernelLnIdeal := hKernelLnIdeal) (hReferenceLnIdeal := hReferenceLnIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelGlu_KernelGluIdeal
    ∧ algebraic_KernelGluIdeal_ReferenceGluIdeal (hKernelGluIdeal := hKernelGluIdeal) (hReferenceGluIdeal := hReferenceGluIdeal)
    ∧ preserves_KernelGluCtx_KernelGluCtxIdeal
    ∧ algebraic_KernelGluCtxIdeal_ReferenceGluCtxIdeal (hKernelGluCtxIdeal := hKernelGluCtxIdeal) (hReferenceGluCtxIdeal := hReferenceGluCtxIdeal)
    ∧ preserves_KernelFt_KernelFtIdeal
    ∧ algebraic_KernelFtIdeal_ReferenceFtIdeal (hKernelFtIdeal := hKernelFtIdeal) (hReferenceFtIdeal := hReferenceFtIdeal)
    ∧ preserves_KernelFtLat_KernelFtLatIdeal
    ∧ algebraic_KernelFtLatIdeal_ReferenceFtLatIdeal (hKernelFtLatIdeal := hKernelFtLatIdeal) (hReferenceFtLatIdeal := hReferenceFtLatIdeal)
-- ==== Pre_finite_mix.lean ====
abbrev S12288x4096 : Shape := ⟨2, ![12288, 4096]⟩
abbrev S8x1x24576 : Shape := ⟨3, ![8, 1, 24576]⟩
abbrev S4096 : Shape := ⟨1, ![4096]⟩
abbrev S4096x128 : Shape := ⟨2, ![4096, 128]⟩
abbrev S5x1x12288 : Shape := ⟨3, ![5, 1, 12288]⟩
abbrev S_ : Shape := ⟨0, ![]⟩

class Facts : Prop where
  slices_S8x1x24576_S5x1x12288_0_0_8192 : S8x1x24576.Slices ![0, 0, 8192] S5x1x12288
  bcast_S_S12288x4096 : S_.BroadcastsInDim S12288x4096 (![] : Fin 0 → Fin S12288x4096.rank)
  bcast_S_S5x1x12288 : S_.BroadcastsInDim S5x1x12288 (![] : Fin 0 → Fin S5x1x12288.rank)
  bcast_S_S4096 : S_.BroadcastsInDim S4096 (![] : Fin 0 → Fin S4096.rank)
  bcast_S_S4096x128 : S_.BroadcastsInDim S4096x128 (![] : Fin 0 → Fin S4096x128.rank)

variable [Facts]

def fn_part1 {F : FTy → Type} [FloatOps F] (main_v3 : IVec S12288x4096 1) (main_v6 : IVec S12288x4096 1) (main_v9 : IVec S5x1x12288 1) (main_v12 : IVec S4096 1) (main_v15 : IVec S4096 1) (main_v16 : FVec F S4096x128 .f32) (main_v17 : FVec F S4096x128 .f32) : IVec S12288x4096 1 × IVec S12288x4096 1 × IVec S5x1x12288 1 × IVec S4096 1 × IVec S4096 1 × IVec S4096x128 1 :=
  let main_v18 : IVec S4096x128 1 := cmpf .olt main_v16 main_v17
  (main_v3, main_v6, main_v9, main_v12, main_v15, main_v18)

def fn {F : FTy → Type} [FloatOps F] (main_arg0 : FVec F S12288x4096 .f32) (main_arg1 : FVec F S12288x4096 .f32) (main_arg2 : FVec F S8x1x24576 .f32) (main_arg3 : FVec F S4096 .f32) (main_arg4 : FVec F S4096 .f32) (main_arg5 : FVec F S4096x128 .f32) : IVec S12288x4096 1 × IVec S12288x4096 1 × IVec S5x1x12288 1 × IVec S4096 1 × IVec S4096 1 × IVec S4096x128 1 :=
  let main_v0 : FVec F S5x1x12288 .f32 := (extractStridedSlice S5x1x12288 ![0, 0, 8192] · slices_S8x1x24576_S5x1x12288_0_0_8192) main_arg2
  let main_v1 : FVec F S12288x4096 .f32 := Host.absf main_arg0
  let main_cst : FVec F S_ .f32 := constant S_ .f32 0x7F800000#32
  let main_v2 : FVec F S12288x4096 .f32 := broadcastInDim S12288x4096 ![] bcast_S_S12288x4096 main_cst
  let main_v3 : IVec S12288x4096 1 := cmpf .olt main_v1 main_v2
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_v7 : FVec F S5x1x12288 .f32 := Host.absf main_v0
  let main_cst_1 : FVec F S_ .f32 := constant S_ .f32 0x7F800000#32
  let main_v8 : FVec F S5x1x12288 .f32 := broadcastInDim S5x1x12288 ![] bcast_S_S5x1x12288 main_cst_1
  let main_v9 : IVec S5x1x12288 1 := cmpf .olt main_v7 main_v8
  let main_v10 : FVec F S4096 .f32 := Host.absf main_arg3
  let main_cst_2 : FVec F S_ .f32 := constant S_ .f32 0x7F800000#32
  let main_v11 : FVec F S4096 .f32 := broadcastInDim S4096 ![] bcast_S_S4096 main_cst_2
  let main_v12 : IVec S4096 1 := cmpf .olt main_v10 main_v11
  let main_v13 : FVec F S4096 .f32 := Host.absf main_arg4
  let main_cst_3 : FVec F S_ .f32 := constant S_ .f32 0x7F800000#32
  let main_v14 : FVec F S4096 .f32 := broadcastInDim S4096 ![] bcast_S_S4096 main_cst_3
  let main_v15 : IVec S4096 1 := cmpf .olt main_v13 main_v14
  let main_v16 : FVec F S4096x128 .f32 := Host.absf main_arg5
  let main_cst_4 : FVec F S_ .f32 := constant S_ .f32 0x7F800000#32
  let main_v17 : FVec F S4096x128 .f32 := broadcastInDim S4096x128 ![] bcast_S_S4096x128 main_cst_4
  fn_part1 (F := F) main_v3 main_v6 main_v9 main_v12 main_v15 main_v16 main_v17
-- ==== Pre_finite_na.lean ====
abbrev S12288x8704 : Shape := ⟨2, ![12288, 8704]⟩
abbrev S4x256x1024 : Shape := ⟨3, ![4, 256, 1024]⟩
abbrev S16x15x31 : Shape := ⟨3, ![16, 15, 31]⟩
abbrev S8192x2048 : Shape := ⟨2, ![8192, 2048]⟩
abbrev S_ : Shape := ⟨0, ![]⟩

class Facts : Prop where
  slices_S12288x8704_S8192x2048_4096_1024 : S12288x8704.Slices ![4096, 1024] S8192x2048
  bcast_S_S8192x2048 : S_.BroadcastsInDim S8192x2048 (![] : Fin 0 → Fin S8192x2048.rank)
  bcast_S_S4x256x1024 : S_.BroadcastsInDim S4x256x1024 (![] : Fin 0 → Fin S4x256x1024.rank)
  bcast_S_S16x15x31 : S_.BroadcastsInDim S16x15x31 (![] : Fin 0 → Fin S16x15x31.rank)

variable [Facts]

def fn {F : FTy → Type} [FloatOps F] (main_arg0 : FVec F S12288x8704 .f32) (main_arg1 : FVec F S4x256x1024 .f32) (main_arg2 : FVec F S4x256x1024 .f32) (main_arg3 : FVec F S16x15x31 .f32) : IVec S8192x2048 1 × IVec S4x256x1024 1 × IVec S16x15x31 1 :=
  let main_v0 : FVec F S8192x2048 .f32 := (extractStridedSlice S8192x2048 ![4096, 1024] · slices_S12288x8704_S8192x2048_4096_1024) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_v7 : FVec F S16x15x31 .f32 := Host.absf main_arg3
  let main_cst_1 : FVec F S_ .f32 := constant S_ .f32 0x7F800000#32
  let main_v8 : FVec F S16x15x31 .f32 := broadcastInDim S16x15x31 ![] bcast_S_S16x15x31 main_cst_1
  let main_v9 : IVec S16x15x31 1 := cmpf .olt main_v7 main_v8
  (main_v3, main_v6, main_v9)
-- ==== Kernel.lean ====
abbrev S12288x8704 : Shape := ⟨2, ![12288, 8704]⟩
abbrev S4096x1024 : Shape := ⟨2, ![4096, 1024]⟩
abbrev S256x128 : Shape := ⟨2, ![256, 128]⟩
abbrev S1x128 : Shape := ⟨2, ![1, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 2
  | .vmem => 8
  | .smem => 0
  | _ => 0

abbrev bufTy : (tb : Table) → Fin (tcTables nBuf tb) → BufTy
  | .hbm, ⟨0, _⟩ => ⟨S12288x8704, .f32⟩
  | .hbm, ⟨1, _⟩ => ⟨S4096x1024, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .bf16⟩
  | .local _ .vmem, ⟨7, _⟩ => ⟨S256x128, .bf16⟩
  | _, _ => ⟨S12288x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S12288x8704 : Shape := ⟨2, ![12288, 8704]⟩
abbrev S4096x1024 : Shape := ⟨2, ![4096, 1024]⟩
abbrev S16x256x16x64 : Shape := ⟨4, ![16, 256, 16, 64]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x64x256 : Shape := ⟨4, ![16, 16, 64, 256]⟩

abbrev nBuf : Space → Nat
  | .hbm => 29
  | .vmem => 0
  | .smem => 0
  | _ => 0

abbrev bufTy : (tb : Table) → Fin (tcTables nBuf tb) → BufTy
  | .hbm, ⟨0, _⟩ => ⟨S12288x8704, .f32⟩
  | .hbm, ⟨1, _⟩ => ⟨S4096x1024, .f32⟩
  | .hbm, ⟨2, _⟩ => ⟨S16x256x16x64, .f32⟩
  | .hbm, ⟨3, _⟩ => ⟨S4096x1024, .f32⟩
  | .hbm, ⟨4, _⟩ => ⟨S16x256x16x64, .f32⟩
  | .hbm, ⟨5, _⟩ => ⟨S4096x1024, .f32⟩
  | .hbm, ⟨6, _⟩ => ⟨S16x256x16x64, .f32⟩
  | .hbm, ⟨7, _⟩ => ⟨S16x16x256x256, .f32⟩
  | .hbm, ⟨8, _⟩ => ⟨S_, .f32⟩
  | .hbm, ⟨9, _⟩ => ⟨S16x16x256x256, .f32⟩
  | .hbm, ⟨10, _⟩ => ⟨S16x16x256x256, .f32⟩
  | .hbm, ⟨11, _⟩ => ⟨S_, .f32⟩
  | .hbm, ⟨12, _⟩ => ⟨S16x16x256, .f32⟩
  | .hbm, ⟨13, _⟩ => ⟨S_, .f32⟩
  | .hbm, ⟨14, _⟩ => ⟨S16x16x256, .f32⟩
  | .hbm, ⟨15, _⟩ => ⟨S16x16x256, .f32⟩
  | .hbm, ⟨16, _⟩ => ⟨S16x16x256x1, .f32⟩
  | .hbm, ⟨17, _⟩ => ⟨S16x16x256x256, .f32⟩
  | .hbm, ⟨18, _⟩ => ⟨S16x16x256x256, .f32⟩
  | .hbm, ⟨19, _⟩ => ⟨S16x16x256x256, .f32⟩
  | .hbm, ⟨20, _⟩ => ⟨S_, .f32⟩
  | .hbm, ⟨21, _⟩ => ⟨S16x16x256, .f32⟩
  | .hbm, ⟨22, _⟩ => ⟨S16x16x256x1, .f32⟩
  | .hbm, ⟨23, _⟩ => ⟨S16x16x256x256, .f32⟩
  | .hbm, ⟨24, _⟩ => ⟨S16x16x256x256, .f32⟩
  | .hbm, ⟨25, _⟩ => ⟨S16x16x64x256, .f32⟩
  | .hbm, ⟨26, _⟩ => ⟨S16x256x16x64, .f32⟩
  | .hbm, ⟨27, _⟩ => ⟨S4096x1024, .f32⟩
  | .hbm, ⟨28, _⟩ => ⟨S4096x1024, .bf16⟩
  | _, _ => ⟨S12288x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== KernelUp.lean ====
abbrev S16x1536x4096 : Shape := ⟨3, ![16, 1536, 4096]⟩
abbrev S2x16x4096x2048 : Shape := ⟨4, ![2, 16, 4096, 2048]⟩
abbrev S16x1536x2048 : Shape := ⟨3, ![16, 1536, 2048]⟩
abbrev S1x1536x4096 : Shape := ⟨3, ![1, 1536, 4096]⟩
abbrev S1x1x4096x256 : Shape := ⟨4, ![1, 1, 4096, 256]⟩
abbrev S1x1536x256 : Shape := ⟨3, ![1, 1536, 256]⟩
abbrev S1536x4096 : Shape := ⟨2, ![1536, 4096]⟩
abbrev S4096x256 : Shape := ⟨2, ![4096, 256]⟩
abbrev S1536x256 : Shape := ⟨2, ![1536, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x1536x4096, .bf16⟩
  | .hbm, ⟨1, _⟩ => ⟨S2x16x4096x2048, .f32⟩
  | .hbm, ⟨2, _⟩ => ⟨S2x16x4096x2048, .f32⟩
  | .hbm, ⟨3, _⟩ => ⟨S16x1536x2048, .bf16⟩
  | .local _ .vmem, ⟨0, _⟩ => ⟨S1x1536x4096, .bf16⟩
  | .local _ .vmem, ⟨1, _⟩ => ⟨S1x1536x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1536x256, .bf16⟩
  | .local _ .vmem, ⟨7, _⟩ => ⟨S1x1536x256, .bf16⟩
  | _, _ => ⟨S16x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S16x1536x4096 : Shape := ⟨3, ![16, 1536, 4096]⟩
abbrev S2x16x4096x2048 : Shape := ⟨4, ![2, 16, 4096, 2048]⟩
abbrev S1x16x4096x2048 : Shape := ⟨4, ![1, 16, 4096, 2048]⟩
abbrev S16x4096x2048 : Shape := ⟨3, ![16, 4096, 2048]⟩
abbrev S16x1536x2048 : Shape := ⟨3, ![16, 1536, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x1536x4096, .bf16⟩
  | .hbm, ⟨1, _⟩ => ⟨S2x16x4096x2048, .f32⟩
  | .hbm, ⟨2, _⟩ => ⟨S2x16x4096x2048, .f32⟩
  | .hbm, ⟨3, _⟩ => ⟨S16x1536x4096, .f32⟩
  | .hbm, ⟨4, _⟩ => ⟨S1x16x4096x2048, .f32⟩
  | .hbm, ⟨5, _⟩ => ⟨S16x4096x2048, .f32⟩
  | .hbm, ⟨6, _⟩ => ⟨S16x1536x2048, .f32⟩
  | .hbm, ⟨7, _⟩ => ⟨S16x1536x2048, .f32⟩
  | .hbm, ⟨8, _⟩ => ⟨S16x1536x2048, .f32⟩
  | .hbm, ⟨9, _⟩ => ⟨S_, .f32⟩
  | .hbm, ⟨10, _⟩ => ⟨S16x1536x2048, .f32⟩
  | .hbm, ⟨11, _⟩ => ⟨S16x1536x2048, .f32⟩
  | .hbm, ⟨12, _⟩ => ⟨S_, .f32⟩
  | .hbm, ⟨13, _⟩ => ⟨S16x1536x2048, .f32⟩
  | .hbm, ⟨14, _⟩ => ⟨S16x1536x2048, .f32⟩
  | .hbm, ⟨15, _⟩ => ⟨S16x1536x2048, .f32⟩
  | .hbm, ⟨16, _⟩ => ⟨S1x16x4096x2048, .f32⟩
  | .hbm, ⟨17, _⟩ => ⟨S16x4096x2048, .f32⟩
  | .hbm, ⟨18, _⟩ => ⟨S16x1536x2048, .f32⟩
  | .hbm, ⟨19, _⟩ => ⟨S16x1536x2048, .f32⟩
  | .hbm, ⟨20, _⟩ => ⟨S16x1536x2048, .bf16⟩
  | _, _ => ⟨S16x1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== KernelDown.lean ====
abbrev S16x1536x2048 : Shape := ⟨3, ![16, 1536, 2048]⟩
abbrev S2x16x2048x4096 : Shape := ⟨4, ![2, 16, 2048, 4096]⟩
abbrev S16x1536x1 : Shape := ⟨3, ![16, 1536, 1]⟩
abbrev S16x1536x4096 : Shape := ⟨3, ![16, 1536, 4096]⟩
abbrev S1x1536x2048 : Shape := ⟨3, ![1, 1536, 2048]⟩
abbrev S1x1x2048x512 : Shape := ⟨4, ![1, 1, 2048, 512]⟩
abbrev S1x1536x1 : Shape := ⟨3, ![1, 1536, 1]⟩
abbrev S1x1536x512 : Shape := ⟨3, ![1, 1536, 512]⟩
abbrev S1536x2048 : Shape := ⟨2, ![1536, 2048]⟩
abbrev S2048x512 : Shape := ⟨2, ![2048, 512]⟩
abbrev S1536x512 : Shape := ⟨2, ![1536, 512]⟩
abbrev S1536x1 : Shape := ⟨2, ![1536, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1536x2048, .bf16⟩
  | .hbm, ⟨1, _⟩ => ⟨S2x16x2048x4096, .f32⟩
  | .hbm, ⟨2, _⟩ => ⟨S16x1536x1, .f32⟩
  | .hbm, ⟨3, _⟩ => ⟨S16x1536x4096, .f32⟩
  | .local _ .vmem, ⟨0, _⟩ => ⟨S1x1536x2048, .bf16⟩
  | .local _ .vmem, ⟨1, _⟩ => ⟨S1x1536x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1536x1, .f32⟩
  | .local _ .vmem, ⟨5, _⟩ => ⟨S1x1536x1, .f32⟩
  | .local _ .vmem, ⟨6, _⟩ => ⟨S1x1536x512, .f32⟩
  | .local _ .vmem, ⟨7, _⟩ => ⟨S1x1536x512, .f32⟩
  | _, _ => ⟨S16x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S16x1536x2048 : Shape := ⟨3, ![16, 1536, 2048]⟩
abbrev S2x16x2048x4096 : Shape := ⟨4, ![2, 16, 2048, 4096]⟩
abbrev S16x1536x1 : Shape := ⟨3, ![16, 1536, 1]⟩
abbrev S1x16x2048x4096 : Shape := ⟨4, ![1, 16, 2048, 4096]⟩
abbrev S16x2048x4096 : Shape := ⟨3, ![16, 2048, 4096]⟩
abbrev S16x1536x4096 : Shape := ⟨3, ![16, 1536, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S2x16x2048x4096, .f32⟩
  | .hbm, ⟨2, _⟩ => ⟨S16x1536x1, .f32⟩
  | .hbm, ⟨3, _⟩ => ⟨S16x1536x2048, .f32⟩
  | .hbm, ⟨4, _⟩ => ⟨S1x16x2048x4096, .f32⟩
  | .hbm, ⟨5, _⟩ => ⟨S16x2048x4096, .f32⟩
  | .hbm, ⟨6, _⟩ => ⟨S16x1536x4096, .f32⟩
  | .hbm, ⟨7, _⟩ => ⟨S16x1536x4096, .f32⟩
  | .hbm, ⟨8, _⟩ => ⟨S16x1536x4096, .f32⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S12288x4096 : Shape := ⟨2, ![12288, 4096]⟩
abbrev S4096x8704 : Shape := ⟨2, ![4096, 8704]⟩
abbrev S1x12288x4096 : Shape := ⟨3, ![1, 12288, 4096]⟩
abbrev S1x4096x8704 : Shape := ⟨3, ![1, 4096, 8704]⟩
abbrev S1x12288x8704 : Shape := ⟨3, ![1, 12288, 8704]⟩
abbrev S1x1024x4096 : Shape := ⟨3, ![1, 1024, 4096]⟩
abbrev S1x4096x512 : Shape := ⟨3, ![1, 4096, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S4096x8704, .bf16⟩
  | .hbm, ⟨2, _⟩ => ⟨S1x12288x4096, .bf16⟩
  | .hbm, ⟨3, _⟩ => ⟨S1x4096x8704, .bf16⟩
  | .hbm, ⟨4, _⟩ => ⟨S1x12288x8704, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 17], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceInIdeal.lean ====
abbrev S12288x4096 : Shape := ⟨2, ![12288, 4096]⟩
abbrev S4096x8704 : Shape := ⟨2, ![4096, 8704]⟩
abbrev S12288x8704 : Shape := ⟨2, ![12288, 8704]⟩
abbrev S1x12288x8704 : Shape := ⟨3, ![1, 12288, 8704]⟩

abbrev nBuf : Space → Nat
  | .hbm => 6
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S4096x8704, .bf16⟩
  | .hbm, ⟨2, _⟩ => ⟨S12288x4096, .f32⟩
  | .hbm, ⟨3, _⟩ => ⟨S4096x8704, .f32⟩
  | .hbm, ⟨4, _⟩ => ⟨S12288x8704, .f32⟩
  | .hbm, ⟨5, _⟩ => ⟨S1x12288x8704, .f32⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S12288x1024 : Shape := ⟨2, ![12288, 1024]⟩
abbrev S2x4096x4096 : Shape := ⟨3, ![2, 4096, 4096]⟩
abbrev S12288x4096 : Shape := ⟨2, ![12288, 4096]⟩
abbrev S1024x1024 : Shape := ⟨2, ![1024, 1024]⟩
abbrev S1x4096x512 : Shape := ⟨3, ![1, 4096, 512]⟩
abbrev S1024x512 : Shape := ⟨2, ![1024, 512]⟩
abbrev S1x1024x512 : Shape := ⟨3, ![1, 1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S12288x1024, .bf16⟩
  | .hbm, ⟨4, _⟩ => ⟨S2x4096x4096, .f32⟩
  | .hbm, ⟨5, _⟩ => ⟨S12288x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x512, .f32⟩
  | .local _ .vmem, ⟨9, _⟩ => ⟨S1x4096x512, .f32⟩
  | .local _ .vmem, ⟨10, _⟩ => ⟨S1024x512, .f32⟩
  | .local _ .vmem, ⟨11, _⟩ => ⟨S1024x512, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S12288x1024 : Shape := ⟨2, ![12288, 1024]⟩
abbrev S2x4096x4096 : Shape := ⟨3, ![2, 4096, 4096]⟩
abbrev S12288x4096 : Shape := ⟨2, ![12288, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S12288x1024, .bf16⟩
  | .hbm, ⟨4, _⟩ => ⟨S2x4096x4096, .f32⟩
  | .hbm, ⟨5, _⟩ => ⟨S12288x4096, .bf16⟩
  | .hbm, ⟨6, _⟩ => ⟨S12288x4096, .f32⟩
  | .hbm, ⟨7, _⟩ => ⟨S1x4096x4096, .f32⟩
  | .hbm, ⟨8, _⟩ => ⟨S4096x4096, .f32⟩
  | .hbm, ⟨9, _⟩ => ⟨S12288x4096, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== KernelNa.lean ====
abbrev S12288x8704 : Shape := ⟨2, ![12288, 8704]⟩
abbrev S4x256x1024 : Shape := ⟨3, ![4, 256, 1024]⟩
abbrev S16x15x31 : Shape := ⟨3, ![16, 15, 31]⟩
abbrev S8 : Shape := ⟨1, ![8]⟩
abbrev S8x1 : Shape := ⟨2, ![8, 1]⟩
abbrev S1x8 : Shape := ⟨2, ![1, 8]⟩
abbrev S_ : Shape := ⟨0, ![]⟩
abbrev S8x8 : Shape := ⟨2, ![8, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S8x8x1x1 : Shape := ⟨4, ![8, 8, 1, 1]⟩
abbrev S1x1x64x64 : Shape := ⟨4, ![1, 1, 64, 64]⟩
abbrev S8x8x64x64 : Shape := ⟨4, ![8, 8, 64, 64]⟩
abbrev S8x8x64x64x1 : Shape := ⟨5, ![8, 8, 64, 64, 1]⟩
abbrev S8x8x64x64x2 : Shape := ⟨5, ![8, 8, 64, 64, 2]⟩
abbrev S16x8x8x64x64 : Shape := ⟨5, ![16, 8, 8, 64, 64]⟩
abbrev S8x16x64x8x64 : Shape := ⟨5, ![8, 16, 64, 8, 64]⟩
abbrev S1x1x64x1x64 : Shape := ⟨5, ![1, 1, 64, 1, 64]⟩
abbrev S8x16x64x512 : Shape := ⟨4, ![8, 16, 64, 512]⟩
abbrev S8192x1024 : Shape := ⟨2, ![8192, 1024]⟩
abbrev S64x512 : Shape := ⟨2, ![64, 512]⟩
abbrev S2048x512 : Shape := ⟨2, ![2048, 512]⟩
abbrev S1x256x512 : Shape := ⟨3, ![1, 256, 512]⟩
abbrev S1x8x64x512 : Shape := ⟨4, ![1, 8, 64, 512]⟩
abbrev S1x128 : Shape := ⟨2, ![1, 128]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x2x64x512 : Shape := ⟨4, ![1, 2, 64, 512]⟩
abbrev S2x64x512 : Shape := ⟨3, ![2, 64, 512]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 88
  | .vmem => 14
  | .smem => 0
  | _ => 0

abbrev bufTy : (tb : Table) → Fin (tcTables nBuf tb) → BufTy
  | .hbm, ⟨0, _⟩ => ⟨S12288x8704, .f32⟩
  | .hbm, ⟨1, _⟩ => ⟨S4x256x1024, .f32⟩
  | .hbm, ⟨2, _⟩ => ⟨S4x256x1024, .f32⟩
  | .hbm, ⟨3, _⟩ => ⟨S16x15x31, .f32⟩
  | .hbm, ⟨4, _⟩ => ⟨S8, .i32⟩
  | .hbm, ⟨5, _⟩ => ⟨S8x1, .i32⟩
  | .hbm, ⟨6, _⟩ => ⟨S8, .i32⟩
  | .hbm, ⟨7, _⟩ => ⟨S1x8, .i32⟩
  | .hbm, ⟨8, _⟩ => ⟨S_, .i32⟩
  | .hbm, ⟨9, _⟩ => ⟨S1x8, .i32⟩
  | .hbm, ⟨10, _⟩ => ⟨S1x8, .i32⟩
  | .hbm, ⟨11, _⟩ => ⟨S8x8, .i32⟩
  | .hbm, ⟨12, _⟩ => ⟨S8x8, .i32⟩
  | .hbm, ⟨13, _⟩ => ⟨S8x8, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S1x64, .i32⟩
  | .hbm, ⟨27, _⟩ => ⟨S64x1, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i1⟩
  | .hbm, ⟨39, _⟩ => ⟨S64x1, .i32⟩
  | .hbm, ⟨40, _⟩ => ⟨S64x64, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S_, .i32⟩
  | .hbm, ⟨55, _⟩ => ⟨S64x64, .i32⟩
  | .hbm, ⟨56, _⟩ => ⟨S64x64, .i32⟩
  | .hbm, ⟨57, _⟩ => ⟨S8x8x1x1, .i32⟩
  | .hbm, ⟨58, _⟩ => ⟨S1x1x64x64, .i32⟩
  | .hbm, ⟨59, _⟩ => ⟨S_, .i32⟩
  | .hbm, ⟨60, _⟩ => ⟨S8x8x1x1, .i32⟩
  | .hbm, ⟨61, _⟩ => ⟨S8x8x1x1, .i1⟩
  | .hbm, ⟨62, _⟩ => ⟨S_, .i32⟩
  | .hbm, ⟨63, _⟩ => ⟨S8x8x1x1, .i32⟩
  | .hbm, ⟨64, _⟩ => ⟨S8x8x1x1, .i32⟩
  | .hbm, ⟨65, _⟩ => ⟨S8x8x1x1, .i32⟩
  | .hbm, ⟨66, _⟩ => ⟨S_, .i32⟩
  | .hbm, ⟨67, _⟩ => ⟨S1x1x64x64, .i32⟩
  | .hbm, ⟨68, _⟩ => ⟨S1x1x64x64, .i1⟩
  | .hbm, ⟨69, _⟩ => ⟨S_, .i32⟩
  | .hbm, ⟨70, _⟩ => ⟨S1x1x64x64, .i32⟩
  | .hbm, ⟨71, _⟩ => ⟨S1x1x64x64, .i32⟩
  | .hbm, ⟨72, _⟩ => ⟨S1x1x64x64, .i32⟩
  | .hbm, ⟨73, _⟩ => ⟨S8x8x64x64, .i32⟩
  | .hbm, ⟨74, _⟩ => ⟨S8x8x64x64, .i32⟩
  | .hbm, ⟨75, _⟩ => ⟨S8x8x64x64x1, .i32⟩
  | .hbm, ⟨76, _⟩ => ⟨S8x8x64x64x1, .i32⟩
  | .hbm, ⟨77, _⟩ => ⟨S8x8x64x64x2, .i32⟩
  | .hbm, ⟨78, _⟩ => ⟨S16x8x8x64x64, .f32⟩
  | .hbm, ⟨79, _⟩ => ⟨S8x16x64x8x64, .f32⟩
  | .hbm, ⟨80, _⟩ => ⟨S1x1x64x1x64, .i1⟩
  | .hbm, ⟨81, _⟩ => ⟨S_, .f32⟩
  | .hbm, ⟨82, _⟩ => ⟨S_, .f32⟩
  | .hbm, ⟨83, _⟩ => ⟨S8x16x64x8x64, .i1⟩
  | .hbm, ⟨84, _⟩ => ⟨S8x16x64x8x64, .f32⟩
  | .hbm, ⟨85, _⟩ => ⟨S8x16x64x8x64, .f32⟩
  | .hbm, ⟨86, _⟩ => ⟨S8x16x64x512, .f32⟩
  | .hbm, ⟨87, _⟩ => ⟨S8192x1024, .bf16⟩
  | .local _ .vmem, ⟨0, _⟩ => ⟨S64x512, .f32⟩
  | .local _ .vmem, ⟨1, _⟩ => ⟨S64x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x8x64x512, .f32⟩
  | .local _ .vmem, ⟨11, _⟩ => ⟨S1x8x64x512, .f32⟩
  | .local _ .vmem, ⟨12, _⟩ => ⟨S64x512, .bf16⟩
  | .local _ .vmem, ⟨13, _⟩ => ⟨S64x512, .bf16⟩
  | _, _ => ⟨S12288x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_c_7 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let c24_i32 : BitVec 32 := 24#32
  let c0_i32 : BitVec 32 := 0#32
  let arg2 : BitVec 32 := BitVec.ofNat 32 (i 2).val
  let c4_i32 : BitVec 32 := 4#32
  let v7 : BitVec 32 := Scalar.subi arg2 c4_i32
  let v8 : BitVec 32 := Scalar.maxsi c0_i32 v7
  let v9 : BitVec 32 := Scalar.minsi c24_i32 v8
  let c64_i32_0 : BitVec 32 := 64#32
  let v10 : BitVec 32 := Scalar.muli v9 c64_i32_0
  v10
def k0_off1 (i : grid0.Coords) : Fin 2 → Nat :=
  let c24_i32 : BitVec 32 := 24#32
  let c0_i32 : BitVec 32 := 0#32
  let arg2 : BitVec 32 := BitVec.ofNat 32 (i 2).val
  let c4_i32 : BitVec 32 := 4#32
  let v7 : BitVec 32 := Scalar.subi arg2 c4_i32
  let v8 : BitVec 32 := Scalar.maxsi c0_i32 v7
  let v9 : BitVec 32 := Scalar.minsi c24_i32 v8
  let c64_i32_0 : BitVec 32 := 64#32
  let v10 : BitVec 32 := Scalar.muli v9 c64_i32_0
  let v11 : BitVec 32 := v10
  let v44 : Index := Scalar.indexCast v11
  let c0_13 : Index := 0#32
  ![v44.toNat, 0]
def k0_off2 (i : grid0.Coords) : Fin 2 → Nat :=
  let c24_i32 : BitVec 32 := 24#32
  let c0_i32 : BitVec 32 := 0#32
  let arg2 : BitVec 32 := BitVec.ofNat 32 (i 2).val
  let c4_i32 : BitVec 32 := 4#32
  let v7 : BitVec 32 := Scalar.subi arg2 c4_i32
  let v8 : BitVec 32 := Scalar.maxsi c0_i32 v7
  let v9 : BitVec 32 := Scalar.minsi c24_i32 v8
  let c64_i32_0 : BitVec 32 := 64#32
  let v10 : BitVec 32 := Scalar.muli v9 c64_i32_0
  let v11 : BitVec 32 := v10
  let v54 : Index := Scalar.indexCast v11
  let c128_20 : Index := 128#32
  ![v54.toNat, 128]
def k0_off3 (i : grid0.Coords) : Fin 2 → Nat :=
  let c24_i32 : BitVec 32 := 24#32
  let c0_i32 : BitVec 32 := 0#32
  let arg2 : BitVec 32 := BitVec.ofNat 32 (i 2).val
  let c4_i32 : BitVec 32 := 4#32
  let v7 : BitVec 32 := Scalar.subi arg2 c4_i32
  let v8 : BitVec 32 := Scalar.maxsi c0_i32 v7
  let v9 : BitVec 32 := Scalar.minsi c24_i32 v8
  let c64_i32_0 : BitVec 32 := 64#32
  let v10 : BitVec 32 := Scalar.muli v9 c64_i32_0
  let v11 : BitVec 32 := v10
  let v64 : Index := Scalar.indexCast v11
  let c256_26 : Index := 256#32
  ![v64.toNat, 256]
def k0_off4 (i : grid0.Coords) : Fin 2 → Nat :=
  let c24_i32 : BitVec 32 := 24#32
  let c0_i32 : BitVec 32 := 0#32
  let arg2 : BitVec 32 := BitVec.ofNat 32 (i 2).val
  let c4_i32 : BitVec 32 := 4#32
  let v7 : BitVec 32 := Scalar.subi arg2 c4_i32
  let v8 : BitVec 32 := Scalar.maxsi c0_i32 v7
  let v9 : BitVec 32 := Scalar.minsi c24_i32 v8
  let c64_i32_0 : BitVec 32 := 64#32
  let v10 : BitVec 32 := Scalar.muli v9 c64_i32_0
  let v11 : BitVec 32 := v10
  let v74 : Index := Scalar.indexCast v11
  let c384_32 : Index := 384#32
  ![v74.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c64_i32 : BitVec 32 := 64#32
  let v1 : BitVec 32 := Scalar.addi c64_i32 v0
  let v2 : BitVec 32 := Scalar.addi v1 arg2
  let c2_i32 : BitVec 32 := 2#32
  let v3 : BitVec 32 := Scalar.addi c2_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c4_i32 : BitVec 32 := 4#32
  let v1 : BitVec 32 := Scalar.addi c4_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c6_i32 : BitVec 32 := 6#32
  let v1 : BitVec 32 := Scalar.addi c6_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c24_i32 : BitVec 32 := 24#32
  let v1 : BitVec 32 := Scalar.maxsi c0_i32 v0
  let v2 : BitVec 32 := Scalar.minsi c24_i32 v1
  let v3 : BitVec 32 := Scalar.subi arg2 v2
  let c0_i32_0 : BitVec 32 := 0#32
  let c0_i32_1 : BitVec 32 := 0#32
  let c0_i32_2 : BitVec 32 := 0#32
  ![v3.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceNaIdeal.lean ====
abbrev S12288x8704 : Shape := ⟨2, ![12288, 8704]⟩
abbrev S4x256x1024 : Shape := ⟨3, ![4, 256, 1024]⟩
abbrev S16x15x31 : Shape := ⟨3, ![16, 15, 31]⟩
abbrev S8192x1024 : Shape := ⟨2, ![8192, 1024]⟩
abbrev S4x32x64x16x64 : Shape := ⟨5, ![4, 32, 64, 16, 64]⟩
abbrev S4x256x16x64 : Shape := ⟨4, ![4, 256, 16, 64]⟩
abbrev S32 : Shape := ⟨1, ![32]⟩
abbrev S64 : Shape := ⟨1, ![64]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32x8x1 : Shape := ⟨3, ![32, 8, 1]⟩
abbrev S4x32x8x64x16x64 : Shape := ⟨6, ![4, 32, 8, 64, 16, 64]⟩
abbrev S64x16x1 : Shape := ⟨3, ![64, 16, 1]⟩
abbrev S4x32x8x64x16x16x64 : Shape := ⟨7, ![4, 32, 8, 64, 16, 16, 64]⟩
abbrev S32x1x8x1 : Shape := ⟨4, ![32, 1, 8, 1]⟩
abbrev S1x64x1x16 : Shape := ⟨4, ![1, 64, 1, 16]⟩
abbrev S32x64x8x16 : Shape := ⟨4, ![32, 64, 8, 16]⟩
abbrev S32x64x8x16x1 : Shape := ⟨5, ![32, 64, 8, 16, 1]⟩
abbrev S32x64x8x16x2 : Shape := ⟨5, ![32, 64, 8, 16, 2]⟩
abbrev S16x32x64x8x16 : Shape := ⟨5, ![16, 32, 64, 8, 16]⟩
abbrev S4x16x32x64x8x16 : Shape := ⟨6, ![4, 16, 32, 64, 8, 16]⟩
abbrev S1x16x32x64x8x16 : Shape := ⟨6, ![1, 16, 32, 64, 8, 16]⟩
abbrev S4x16x32x64x256 : Shape := ⟨5, ![4, 16, 32, 64, 256]⟩
abbrev S4x16x32x64x128 : Shape := ⟨5, ![4, 16, 32, 64, 128]⟩
abbrev S4x16x32x64x384 : Shape := ⟨5, ![4, 16, 32, 64, 384]⟩
abbrev S4x16x32x64 : Shape := ⟨4, ![4, 16, 32, 64]⟩
abbrev S4x16x32x64x1 : Shape := ⟨5, ![4, 16, 32, 64, 1]⟩
abbrev S4x16x64x32x64 : Shape := ⟨5, ![4, 16, 64, 32, 64]⟩

abbrev nBuf : Space → Nat
  | .hbm => 160
  | .vmem => 0
  | .smem => 0
  | _ => 0

abbrev hbmTy0_0 (i : Nat) : BufTy := match i % 128 with
  | 0 => ⟨S12288x8704, .f32⟩
  | 1 => ⟨S4x256x1024, .f32⟩
  | 2 => ⟨S4x256x1024, .f32⟩
  | 3 => ⟨S16x15x31, .f32⟩
  | 4 => ⟨S8192x1024, .f32⟩
  | 5 => ⟨S4x32x64x16x64, .f32⟩
  | 6 => ⟨S8192x1024, .f32⟩
  | 7 => ⟨S4x32x64x16x64, .f32⟩
  | 8 => ⟨S8192x1024, .f32⟩
  | 9 => ⟨S4x32x64x16x64, .f32⟩
  | 10 => ⟨S4x256x16x64, .f32⟩
  | 11 => ⟨S4x256x16x64, .f32⟩
  | 12 => ⟨S32, .i32⟩
  | 13 => ⟨S64, .i32⟩
  | 14 => ⟨S_, .i32⟩
  | 15 => ⟨S32, .i32⟩
  | 16 => ⟨S32, .i32⟩
  | 17 => ⟨S_, .i32⟩
  | 18 => ⟨S_, .i32⟩
  | 19 => ⟨S_, .i32⟩
  | 20 => ⟨S32, .i32⟩
  | 21 => ⟨S32, .i32⟩
  | 22 => ⟨S_, .i32⟩
  | 23 => ⟨S32, .i32⟩
  | 24 => ⟨S32, .i32⟩
  | 25 => ⟨S32x1, .i32⟩
  | 26 => ⟨S8, .i32⟩
  | 27 => ⟨S1x8, .i32⟩
  | 28 => ⟨S32x8, .i32⟩
  | 29 => ⟨S32x8, .i32⟩
  | 30 => ⟨S32x8, .i32⟩
  | 31 => ⟨S_, .i32⟩
  | 32 => ⟨S64, .i32⟩
  | 33 => ⟨S64, .i32⟩
  | 34 => ⟨S_, .i32⟩
  | 35 => ⟨S_, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S64x1, .i32⟩
  | 43 => ⟨S16, .i32⟩
  | 44 => ⟨S1x16, .i32⟩
  | 45 => ⟨S64x16, .i32⟩
  | 46 => ⟨S64x16, .i32⟩
  | 47 => ⟨S64x16, .i32⟩
  | 48 => ⟨S32x1, .i32⟩
  | 49 => ⟨S32x8, .i32⟩
  | 50 => ⟨S32x8, .i32⟩
  | 51 => ⟨S_, .i32⟩
  | 52 => ⟨S32x8, .i32⟩
  | 53 => ⟨S32x8, .i32⟩
  | 54 => ⟨S_, .i32⟩
  | 55 => ⟨S32x8, .i32⟩
  | 56 => ⟨S32x8, .i32⟩
  | 57 => ⟨S64x1, .i32⟩
  | 58 => ⟨S64x16, .i32⟩
  | 59 => ⟨S64x16, .i32⟩
  | 60 => ⟨S_, .i32⟩
  | 61 => ⟨S64x16, .i32⟩
  | 62 => ⟨S64x16, .i32⟩
  | 63 => ⟨S_, .i32⟩
  | 64 => ⟨S64x16, .i32⟩
  | 65 => ⟨S64x16, .i32⟩
  | 66 => ⟨S_, .i32⟩
  | 67 => ⟨S32x8, .i32⟩
  | 68 => ⟨S32x8, .i1⟩
  | 69 => ⟨S_, .i32⟩
  | 70 => ⟨S32x8, .i32⟩
  | 71 => ⟨S32x8, .i32⟩
  | 72 => ⟨S32x8, .i32⟩
  | 73 => ⟨S32x8x1, .i32⟩
  | 74 => ⟨S4x32x8x64x16x64, .f32⟩
  | 75 => ⟨S_, .i32⟩
  | 76 => ⟨S64x16, .i32⟩
  | 77 => ⟨S64x16, .i1⟩
  | 78 => ⟨S_, .i32⟩
  | 79 => ⟨S64x16, .i32⟩
  | 80 => ⟨S64x16, .i32⟩
  | 81 => ⟨S64x16, .i32⟩
  | 82 => ⟨S64x16x1, .i32⟩
  | 83 => ⟨S4x32x8x64x16x16x64, .f32⟩
  | 84 => ⟨S_, .i32⟩
  | 85 => ⟨S32x8, .i32⟩
  | 86 => ⟨S32x8, .i1⟩
  | 87 => ⟨S_, .i32⟩
  | 88 => ⟨S32x8, .i32⟩
  | 89 => ⟨S32x8, .i32⟩
  | 90 => ⟨S32x8, .i32⟩
  | 91 => ⟨S32x8x1, .i32⟩
  | 92 => ⟨S4x32x8x64x16x64, .f32⟩
  | 93 => ⟨S_, .i32⟩
  | 94 => ⟨S64x16, .i32⟩
  | 95 => ⟨S64x16, .i1⟩
  | 96 => ⟨S_, .i32⟩
  | 97 => ⟨S64x16, .i32⟩
  | 98 => ⟨S64x16, .i32⟩
  | 99 => ⟨S64x16, .i32⟩
  | 100 => ⟨S64x16x1, .i32⟩
  | 101 => ⟨S4x32x8x64x16x16x64, .f32⟩
  | 102 => ⟨S32x1x8x1, .i32⟩
  | 103 => ⟨S1x64x1x16, .i32⟩
  | 104 => ⟨S_, .i32⟩
  | 105 => ⟨S32x1x8x1, .i32⟩
  | 106 => ⟨S32x1x8x1, .i1⟩
  | 107 => ⟨S_, .i32⟩
  | 108 => ⟨S32x1x8x1, .i32⟩
  | 109 => ⟨S32x1x8x1, .i32⟩
  | 110 => ⟨S32x1x8x1, .i32⟩
  | 111 => ⟨S_, .i32⟩
  | 112 => ⟨S1x64x1x16, .i32⟩
  | 113 => ⟨S1x64x1x16, .i1⟩
  | 114 => ⟨S_, .i32⟩
  | 115 => ⟨S1x64x1x16, .i32⟩
  | 116 => ⟨S1x64x1x16, .i32⟩
  | 117 => ⟨S1x64x1x16, .i32⟩
  | 118 => ⟨S32x64x8x16, .i32⟩
  | 119 => ⟨S32x64x8x16, .i32⟩
  | 120 => ⟨S32x64x8x16x1, .i32⟩
  | 121 => ⟨S32x64x8x16x1, .i32⟩
  | 122 => ⟨S32x64x8x16x2, .i32⟩
  | 123 => ⟨S16x32x64x8x16, .f32⟩
  | 124 => ⟨S4x16x32x64x8x16, .f32⟩
  | 125 => ⟨S_, .f32⟩
  | 126 => ⟨S4x16x32x64x8x16, .f32⟩
  | 127 => ⟨S4x16x32x64x8x16, .f32⟩
  | _ => ⟨S12288x8704, .f32⟩

abbrev hbmTy0_1 (i : Nat) : BufTy := match i % 128 with
  | 0 => ⟨S1x16x32x64x8x16, .f32⟩
  | 1 => ⟨S4x16x32x64x8x16, .f32⟩
  | 2 => ⟨S4x16x32x64x8x16, .f32⟩
  | 3 => ⟨S4x16x32x64x256, .f32⟩
  | 4 => ⟨S_, .f32⟩
  | 5 => ⟨S4x16x32x64x256, .f32⟩
  | 6 => ⟨S4x16x32x64x256, .f32⟩
  | 7 => ⟨S4x16x32x64x128, .f32⟩
  | 8 => ⟨S4x16x32x64x384, .f32⟩
  | 9 => ⟨S_, .f32⟩
  | 10 => ⟨S4x16x32x64, .f32⟩
  | 11 => ⟨S_, .f32⟩
  | 12 => ⟨S4x16x32x64, .f32⟩
  | 13 => ⟨S4x16x32x64, .f32⟩
  | 14 => ⟨S4x16x32x64x1, .f32⟩
  | 15 => ⟨S4x16x32x64x384, .f32⟩
  | 16 => ⟨S4x16x32x64x384, .f32⟩
  | 17 => ⟨S4x16x32x64x384, .f32⟩
  | 18 => ⟨S_, .f32⟩
  | 19 => ⟨S4x16x32x64, .f32⟩
  | 20 => ⟨S4x16x32x64x1, .f32⟩
  | 21 => ⟨S4x16x32x64x384, .f32⟩
  | 22 => ⟨S4x16x32x64x384, .f32⟩
  | 23 => ⟨S4x16x32x64x128, .f32⟩
  | 24 => ⟨S4x16x32x64x8x16, .f32⟩
  | 25 => ⟨S4x32x64x16x64, .f32⟩
  | 26 => ⟨S4x16x32x64x256, .f32⟩
  | 27 => ⟨S4x16x64x32x64, .f32⟩
  | 28 => ⟨S4x32x64x16x64, .f32⟩
  | 29 => ⟨S4x32x64x16x64, .f32⟩
  | 30 => ⟨S8192x1024, .f32⟩
  | 31 => ⟨S8192x1024, .bf16⟩
  | _ => ⟨S12288x8704, .f32⟩

abbrev hbmTy (i : Nat) : BufTy := match i / 128 with
  | 0 => hbmTy0_0 i
  | 1 => hbmTy0_1 i
  | _ => ⟨S12288x8704, .f32⟩

abbrev bufTy : (tb : Table) → Fin (tcTables nBuf tb) → BufTy
  | .hbm, ⟨i, _⟩ => hbmTy i
  | _, _ => ⟨S12288x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]
-- ==== KernelMods.lean ====
abbrev S8x4096 : Shape := ⟨2, ![8, 4096]⟩
abbrev S2x4096x24576 : Shape := ⟨3, ![2, 4096, 24576]⟩
abbrev S_ : Shape := ⟨0, ![]⟩
abbrev S1x8x4096 : Shape := ⟨3, ![1, 8, 4096]⟩
abbrev S2x8x24576 : Shape := ⟨3, ![2, 8, 24576]⟩
abbrev S1x4096x1024 : Shape := ⟨3, ![1, 4096, 1024]⟩
abbrev S1x8x1024 : Shape := ⟨3, ![1, 8, 1024]⟩
abbrev S4096x1024 : Shape := ⟨2, ![4096, 1024]⟩
abbrev S8x1024 : Shape := ⟨2, ![8, 1024]⟩

abbrev nBuf : Space → Nat
  | .hbm => 13
  | .vmem => 5
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S1x8x4096, .f32⟩
  | .hbm, ⟨12, _⟩ => ⟨S2x8x24576, .f32⟩
  | .local _ .vmem, ⟨0, _⟩ => ⟨S1x8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x8x1024, .f32⟩
  | .local _ .vmem, ⟨4, _⟩ => ⟨S1x8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 24], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceModsIdeal.lean ====
abbrev S8x4096 : Shape := ⟨2, ![8, 4096]⟩
abbrev S2x4096x24576 : Shape := ⟨3, ![2, 4096, 24576]⟩
abbrev S_ : Shape := ⟨0, ![]⟩
abbrev S2x24576x8 : Shape := ⟨3, ![2, 24576, 8]⟩
abbrev S2x8x24576 : Shape := ⟨3, ![2, 8, 24576]⟩

abbrev nBuf : Space → Nat
  | .hbm => 13
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S2x24576x8, .f32⟩
  | .hbm, ⟨12, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== KernelLn.lean ====
abbrev S12288x4096 : Shape := ⟨2, ![12288, 4096]⟩
abbrev S8x1x24576 : Shape := ⟨3, ![8, 1, 24576]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 3
  | .vmem => 8
  | .smem => 0
  | _ => 0

abbrev bufTy : (tb : Table) → Fin (tcTables nBuf tb) → BufTy
  | .hbm, ⟨0, _⟩ => ⟨S12288x4096, .f32⟩
  | .hbm, ⟨1, _⟩ => ⟨S8x1x24576, .f32⟩
  | .hbm, ⟨2, _⟩ => ⟨S12288x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .bf16⟩
  | .local _ .vmem, ⟨7, _⟩ => ⟨S256x4096, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnIdeal.lean ====
abbrev S12288x4096 : Shape := ⟨2, ![12288, 4096]⟩
abbrev S8x1x24576 : Shape := ⟨3, ![8, 1, 24576]⟩
abbrev S8x1x4096 : Shape := ⟨3, ![8, 1, 4096]⟩
abbrev S4096x4096 : Shape := ⟨2, ![4096, 4096]⟩
abbrev S16x256x4096 : Shape := ⟨3, ![16, 256, 4096]⟩
abbrev S8192x4096 : Shape := ⟨2, ![8192, 4096]⟩
abbrev S4x2048x4096 : Shape := ⟨3, ![4, 2048, 4096]⟩
abbrev S1x1x4096 : Shape := ⟨3, ![1, 1, 4096]⟩
abbrev S_ : Shape := ⟨0, ![]⟩
abbrev S16x256 : Shape := ⟨2, ![16, 256]⟩
abbrev S16x256x1 : Shape := ⟨3, ![16, 256, 1]⟩
abbrev S4x1x4096 : Shape := ⟨3, ![4, 1, 4096]⟩
abbrev S4x2048 : Shape := ⟨2, ![4, 2048]⟩
abbrev S4x2048x1 : Shape := ⟨3, ![4, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S8x1x24576, .f32⟩
  | .hbm, ⟨2, _⟩ => ⟨S8x1x4096, .f32⟩
  | .hbm, ⟨3, _⟩ => ⟨S8x1x4096, .f32⟩
  | .hbm, ⟨4, _⟩ => ⟨S4096x4096, .f32⟩
  | .hbm, ⟨5, _⟩ => ⟨S16x256x4096, .f32⟩
  | .hbm, ⟨6, _⟩ => ⟨S8192x4096, .f32⟩
  | .hbm, ⟨7, _⟩ => ⟨S4x2048x4096, .f32⟩
  | .hbm, ⟨8, _⟩ => ⟨S1x1x4096, .f32⟩
  | .hbm, ⟨9, _⟩ => ⟨S1x1x4096, .f32⟩
  | .hbm, ⟨10, _⟩ => ⟨S_, .f32⟩
  | .hbm, ⟨11, _⟩ => ⟨S16x256, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x4096, .f32⟩
  | .hbm, ⟨17, _⟩ => ⟨S16x256x4096, .f32⟩
  | .hbm, ⟨18, _⟩ => ⟨S16x256x4096, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x4096, .f32⟩
  | .hbm, ⟨26, _⟩ => ⟨S16x256x4096, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S16x256x1, .f32⟩
  | .hbm, ⟨31, _⟩ => ⟨S16x256x4096, .f32⟩
  | .hbm, ⟨32, _⟩ => ⟨S16x256x4096, .f32⟩
  | .hbm, ⟨33, _⟩ => ⟨S_, .f32⟩
  | .hbm, ⟨34, _⟩ => ⟨S1x1x4096, .f32⟩
  | .hbm, ⟨35, _⟩ => ⟨S1x1x4096, .f32⟩
  | .hbm, ⟨36, _⟩ => ⟨S16x256x4096, .f32⟩
  | .hbm, ⟨37, _⟩ => ⟨S16x256x4096, .f32⟩
  | .hbm, ⟨38, _⟩ => ⟨S16x256x4096, .f32⟩
  | .hbm, ⟨39, _⟩ => ⟨S16x256x4096, .f32⟩
  | .hbm, ⟨40, _⟩ => ⟨S4x1x4096, .f32⟩
  | .hbm, ⟨41, _⟩ => ⟨S4x1x4096, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S4x2048x4096, .f32⟩
  | .hbm, ⟨58, _⟩ => ⟨S4x2048x4096, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x4096, .f32⟩
  | .hbm, ⟨64, _⟩ => ⟨S4x2048x4096, .f32⟩
  | .hbm, ⟨65, _⟩ => ⟨S_, .f32⟩
  | .hbm, ⟨66, _⟩ => ⟨S4x1x4096, .f32⟩
  | .hbm, ⟨67, _⟩ => ⟨S4x1x4096, .f32⟩
  | .hbm, ⟨68, _⟩ => ⟨S4x2048x4096, .f32⟩
  | .hbm, ⟨69, _⟩ => ⟨S4x2048x4096, .f32⟩
  | .hbm, ⟨70, _⟩ => ⟨S4x2048x4096, .f32⟩
  | .hbm, ⟨71, _⟩ => ⟨S4x2048x4096, .f32⟩
  | .hbm, ⟨72, _⟩ => ⟨S4096x4096, .f32⟩
  | .hbm, ⟨73, _⟩ => ⟨S8192x4096, .f32⟩
  | .hbm, ⟨74, _⟩ => ⟨S12288x4096, .f32⟩
  | .hbm, ⟨75, _⟩ => ⟨S12288x4096, .bf16⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== KernelMix.lean ====
abbrev S12288x4096 : Shape := ⟨2, ![12288, 4096]⟩
abbrev S8x1x24576 : Shape := ⟨3, ![8, 1, 24576]⟩
abbrev S4096 : Shape := ⟨1, ![4096]⟩
abbrev S4096x128 : Shape := ⟨2, ![4096, 128]⟩
abbrev S1x4096 : Shape := ⟨2, ![1, 4096]⟩
abbrev S12288x128 : Shape := ⟨2, ![12288, 128]⟩
abbrev S256x4096 : Shape := ⟨2, ![256, 4096]⟩
abbrev S1x1x4096 : Shape := ⟨3, ![1, 1, 4096]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 19
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S8x1x24576, .f32⟩
  | .hbm, ⟨3, _⟩ => ⟨S4096, .f32⟩
  | .hbm, ⟨4, _⟩ => ⟨S4096, .f32⟩
  | .hbm, ⟨5, _⟩ => ⟨S4096x128, .f32⟩
  | .hbm, ⟨6, _⟩ => ⟨S1x4096, .f32⟩
  | .hbm, ⟨7, _⟩ => ⟨S1x4096, .f32⟩
  | .hbm, ⟨8, _⟩ => ⟨S12288x4096, .f32⟩
  | .hbm, ⟨9, _⟩ => ⟨S12288x4096, .f32⟩
  | .hbm, ⟨10, _⟩ => ⟨S12288x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x4096, .f32⟩
  | .local _ .vmem, ⟨11, _⟩ => ⟨S1x4096, .f32⟩
  | .local _ .vmem, ⟨12, _⟩ => ⟨S4096x128, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x128, .f32⟩
  | .local _ .vmem, ⟨18, _⟩ => ⟨S256x128, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c2_i32 : BitVec 32 := 2#32
  let c0_i32_8 : BitVec 32 := 0#32
  ![v20.toNat, c0_i32_7.toNat, c2_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  ![v20.toNat, c0_i32_7.toNat, c3_i32.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32 : BitVec 32 := 4#32
  let c0_i32_8 : BitVec 32 := 0#32
  ![v20.toNat, c0_i32_7.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMixIdeal.lean ====
abbrev S12288x4096 : Shape := ⟨2, ![12288, 4096]⟩
abbrev S8x1x24576 : Shape := ⟨3, ![8, 1, 24576]⟩
abbrev S4096 : Shape := ⟨1, ![4096]⟩
abbrev S4096x128 : Shape := ⟨2, ![4096, 128]⟩
abbrev S8x1x4096 : Shape := ⟨3, ![8, 1, 4096]⟩
abbrev S4096x4096 : Shape := ⟨2, ![4096, 4096]⟩
abbrev S16x256x4096 : Shape := ⟨3, ![16, 256, 4096]⟩
abbrev S8192x4096 : Shape := ⟨2, ![8192, 4096]⟩
abbrev S4x2048x4096 : Shape := ⟨3, ![4, 2048, 4096]⟩
abbrev S_ : Shape := ⟨0, ![]⟩
abbrev S1x1x4096 : Shape := ⟨3, ![1, 1, 4096]⟩
abbrev S16x256 : Shape := ⟨2, ![16, 256]⟩
abbrev S16x256x1 : Shape := ⟨3, ![16, 256, 1]⟩
abbrev S4x1x4096 : Shape := ⟨3, ![4, 1, 4096]⟩
abbrev S4x2048 : Shape := ⟨2, ![4, 2048]⟩
abbrev S4x2048x1 : Shape := ⟨3, ![4, 2048, 1]⟩
abbrev S12288x128 : Shape := ⟨2, ![12288, 128]⟩

abbrev nBuf : Space → Nat
  | .hbm => 160
  | .vmem => 0
  | .smem => 0
  | _ => 0

abbrev hbmTy0_0 (i : Nat) : BufTy := match i % 128 with
  | 0 => ⟨S12288x4096, .f32⟩
  | 1 => ⟨S12288x4096, .f32⟩
  | 2 => ⟨S8x1x24576, .f32⟩
  | 3 => ⟨S4096, .f32⟩
  | 4 => ⟨S4096, .f32⟩
  | 5 => ⟨S4096x128, .f32⟩
  | 6 => ⟨S8x1x4096, .f32⟩
  | 7 => ⟨S8x1x4096, .f32⟩
  | 8 => ⟨S8x1x4096, .f32⟩
  | 9 => ⟨S4096x4096, .f32⟩
  | 10 => ⟨S16x256x4096, .f32⟩
  | 11 => ⟨S4096x4096, .f32⟩
  | 12 => ⟨S16x256x4096, .f32⟩
  | 13 => ⟨S8192x4096, .f32⟩
  | 14 => ⟨S4x2048x4096, .f32⟩
  | 15 => ⟨S8192x4096, .f32⟩
  | 16 => ⟨S4x2048x4096, .f32⟩
  | 17 => ⟨S_, .f32⟩
  | 18 => ⟨S16x256x4096, .f32⟩
  | 19 => ⟨S16x256x4096, .f32⟩
  | 20 => ⟨S1x1x4096, .f32⟩
  | 21 => ⟨S16x256x4096, .f32⟩
  | 22 => ⟨S16x256x4096, .f32⟩
  | 23 => ⟨S16x256x4096, .f32⟩
  | 24 => ⟨S_, .f32⟩
  | 25 => ⟨S16x256, .f32⟩
  | 26 => ⟨S16x256x1, .f32⟩
  | 27 => ⟨S_, .f32⟩
  | 28 => ⟨S16x256x1, .f32⟩
  | 29 => ⟨S16x256x1, .f32⟩
  | 30 => ⟨S16x256x4096, .f32⟩
  | 31 => ⟨S16x256x4096, .f32⟩
  | 32 => ⟨S16x256x4096, .f32⟩
  | 33 => ⟨S_, .f32⟩
  | 34 => ⟨S16x256, .f32⟩
  | 35 => ⟨S16x256x1, .f32⟩
  | 36 => ⟨S_, .f32⟩
  | 37 => ⟨S16x256x1, .f32⟩
  | 38 => ⟨S16x256x1, .f32⟩
  | 39 => ⟨S16x256x4096, .f32⟩
  | 40 => ⟨S16x256x4096, .f32⟩
  | 41 => ⟨S_, .f32⟩
  | 42 => ⟨S16x256x1, .f32⟩
  | 43 => ⟨S16x256x1, .f32⟩
  | 44 => ⟨S16x256x1, .f32⟩
  | 45 => ⟨S16x256x4096, .f32⟩
  | 46 => ⟨S16x256x4096, .f32⟩
  | 47 => ⟨S1x1x4096, .f32⟩
  | 48 => ⟨S16x256x4096, .f32⟩
  | 49 => ⟨S16x256x4096, .f32⟩
  | 50 => ⟨S1x1x4096, .f32⟩
  | 51 => ⟨S16x256x4096, .f32⟩
  | 52 => ⟨S16x256x4096, .f32⟩
  | 53 => ⟨S_, .f32⟩
  | 54 => ⟨S4x2048x4096, .f32⟩
  | 55 => ⟨S4x2048x4096, .f32⟩
  | 56 => ⟨S4x1x4096, .f32⟩
  | 57 => ⟨S4x2048x4096, .f32⟩
  | 58 => ⟨S4x2048x4096, .f32⟩
  | 59 => ⟨S4x2048x4096, .f32⟩
  | 60 => ⟨S_, .f32⟩
  | 61 => ⟨S4x2048, .f32⟩
  | 62 => ⟨S4x2048x1, .f32⟩
  | 63 => ⟨S_, .f32⟩
  | 64 => ⟨S4x2048x1, .f32⟩
  | 65 => ⟨S4x2048x1, .f32⟩
  | 66 => ⟨S4x2048x4096, .f32⟩
  | 67 => ⟨S4x2048x4096, .f32⟩
  | 68 => ⟨S4x2048x4096, .f32⟩
  | 69 => ⟨S_, .f32⟩
  | 70 => ⟨S4x2048, .f32⟩
  | 71 => ⟨S4x2048x1, .f32⟩
  | 72 => ⟨S_, .f32⟩
  | 73 => ⟨S4x2048x1, .f32⟩
  | 74 => ⟨S4x2048x1, .f32⟩
  | 75 => ⟨S4x2048x4096, .f32⟩
  | 76 => ⟨S4x2048x4096, .f32⟩
  | 77 => ⟨S_, .f32⟩
  | 78 => ⟨S4x2048x1, .f32⟩
  | 79 => ⟨S4x2048x1, .f32⟩
  | 80 => ⟨S4x2048x1, .f32⟩
  | 81 => ⟨S4x2048x4096, .f32⟩
  | 82 => ⟨S4x2048x4096, .f32⟩
  | 83 => ⟨S1x1x4096, .f32⟩
  | 84 => ⟨S4x2048x4096, .f32⟩
  | 85 => ⟨S4x2048x4096, .f32⟩
  | 86 => ⟨S1x1x4096, .f32⟩
  | 87 => ⟨S4x2048x4096, .f32⟩
  | 88 => ⟨S4x2048x4096, .f32⟩
  | 89 => ⟨S1x1x4096, .f32⟩
  | 90 => ⟨S1x1x4096, .f32⟩
  | 91 => ⟨S_, .f32⟩
  | 92 => ⟨S16x256, .f32⟩
  | 93 => ⟨S16x256x1, .f32⟩
  | 94 => ⟨S_, .f32⟩
  | 95 => ⟨S16x256x1, .f32⟩
  | 96 => ⟨S16x256x1, .f32⟩
  | 97 => ⟨S16x256x4096, .f32⟩
  | 98 => ⟨S16x256x4096, .f32⟩
  | 99 => ⟨S16x256x4096, .f32⟩
  | 100 => ⟨S_, .f32⟩
  | 101 => ⟨S16x256, .f32⟩
  | 102 => ⟨S16x256x1, .f32⟩
  | 103 => ⟨S_, .f32⟩
  | 104 => ⟨S16x256x1, .f32⟩
  | 105 => ⟨S16x256x1, .f32⟩
  | 106 => ⟨S16x256x4096, .f32⟩
  | 107 => ⟨S16x256x4096, .f32⟩
  | 108 => ⟨S_, .f32⟩
  | 109 => ⟨S16x256x1, .f32⟩
  | 110 => ⟨S16x256x1, .f32⟩
  | 111 => ⟨S16x256x1, .f32⟩
  | 112 => ⟨S16x256x4096, .f32⟩
  | 113 => ⟨S16x256x4096, .f32⟩
  | 114 => ⟨S_, .f32⟩
  | 115 => ⟨S1x1x4096, .f32⟩
  | 116 => ⟨S1x1x4096, .f32⟩
  | 117 => ⟨S16x256x4096, .f32⟩
  | 118 => ⟨S16x256x4096, .f32⟩
  | 119 => ⟨S16x256x4096, .f32⟩
  | 120 => ⟨S16x256x4096, .f32⟩
  | 121 => ⟨S4x1x4096, .f32⟩
  | 122 => ⟨S4x1x4096, .f32⟩
  | 123 => ⟨S_, .f32⟩
  | 124 => ⟨S4x2048, .f32⟩
  | 125 => ⟨S4x2048x1, .f32⟩
  | 126 => ⟨S_, .f32⟩
  | 127 => ⟨S4x2048x1, .f32⟩
  | _ => ⟨S12288x4096, .f32⟩

abbrev hbmTy0_1 (i : Nat) : BufTy := match i % 128 with
  | 0 => ⟨S4x2048x1, .f32⟩
  | 1 => ⟨S4x2048x4096, .f32⟩
  | 2 => ⟨S4x2048x4096, .f32⟩
  | 3 => ⟨S4x2048x4096, .f32⟩
  | 4 => ⟨S_, .f32⟩
  | 5 => ⟨S4x2048, .f32⟩
  | 6 => ⟨S4x2048x1, .f32⟩
  | 7 => ⟨S_, .f32⟩
  | 8 => ⟨S4x2048x1, .f32⟩
  | 9 => ⟨S4x2048x1, .f32⟩
  | 10 => ⟨S4x2048x4096, .f32⟩
  | 11 => ⟨S4x2048x4096, .f32⟩
  | 12 => ⟨S_, .f32⟩
  | 13 => ⟨S4x2048x1, .f32⟩
  | 14 => ⟨S4x2048x1, .f32⟩
  | 15 => ⟨S4x2048x1, .f32⟩
  | 16 => ⟨S4x2048x4096, .f32⟩
  | 17 => ⟨S4x2048x4096, .f32⟩
  | 18 => ⟨S_, .f32⟩
  | 19 => ⟨S4x1x4096, .f32⟩
  | 20 => ⟨S4x1x4096, .f32⟩
  | 21 => ⟨S4x2048x4096, .f32⟩
  | 22 => ⟨S4x2048x4096, .f32⟩
  | 23 => ⟨S4x2048x4096, .f32⟩
  | 24 => ⟨S4x2048x4096, .f32⟩
  | 25 => ⟨S4096x4096, .f32⟩
  | 26 => ⟨S8192x4096, .f32⟩
  | 27 => ⟨S12288x4096, .f32⟩
  | 28 => ⟨S4096x4096, .f32⟩
  | 29 => ⟨S8192x4096, .f32⟩
  | 30 => ⟨S12288x4096, .f32⟩
  | 31 => ⟨S12288x128, .f32⟩
  | _ => ⟨S12288x4096, .f32⟩

abbrev hbmTy (i : Nat) : BufTy := match i / 128 with
  | 0 => hbmTy0_0 i
  | 1 => hbmTy0_1 i
  | _ => ⟨S12288x4096, .f32⟩

abbrev bufTy : (tb : Table) → Fin (tcTables nBuf tb) → BufTy
  | .hbm, ⟨i, _⟩ => hbmTy i
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_15 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_cst_18 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_19 : Ref sig .tc := ⟨.hbm, 132, rfl⟩
abbrev main_v106 : Ref sig .tc := ⟨.hbm, 133, rfl⟩
abbrev main_v107 : Ref sig .tc := ⟨.hbm, 134, rfl⟩
abbrev main_cst_20 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_21 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_22 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩

abbrev nD : Nat := 1
abbrev τ : Topo := Topo.v7x

variable {F : FTy → Type} [FloatOps F]
-- ==== KernelGlu.lean ====
abbrev S8192x1024 : Shape := ⟨2, ![8192, 1024]⟩
abbrev S12288x8704 : Shape := ⟨2, ![12288, 8704]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S12288x8704, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGluIdeal.lean ====
abbrev S8192x1024 : Shape := ⟨2, ![8192, 1024]⟩
abbrev S12288x8704 : Shape := ⟨2, ![12288, 8704]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S12288x8704, .f32⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelGluCtx.lean ====
abbrev S4096x1024 : Shape := ⟨2, ![4096, 1024]⟩
abbrev S12288x8704 : Shape := ⟨2, ![12288, 8704]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12288x8704, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGluCtxIdeal.lean ====
abbrev S4096x1024 : Shape := ⟨2, ![4096, 1024]⟩
abbrev S12288x8704 : Shape := ⟨2, ![12288, 8704]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12288x8704, .f32⟩
  | .hbm, ⟨3, _⟩ => ⟨S1024, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelFt.lean ====
abbrev S12288x8704 : Shape := ⟨2, ![12288, 8704]⟩
abbrev S1024x1024 : Shape := ⟨2, ![1024, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S4096x1024 : Shape := ⟨2, ![4096, 1024]⟩
abbrev S256x1024 : Shape := ⟨2, ![256, 1024]⟩
abbrev S512x1024 : Shape := ⟨2, ![512, 1024]⟩

abbrev nBuf : Space → Nat
  | .hbm => 88
  | .vmem => 8
  | .smem => 0
  | _ => 0

abbrev bufTy : (tb : Table) → Fin (tcTables nBuf tb) → BufTy
  | .hbm, ⟨0, _⟩ => ⟨S12288x8704, .f32⟩
  | .hbm, ⟨1, _⟩ => ⟨S1024x1024, .bf16⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S_, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256, .i32⟩
  | .hbm, ⟨43, _⟩ => ⟨S256x1, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S_, .i32⟩
  | .hbm, ⟨63, _⟩ => ⟨S_, .i1⟩
  | .hbm, ⟨64, _⟩ => ⟨S256x256, .i1⟩
  | .hbm, ⟨65, _⟩ => ⟨S256x256, .i1⟩
  | .hbm, ⟨66, _⟩ => ⟨S256x256, .i1⟩
  | .hbm, ⟨67, _⟩ => ⟨S256x256, .i32⟩
  | .hbm, ⟨68, _⟩ => ⟨S256x256, .i32⟩
  | .hbm, ⟨69, _⟩ => ⟨S256x256, .i32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S256x512, .f32⟩
  | .hbm, ⟨84, _⟩ => ⟨S256x512, .bf16⟩
  | .hbm, ⟨85, _⟩ => ⟨S256x512, .f32⟩
  | .hbm, ⟨86, _⟩ => ⟨S256x512, .bf16⟩
  | .hbm, ⟨87, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S512x1024, .bf16⟩
  | _, _ => ⟨S12288x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v22 : Ref sig .tc := ⟨.hbm, 69, rfl⟩
abbrev main_v23 : Ref sig .tc := ⟨.hbm, 70, rfl⟩
abbrev main_cst_3 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_4 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_5 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFtIdeal.lean ====
abbrev S12288x8704 : Shape := ⟨2, ![12288, 8704]⟩
abbrev S1024x1024 : Shape := ⟨2, ![1024, 1024]⟩
abbrev S4096x1024 : Shape := ⟨2, ![4096, 1024]⟩
abbrev S16x256x1024 : Shape := ⟨3, ![16, 256, 1024]⟩
abbrev S16x256x4x256 : Shape := ⟨4, ![16, 256, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S16x4x256x256 : Shape := ⟨4, ![16, 4, 256, 256]⟩

abbrev nBuf : Space → Nat
  | .hbm => 97
  | .vmem => 0
  | .smem => 0
  | _ => 0

abbrev bufTy : (tb : Table) → Fin (tcTables nBuf tb) → BufTy
  | .hbm, ⟨0, _⟩ => ⟨S12288x8704, .f32⟩
  | .hbm, ⟨1, _⟩ => ⟨S1024x1024, .bf16⟩
  | .hbm, ⟨2, _⟩ => ⟨S4096x1024, .f32⟩
  | .hbm, ⟨3, _⟩ => ⟨S16x256x1024, .f32⟩
  | .hbm, ⟨4, _⟩ => ⟨S16x256x4x256, .f32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S_, .i32⟩
  | .hbm, ⟨26, _⟩ => ⟨S_, .i1⟩
  | .hbm, ⟨27, _⟩ => ⟨S256x256, .i1⟩
  | .hbm, ⟨28, _⟩ => ⟨S256x256, .i1⟩
  | .hbm, ⟨29, _⟩ => ⟨S256x256, .i1⟩
  | .hbm, ⟨30, _⟩ => ⟨S256x256, .i32⟩
  | .hbm, ⟨31, _⟩ => ⟨S256x256, .i32⟩
  | .hbm, ⟨32, _⟩ => ⟨S256x256, .i32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256, .i32⟩
  | .hbm, ⟨46, _⟩ => ⟨S256x1, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S_, .i32⟩
  | .hbm, ⟨63, _⟩ => ⟨S256x256, .i32⟩
  | .hbm, ⟨64, _⟩ => ⟨S256x256, .i1⟩
  | .hbm, ⟨65, _⟩ => ⟨S_, .i32⟩
  | .hbm, ⟨66, _⟩ => ⟨S_, .i1⟩
  | .hbm, ⟨67, _⟩ => ⟨S256x256, .i1⟩
  | .hbm, ⟨68, _⟩ => ⟨S256x256, .i1⟩
  | .hbm, ⟨69, _⟩ => ⟨S256x256, .i1⟩
  | .hbm, ⟨70, _⟩ => ⟨S256x256, .i32⟩
  | .hbm, ⟨71, _⟩ => ⟨S256x256, .i32⟩
  | .hbm, ⟨72, _⟩ => ⟨S256x256, .i32⟩
  | .hbm, ⟨73, _⟩ => ⟨S256x256, .f32⟩
  | .hbm, ⟨74, _⟩ => ⟨S_, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S_, .f32⟩
  | .hbm, ⟨79, _⟩ => ⟨S256x256, .f32⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S16x256x4x256, .f32⟩
  | .hbm, ⟨86, _⟩ => ⟨S16x4x256x256, .f32⟩
  | .hbm, ⟨87, _⟩ => ⟨S16x256x4x256, .f32⟩
  | .hbm, ⟨88, _⟩ => ⟨S256x256, .f32⟩
  | .hbm, ⟨89, _⟩ => ⟨S16x256x4x256, .f32⟩
  | .hbm, ⟨90, _⟩ => ⟨S16x4x256x256, .f32⟩
  | .hbm, ⟨91, _⟩ => ⟨S16x256x4x256, .f32⟩
  | .hbm, ⟨92, _⟩ => ⟨S16x256x4x256, .f32⟩
  | .hbm, ⟨93, _⟩ => ⟨S4096x1024, .f32⟩
  | .hbm, ⟨94, _⟩ => ⟨S1024x1024, .f32⟩
  | .hbm, ⟨95, _⟩ => ⟨S4096x1024, .f32⟩
  | .hbm, ⟨96, _⟩ => ⟨S4096x1024, .bf16⟩
  | _, _ => ⟨S12288x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_2 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v25 : Ref sig .tc := ⟨.hbm, 72, rfl⟩
abbrev main_v26 : Ref sig .tc := ⟨.hbm, 73, rfl⟩
abbrev main_cst_3 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_5 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩

abbrev nD : Nat := 1
abbrev τ : Topo := Topo.v7x

variable {F : FTy → Type} [FloatOps F]
-- ==== KernelFtLat.lean ====
abbrev S12288x8704 : Shape := ⟨2, ![12288, 8704]⟩
abbrev S1024x1024 : Shape := ⟨2, ![1024, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x4096 : Shape := ⟨2, ![2048, 4096]⟩
abbrev S256x512 : Shape := ⟨2, ![256, 512]⟩
abbrev S8192x1024 : Shape := ⟨2, ![8192, 1024]⟩
abbrev S2048x1024 : Shape := ⟨2, ![2048, 1024]⟩
abbrev S512x4096 : Shape := ⟨2, ![512, 4096]⟩
abbrev S512x1024 : Shape := ⟨2, ![512, 1024]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 88
  | .vmem => 9
  | .smem => 0
  | _ => 0

abbrev bufTy : (tb : Table) → Fin (tcTables nBuf tb) → BufTy
  | .hbm, ⟨0, _⟩ => ⟨S12288x8704, .f32⟩
  | .hbm, ⟨1, _⟩ => ⟨S1024x1024, .bf16⟩
  | .hbm, ⟨2, _⟩ => ⟨S2048, .i32⟩
  | .hbm, ⟨3, _⟩ => ⟨S2048x1, .i32⟩
  | .hbm, ⟨4, _⟩ => ⟨S1x2048, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S_, .i1⟩
  | .hbm, ⟨24, _⟩ => ⟨S2048x2048, .i1⟩
  | .hbm, ⟨25, _⟩ => ⟨S2048x2048, .i1⟩
  | .hbm, ⟨26, _⟩ => ⟨S2048x2048, .i1⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S256, .i32⟩
  | .hbm, ⟨43, _⟩ => ⟨S256x1, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S_, .i32⟩
  | .hbm, ⟨63, _⟩ => ⟨S_, .i1⟩
  | .hbm, ⟨64, _⟩ => ⟨S256x256, .i1⟩
  | .hbm, ⟨65, _⟩ => ⟨S256x256, .i1⟩
  | .hbm, ⟨66, _⟩ => ⟨S256x256, .i1⟩
  | .hbm, ⟨67, _⟩ => ⟨S256x256, .i32⟩
  | .hbm, ⟨68, _⟩ => ⟨S256x256, .i32⟩
  | .hbm, ⟨69, _⟩ => ⟨S256x256, .i32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S2048x2048, .f32⟩
  | .hbm, ⟨83, _⟩ => ⟨S2048x4096, .f32⟩
  | .hbm, ⟨84, _⟩ => ⟨S2048x4096, .bf16⟩
  | .hbm, ⟨85, _⟩ => ⟨S256x512, .f32⟩
  | .hbm, ⟨86, _⟩ => ⟨S256x512, .bf16⟩
  | .hbm, ⟨87, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S256x512, .bf16⟩
  | .local _ .vmem, ⟨3, _⟩ => ⟨S512x4096, .bf16⟩
  | .local _ .vmem, ⟨4, _⟩ => ⟨S512x4096, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S4096x1024, .bf16⟩
  | _, _ => ⟨S12288x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v22 : Ref sig .tc := ⟨.hbm, 69, rfl⟩
abbrev main_v23 : Ref sig .tc := ⟨.hbm, 70, rfl⟩
abbrev main_cst_3 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_4 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_5 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFtLatIdeal.lean ====
abbrev S12288x8704 : Shape := ⟨2, ![12288, 8704]⟩
abbrev S1024x1024 : Shape := ⟨2, ![1024, 1024]⟩
abbrev S8192x1024 : Shape := ⟨2, ![8192, 1024]⟩
abbrev S4x2048x1024 : Shape := ⟨3, ![4, 2048, 1024]⟩
abbrev S4x2048x4x256 : Shape := ⟨4, ![4, 2048, 4, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x4x256x2048 : Shape := ⟨4, ![4, 4, 256, 2048]⟩

abbrev nBuf : Space → Nat
  | .hbm => 97
  | .vmem => 0
  | .smem => 0
  | _ => 0

abbrev bufTy : (tb : Table) → Fin (tcTables nBuf tb) → BufTy
  | .hbm, ⟨0, _⟩ => ⟨S12288x8704, .f32⟩
  | .hbm, ⟨1, _⟩ => ⟨S1024x1024, .bf16⟩
  | .hbm, ⟨2, _⟩ => ⟨S8192x1024, .f32⟩
  | .hbm, ⟨3, _⟩ => ⟨S4x2048x1024, .f32⟩
  | .hbm, ⟨4, _⟩ => ⟨S4x2048x4x256, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S2048x2048, .i1⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S256, .i32⟩
  | .hbm, ⟨46, _⟩ => ⟨S256x1, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S_, .i32⟩
  | .hbm, ⟨63, _⟩ => ⟨S256x256, .i32⟩
  | .hbm, ⟨64, _⟩ => ⟨S256x256, .i1⟩
  | .hbm, ⟨65, _⟩ => ⟨S_, .i32⟩
  | .hbm, ⟨66, _⟩ => ⟨S_, .i1⟩
  | .hbm, ⟨67, _⟩ => ⟨S256x256, .i1⟩
  | .hbm, ⟨68, _⟩ => ⟨S256x256, .i1⟩
  | .hbm, ⟨69, _⟩ => ⟨S256x256, .i1⟩
  | .hbm, ⟨70, _⟩ => ⟨S256x256, .i32⟩
  | .hbm, ⟨71, _⟩ => ⟨S256x256, .i32⟩
  | .hbm, ⟨72, _⟩ => ⟨S256x256, .i32⟩
  | .hbm, ⟨73, _⟩ => ⟨S256x256, .f32⟩
  | .hbm, ⟨74, _⟩ => ⟨S_, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S_, .f32⟩
  | .hbm, ⟨79, _⟩ => ⟨S256x256, .f32⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S4x2048x4x256, .f32⟩
  | .hbm, ⟨86, _⟩ => ⟨S4x4x256x2048, .f32⟩
  | .hbm, ⟨87, _⟩ => ⟨S4x2048x4x256, .f32⟩
  | .hbm, ⟨88, _⟩ => ⟨S2048x2048, .f32⟩
  | .hbm, ⟨89, _⟩ => ⟨S4x2048x4x256, .f32⟩
  | .hbm, ⟨90, _⟩ => ⟨S4x4x256x2048, .f32⟩
  | .hbm, ⟨91, _⟩ => ⟨S4x2048x4x256, .f32⟩
  | .hbm, ⟨92, _⟩ => ⟨S4x2048x4x256, .f32⟩
  | .hbm, ⟨93, _⟩ => ⟨S8192x1024, .f32⟩
  | .hbm, ⟨94, _⟩ => ⟨S1024x1024, .f32⟩
  | .hbm, ⟨95, _⟩ => ⟨S8192x1024, .f32⟩
  | .hbm, ⟨96, _⟩ => ⟨S8192x1024, .bf16⟩
  | _, _ => ⟨S12288x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_2 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v25 : Ref sig .tc := ⟨.hbm, 72, rfl⟩
abbrev main_v26 : Ref sig .tc := ⟨.hbm, 73, rfl⟩
abbrev main_cst_3 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_5 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩

abbrev nD : Nat := 1
abbrev τ : Topo := Topo.v7x

variable {F : FTy → Type} [FloatOps F]
-- ==== Proof.Softmax.lean ====
/-
  The softmax of a row of scores over the extended reals, as both attentions of this certificate have it: the row's
  largest score (a maximum that starts from minus infinity), the exponentials of the differences, and their quotient
  by their sum. With it, that a zero/one mask over two joined heads picks one head's 64 columns out of a sum.
-/
module

public import Idealize.ShloMosaic.Lib.Pointwise

@[expose] public section

set_option maxRecDepth 16384

noncomputable section

open Idealize.ShloMosaic

namespace Cert.Softmax

/-- The scaled score of one query against one key: the inner product times `1/8`. -/
def score (q k : Fin 64 → EReal) : EReal := (∑ d, q d * k d) * Ideal.ofBits .f32 0x3E000000#32

/-- The largest of a row's scores. -/
def rowMax {N : Nat} (s : Fin N → EReal) : EReal := Finset.univ.fold max (Ideal.ofBits .f32 0xFF800000#32) s

/-- One softmax weight of a row of scores. -/
def weight {N : Nat} (s : Fin N → EReal) (n : Fin N) : EReal :=
  Ideal.div (Ideal.exp (s n - rowMax s)) (∑ n', Ideal.exp (s n' - rowMax s))

/-- A maximum that starts from minus infinity is not changed by one more maximum with it. -/
theorem max_rowMax {N : Nat} (s : Fin N → EReal) : max (Ideal.ofBits .f32 0xFF800000#32) (rowMax s) = rowMax s :=
  max_eq_right ((Finset.le_fold_max _).2 (.inl le_rfl))

/-- The weight with that one more maximum in its two places, as the reference's softmax spells it. -/
theorem weight_of_max {N : Nat} (s : Fin N → EReal) (n : Fin N) :
    Ideal.div (Ideal.exp (s n - max (Ideal.ofBits .f32 0xFF800000#32) (rowMax s)))
      (∑ n', Ideal.exp (s n' - max (Ideal.ofBits .f32 0xFF800000#32) (rowMax s))) = weight s n := by
  rw [max_rowMax]; rfl

/-- The mask of the first head's columns is one there and zero on the second's. -/
theorem mask_apply (l : Fin 128) :
    FloatOps.sitofp (F := Ideal) .f32 (BitVec.setWidth 32 (IntOp.cmpi CmpIPredicate.slt (BitVec.ofNat 32 l.val) 64#32))
      = if l.val < 64 then (1 : EReal) else 0 := by
  have h : BitVec.setWidth 32 (IntOp.cmpi CmpIPredicate.slt (BitVec.ofNat 32 l.val) 64#32) = if l.val < 64 then 1#32 else 0#32 := by
    revert l; decide
  rw [h]
  split <;> simp [FloatOps.sitofp]

/-- One minus the first head's mask is the second head's. -/
theorem one_sub_mask (l : Fin 128) : (1 : EReal) - (if l.val < 64 then (1 : EReal) else 0) = if l.val < 64 then (0 : EReal) else 1 := by
  split
  · exact EReal.sub_self (by decide) (by decide)
  · exact sub_zero _

/-- A product masked to the first head sums over its columns alone. -/
theorem sum_first (f g : Fin 128 → EReal) :
    ∑ d, f d * (if d.val < 64 then (1 : EReal) else 0) * g d = ∑ d : Fin 64, f ⟨d.val, by omega⟩ * g ⟨d.val, by omega⟩ := by
  rw [Fin.sum_univ_two_halves 64 64 rfl]
  simp

/-- A product masked to the second head sums over its columns alone. -/
theorem sum_second (f g : Fin 128 → EReal) :
    ∑ d, f d * (if d.val < 64 then (0 : EReal) else 1) * g d
      = ∑ d : Fin 64, f ⟨64 + d.val, by omega⟩ * g ⟨64 + d.val, by omega⟩ := by
  rw [Fin.sum_univ_two_halves 64 64 rfl]
  simp

end Cert.Softmax

end
-- ==== Proof.CtxAttn.lean ====
/-
  The attention over the context tokens (`Kernel`): one grid point takes one context block of 256 rows and a pair of
  heads side by side in 128 columns. It stacks the queries twice, each copy keeping one head's 64 columns and zero
  elsewhere, so that one product has both heads' scores, takes the softmax over the keys, multiplies by the values, and
  keeps of each copy the columns of its head. At the extended reals a product with zero is zero, so the result array
  is the reference's per-head attention.
-/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Softmax
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelIdeal.RefValue

open Cert.KernelIdeal Cert.KernelIdeal.Gen

variable (m : (ℓ : Loc nD τ sig) → Buf (Elt Ideal) ℓ) (ρ : Dev nD → PrngReg)

/-- What the result array is shown to hold: the reference's last value, of the kernel's arguments. -/
abbrev goal (x0 : FVec Ideal S12288x8704 .f32) :
    FVec Ideal S4096x1024 .bf16 :=
  Cert.ReferenceIdeal.Read.val_main_v23 (F := Ideal) x0

/-- The windows' block indices at every grid point. -/
theorem idx : ∀ t : Fin cfg0.N, win0_0.index t = ![t.val / 8, 8 + t.val % 8] ∧ win0_1.index t = ![t.val / 8, 16 + t.val % 8]
    ∧ win0_2.index t = ![t.val / 8, 24 + t.val % 8] ∧ win0_3.index t = ![t.val / 8, t.val % 8] :=
  (by decide +kernel : ∀ t : Fin grid0.N, _)

open Cert.Softmax

/-- One entry of the attention: the softmax of a query's scores against the keys, times a column of the values. -/
def attend (q : Fin 64 → EReal) (k : Fin 256 → Fin 64 → EReal) (v : Fin 256 → EReal) : EReal :=
  ∑ n, weight (fun n' => score q (k n')) n * v n

/-- What the body stores, over its three blocks: each column attends with its own head's 64 columns. -/
theorem pay_at (q k v : FVec Ideal S256x128 .f32) (r : Fin 256) (l : Fin 128) :
    k0_pay1 (F := Ideal) q k v (ix2 r l)
      = attend (fun d => q (ix2 r ⟨l.val / 64 * 64 + d.val, by omega⟩))
          (fun n d => k (ix2 n ⟨l.val / 64 * 64 + d.val, by omega⟩)) (fun n => v (ix2 n l)) := by
  pointwise [k0_pay1]
  simp only [mask_apply, one_sub_mask, sum_first, sum_second]
  by_cases h : l.val < 64
  · have e (d : Fin 64) : (⟨l.val / 64 * 64 + d.val, by omega⟩ : Fin 128) = ⟨d.val, by omega⟩ := Fin.ext (by dsimp only; omega)
    simp only [h, if_true, mul_one, mul_zero, add_zero, e]
    rfl
  · have e (d : Fin 64) : (⟨l.val / 64 * 64 + d.val, by omega⟩ : Fin 128) = ⟨64 + d.val, by omega⟩ := Fin.ext (by dsimp only; omega)
    simp only [h, if_false, mul_one, mul_zero, zero_add, e]
    rfl

section Reference
open Cert.ReferenceIdeal.Read

/-- A row of one head of the queries, the keys or the values: the 64 columns of head `h` from column `c` on. -/
def headRow (X : FVec Ideal S12288x8704 .f32) (c : Nat) (hc : c + 1024 ≤ 8704) (b h : Fin 16) (r : Fin 256) (d : Fin 64) : EReal :=
  X (ix2 ⟨b.val * 256 + r.val, by omega⟩ ⟨c + (h.val * 64 + d.val), by omega⟩)

/-- The reference's score of query `r` against key `n` in block `b` and head `h`. -/
theorem score_at (X : FVec Ideal S12288x8704 .f32) (b h : Fin 16) (r n : Fin 256) :
    val_main_v8 (F := Ideal) X (ix4 b h r n) = score (headRow X 1024 (by omega) b h r) (headRow X 2048 (by omega) b h n) := by
  pointwise [val_main_v8, val_main_v7, val_main_v6, val_main_v3, val_main_v2, val_main_v1, val_main_v0, val_main_cst]
  rfl

/-- The reference's row maximum with the one more maximum. -/
theorem max_at (X : FVec Ideal S12288x8704 .f32) (i : Cert.ReferenceIdeal.S16x16x256.Idx) :
    val_main_v11 (F := Ideal) X i = max (Ideal.ofBits .f32 0xFF800000#32) (val_main_v9 (F := Ideal) X i) := by
  rw [val_main_v11_apply, val_main_v10_apply, val_main_cst_1_apply]
  rfl

/-- The reference's softmax weight of key `n` for query `r`. -/
theorem weight_at (X : FVec Ideal S12288x8704 .f32) (b h : Fin 16) (r n : Fin 256) :
    val_main_v19 (F := Ideal) X (ix4 b h r n)
      = weight (fun n' => score (headRow X 1024 (by omega) b h r) (headRow X 2048 (by omega) b h n')) n := by
  pointwise [val_main_v19, val_main_v18, val_main_v17, val_main_v16, val_main_v15, val_main_v14, val_main_v13, val_main_v12,
    max_at, val_main_v9, val_main_cst_0, val_main_cst_2, score_at]
  exact weight_of_max _ _

/-- The reference's result at row `i` and column `j`: the attention within the row's block and the column's head. -/
theorem goal_at (X : FVec Ideal S12288x8704 .f32) (i : Fin 4096) (j : Fin 1024) :
    val_main_v23 (F := Ideal) X (ix2 i j)
      = attend (fun d => X (ix2 ⟨i.val, by omega⟩ ⟨1024 + (j.val / 64 * 64 + d.val), by omega⟩))
          (fun n d => X (ix2 ⟨i.val / 256 * 256 + n.val, by omega⟩ ⟨2048 + (j.val / 64 * 64 + d.val), by omega⟩))
          (fun n => X (ix2 ⟨i.val / 256 * 256 + n.val, by omega⟩ ⟨3072 + j.val, by omega⟩)) := by
  have e : i.val / 256 * 256 + i.val % 256 = i.val := by omega
  pointwise [val_main_v23, val_main_v22, val_main_v21, val_main_v20, val_main_v5, val_main_v4, weight_at]
  unfold attend headRow
  simp only [e]
  exact Finset.sum_congr rfl fun n _ => mul_comm _ _

end Reference

/-- What the body stores at index `y` of its block is the reference's value at the array index `y` sits at. -/
theorem point (c : Dev nD) (t : Fin cfg0.N) (y : S256x128.Idx) :
    k0_pay1 (iblk m c 0 t) (iblk m c 1 t) (iblk m c 2 t) y
      = goal (m ((c : Thread nD τ).loc main_arg0)) (((cfg0.win 3).blk t).view.emb y) := by
  rw [eq_ix2 y]
  refine (pay_at _ _ _ (y 0) (y 1)).trans ?_
  rw [eq_ix2 (((cfg0.win 3).blk t).view.emb (ix2 (y 0) (y 1)))]
  refine Eq.trans ?_ (goal_at _ _ _).symm
  refine congr (congrArg₂ attend (funext fun d => ?_) (funext fun n => funext fun d => ?_)) (funext fun n => ?_)
  all_goals blk_point [iblk, V, idx t]

/-- The result array after the run is the reference's value of the arguments: the written blocks tile it. -/
theorem final (c : Dev nD) : (dats m 0 c).arrAt 3 cfg0.N
    = goal (m ((c : Thread nD τ).loc main_arg0)) := by
  refine (dats m 0 c).arrAt_eq_of_covers 3 _ (by decide +kernel) fun t _ y => ?_
  blk_simp
  rw [after0_3]; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v0) = goal (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.RefValue

/-! ## The claims -/

namespace Cert.Proof.CtxClaims

/-- Every weakly fair execution of the kernel ends, with its arguments unchanged and every counter at zero. -/
theorem frame_kernel : Cert.quiescent_Kernel := fun m ρ _ => Cert.Kernel.Gen.frame m ρ

/-- The same of the kernel read at the extended reals. -/
theorem frame_ideal : Cert.quiescent_KernelIdeal := fun m ρ _ => Cert.KernelIdeal.Gen.frame m ρ

/-- The same of the reference, whose program has no counters. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- No operation was rewritten. -/
theorem preserves : Cert.preserves_Kernel_KernelIdeal := trivial

/-- From agreeing arguments the kernel and the reference end with the same result at the extended reals. -/
theorem algebraic : Cert.algebraic_KernelIdeal_ReferenceIdeal := fun m ρ m' ρ' _ hag =>
  ⟨fun c => Cert.KernelIdeal.RefValue.goal (m ((c.tc : Thread Cert.KernelIdeal.nD Cert.KernelIdeal.τ).loc Cert.KernelIdeal.main_arg0)),
    Cert.KernelIdeal.RefValue.run m ρ,
    (θ_run Cert.ReferenceIdeal.defs _ _).mono (fun _ h c => ⟨(h c).1.trans (by
        rw [hag c]; rfl), (h c).2⟩)
      (Cert.ReferenceIdeal.Value.run (F := Ideal) m' ρ')⟩

end Cert.Proof.CtxClaims

end
-- ==== Proof.Up.lean ====
/-
  The up projection of the expert layer (`KernelUp`): one grid point multiplies an expert's tokens by a 256-column tile
  of each of that expert's two weight matrices and gates one product by the other, `a · σ(a) · b`. At the extended
  reals the result array is the reference's: `silu` of the one einsum times the other.
-/
module

public import proofs.«01_k».proof.Defs
public import proofs.«01_k».proof.Proof.Gen.KernelUp.Frame
public import proofs.«01_k».proof.Proof.Gen.KernelUpIdeal.Value
public import proofs.«01_k».proof.Proof.Gen.ReferenceUpIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelUpIdeal.RefValue

open Cert.KernelUpIdeal Cert.KernelUpIdeal.Gen

variable (m : (ℓ : Loc nD τ sig) → Buf (Elt Ideal) ℓ) (ρ : Dev nD → PrngReg)

/-- What the result array is shown to hold: the reference's last value, of the kernel's arguments. -/
abbrev goal (x0 : FVec Ideal S16x1536x4096 .bf16) (x1 : FVec Ideal S2x16x4096x2048 .f32) (x2 : FVec Ideal S2x16x4096x2048 .f32) :
    FVec Ideal S16x1536x2048 .bf16 :=
  Cert.ReferenceUpIdeal.Read.val_main_v9 (F := Ideal) x0 x1 x2

/-- The windows' block indices at every grid point. -/
theorem idx : ∀ t : Fin cfg0.N, win0_0.index t = ![t.val / 8, 0, 0] ∧ win0_1.index t = ![0, t.val / 8, 0, t.val % 8]
    ∧ win0_2.index t = ![0, t.val / 8, 0, t.val % 8] ∧ win0_3.index t = ![t.val / 8, 0, t.val % 8] :=
  (by decide +kernel : ∀ t : Fin grid0.N, _)

/-- What the body stores at index `y` of its block is the reference's value at the array index `y` sits at. -/
theorem point (c : Dev nD) (t : Fin cfg0.N) (y : S1x1536x256.Idx) :
    k0_pay1 (iblk m c 0 t) (iblk m c 1 t) (iblk m c 2 t) y
      = goal (m ((c : Thread nD τ).loc main_arg0)) (m ((c : Thread nD τ).loc main_arg1)) (m ((c : Thread nD τ).loc main_arg2)) (((cfg0.win 3).blk t).view.emb y) := by
  pointwise [k0_pay1, goal, Cert.ReferenceUpIdeal.Read.val_main_v0, Cert.ReferenceUpIdeal.Read.val_main_v1, Cert.ReferenceUpIdeal.Read.val_main_v2, Cert.ReferenceUpIdeal.Read.val_main_v3, Cert.ReferenceUpIdeal.Read.val_main_v4, Cert.ReferenceUpIdeal.Read.val_main_v5, Cert.ReferenceUpIdeal.Read.val_main_v6, Cert.ReferenceUpIdeal.Read.val_main_v7, Cert.ReferenceUpIdeal.Read.val_main_v8, Cert.ReferenceUpIdeal.Read.val_main_v9, Cert.ReferenceUpIdeal.Read.val_main_call0_v0, Cert.ReferenceUpIdeal.Read.val_main_call0_v1, Cert.ReferenceUpIdeal.Read.val_main_call0_v2, Cert.ReferenceUpIdeal.Read.val_main_call0_v3, Cert.ReferenceUpIdeal.Read.val_main_call0_v4, Cert.ReferenceUpIdeal.Read.val_main_call0_v5, Cert.ReferenceUpIdeal.Read.val_main_call0_cst, Cert.ReferenceUpIdeal.Read.val_main_call0_cst_0]
  simp only [Ideal.logistic]
  blk_point [iblk, V, idx t]

/-- The result array after the run is the reference's value of the arguments: the written blocks tile it. -/
theorem final (c : Dev nD) : (dats m 0 c).arrAt 3 cfg0.N
    = goal (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v0) = goal (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelUpIdeal.RefValue

/-! ## The claims -/

namespace Cert.Proof.UpClaims

/-- Every weakly fair execution of the kernel ends, with its arguments unchanged and every counter at zero. -/
theorem frame_kernel : Cert.quiescent_KernelUp := fun m ρ _ => Cert.KernelUp.Gen.frame m ρ

/-- The same of the kernel read at the extended reals. -/
theorem frame_ideal : Cert.quiescent_KernelUpIdeal := fun m ρ _ => Cert.KernelUpIdeal.Gen.frame m ρ

/-- The same of the reference, whose program has no counters. -/
theorem frame_reference : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

/-- No operation was rewritten. -/
theorem preserves : Cert.preserves_KernelUp_KernelUpIdeal := trivial

/-- From agreeing arguments the kernel and the reference end with the same result at the extended reals. -/
theorem algebraic : Cert.algebraic_KernelUpIdeal_ReferenceUpIdeal := fun m ρ m' ρ' _ hag =>
  ⟨fun c => Cert.KernelUpIdeal.RefValue.goal (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)),
    Cert.KernelUpIdeal.RefValue.run m ρ,
    (θ_run Cert.ReferenceUpIdeal.defs _ _).mono (fun _ h c => ⟨(h c).1.trans (by
        rw [(hag c).1, (hag c).2.1, (hag c).2.2]; rfl), (h c).2⟩)
      (Cert.ReferenceUpIdeal.Value.run (F := Ideal) m' ρ')⟩

end Cert.Proof.UpClaims

end
-- ==== Proof.Down.lean ====
/-
  The down projection of the expert layer (`KernelDown`): one grid point multiplies an expert's activations by a
  512-column tile of that expert's weights and scales every row by its routing gate. At the extended reals the result
  array is the reference's: the einsum over the hidden axis, times the gate.
-/
module

public import proofs.«01_k».proof.Defs
public import proofs.«01_k».proof.Proof.Gen.KernelDown.Frame
public import proofs.«01_k».proof.Proof.Gen.KernelDownIdeal.Value
public import proofs.«01_k».proof.Proof.Gen.ReferenceDownIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelDownIdeal.RefValue

open Cert.KernelDownIdeal Cert.KernelDownIdeal.Gen

variable (m : (ℓ : Loc nD τ sig) → Buf (Elt Ideal) ℓ) (ρ : Dev nD → PrngReg)

/-- What the result array is shown to hold: the reference's last value, of the kernel's arguments. -/
abbrev goal (x0 : FVec Ideal S16x1536x2048 .bf16) (x1 : FVec Ideal S2x16x2048x4096 .f32) (x2 : FVec Ideal S16x1536x1 .f32) :
    FVec Ideal S16x1536x4096 .f32 :=
  Cert.ReferenceDownIdeal.Read.val_main_v5 (F := Ideal) x0 x1 x2

/-- The windows' block indices at every grid point. -/
theorem idx : ∀ t : Fin cfg0.N, win0_0.index t = ![t.val / 8, 0, 0] ∧ win0_1.index t = ![0, t.val / 8, 0, t.val % 8]
    ∧ win0_2.index t = ![t.val / 8, 0, 0] ∧ win0_3.index t = ![t.val / 8, 0, t.val % 8] :=
  (by decide +kernel : ∀ t : Fin grid0.N, _)

/-- What the body stores at index `y` of its block is the reference's value at the array index `y` sits at. -/
theorem point (c : Dev nD) (t : Fin cfg0.N) (y : S1x1536x512.Idx) :
    k0_pay1 (iblk m c 0 t) (iblk m c 1 t) (iblk m c 2 t) y
      = goal (m ((c : Thread nD τ).loc main_arg0)) (m ((c : Thread nD τ).loc main_arg1)) (m ((c : Thread nD τ).loc main_arg2)) (((cfg0.win 3).blk t).view.emb y) := by
  pointwise [k0_pay1, goal, Cert.ReferenceDownIdeal.Read.val_main_v0, Cert.ReferenceDownIdeal.Read.val_main_v1, Cert.ReferenceDownIdeal.Read.val_main_v2, Cert.ReferenceDownIdeal.Read.val_main_v3, Cert.ReferenceDownIdeal.Read.val_main_v4, Cert.ReferenceDownIdeal.Read.val_main_v5]
  blk_point [iblk, V, idx t]

/-- The result array after the run is the reference's value of the arguments: the written blocks tile it. -/
theorem final (c : Dev nD) : (dats m 0 c).arrAt 3 cfg0.N
    = goal (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v0) = goal (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelDownIdeal.RefValue

/-! ## The claims -/

namespace Cert.Proof.DownClaims

/-- Every weakly fair execution of the kernel ends, with its arguments unchanged and every counter at zero. -/
theorem frame_kernel : Cert.quiescent_KernelDown := fun m ρ _ => Cert.KernelDown.Gen.frame m ρ

/-- The same of the kernel read at the extended reals. -/
theorem frame_ideal : Cert.quiescent_KernelDownIdeal := fun m ρ _ => Cert.KernelDownIdeal.Gen.frame m ρ

/-- The same of the reference, whose program has no counters. -/
theorem frame_reference : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

/-- No operation was rewritten. -/
theorem preserves : Cert.preserves_KernelDown_KernelDownIdeal := trivial

/-- From agreeing arguments the kernel and the reference end with the same result at the extended reals. -/
theorem algebraic : Cert.algebraic_KernelDownIdeal_ReferenceDownIdeal := fun m ρ m' ρ' _ hag =>
  ⟨fun c => Cert.KernelDownIdeal.RefValue.goal (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)),
    Cert.KernelDownIdeal.RefValue.run m ρ,
    (θ_run Cert.ReferenceDownIdeal.defs _ _).mono (fun _ h c => ⟨(h c).1.trans (by
        rw [(hag c).1, (hag c).2.1, (hag c).2.2]; rfl), (h c).2⟩)
      (Cert.ReferenceDownIdeal.Value.run (F := Ideal) m' ρ')⟩

end Cert.Proof.DownClaims

end
-- ==== Proof.InProj.lean ====
/-
  The fused in-projection (`KernelIn`): one grid point multiplies 1024 token rows by a 512-column tile of the joined
  weights. At the extended reals the result array is the reference's matrix product.
-/
module

public import proofs.«01_k».proof.Defs
public import proofs.«01_k».proof.Proof.Gen.KernelIn.Frame
public import proofs.«01_k».proof.Proof.Gen.KernelInIdeal.Value
public import proofs.«01_k».proof.Proof.Gen.ReferenceInIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelInIdeal.RefValue

open Cert.KernelInIdeal Cert.KernelInIdeal.Gen

variable (m : (ℓ : Loc nD τ sig) → Buf (Elt Ideal) ℓ) (ρ : Dev nD → PrngReg)

/-- What the result array is shown to hold: the reference's last value, of the kernel's arguments. -/
abbrev goal (x0 : FVec Ideal S12288x4096 .bf16) (x1 : FVec Ideal S4096x8704 .bf16) :
    FVec Ideal S1x12288x8704 .f32 :=
  Cert.ReferenceInIdeal.Read.val_main_v3 (F := Ideal) x0 x1

/-- The windows' block indices at every grid point. -/
theorem idx : ∀ t : Fin cfg0.N, True ∧ win0_0.index t = ![0, t.val / 17, 0] ∧ win0_1.index t = ![0, 0, t.val % 17]
    ∧ win0_2.index t = ![0, t.val / 17, t.val % 17] :=
  (by decide +kernel : ∀ t : Fin grid0.N, _)

/-- What the body stores at index `y` of its block is the reference's value at the array index `y` sits at. -/
theorem point (c : Dev nD) (t : Fin cfg0.N) (y : S1x1024x512.Idx) :
    k0_pay1 (iblk m c 0 t) (iblk m c 1 t) y
      = goal (m ((c : Thread nD τ).loc main_arg0)) (m ((c : Thread nD τ).loc main_arg1)) (((cfg0.win 2).blk t).view.emb y) := by
  pointwise [k0_pay1, goal, Cert.ReferenceInIdeal.Read.val_main_v0, Cert.ReferenceInIdeal.Read.val_main_v1, Cert.ReferenceInIdeal.Read.val_main_v2, Cert.ReferenceInIdeal.Read.val_main_v3]
  blk_point [iblk, V, idx t]

/-- The result array after the run is the reference's value of the arguments: the written blocks tile it. -/
theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v2) = goal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelInIdeal.RefValue

/-! ## The claims -/

namespace Cert.Proof.InClaims

/-- Every weakly fair execution of the kernel ends, with its arguments unchanged and every counter at zero. -/
theorem frame_kernel : Cert.quiescent_KernelIn := fun m ρ _ => Cert.KernelIn.Gen.frame m ρ

/-- The same of the kernel read at the extended reals. -/
theorem frame_ideal : Cert.quiescent_KernelInIdeal := fun m ρ _ => Cert.KernelInIdeal.Gen.frame m ρ

/-- The same of the reference, whose program has no counters. -/
theorem frame_reference : Cert.quiescent_ReferenceInIdeal := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

/-- No operation was rewritten. -/
theorem preserves : Cert.preserves_KernelIn_KernelInIdeal := trivial

/-- From agreeing arguments the kernel and the reference end with the same result at the extended reals. -/
theorem algebraic : Cert.algebraic_KernelInIdeal_ReferenceInIdeal := fun m ρ m' ρ' _ hag =>
  ⟨fun c => Cert.KernelInIdeal.RefValue.goal (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)),
    Cert.KernelInIdeal.RefValue.run m ρ,
    (θ_run Cert.ReferenceInIdeal.defs _ _).mono (fun _ h c => ⟨(h c).1.trans (by
        rw [(hag c).1, (hag c).2]; rfl), (h c).2⟩)
      (Cert.ReferenceInIdeal.Value.run (F := Ideal) m' ρ')⟩

end Cert.Proof.InClaims

end
-- ==== Proof.OutProj.lean ====
/-
  The out-projection over the four branches (`KernelOut`): one grid point multiplies the 1024-row block of each of the
  four branch outputs by its quarter of a 512-column tile of the weights and adds the four products. At the extended
  reals the result array is the reference's: the four branches concatenated, times the weights.
-/
module

public import proofs.«01_k».proof.Defs
public import proofs.«01_k».proof.Proof.Gen.KernelOut.Frame
public import proofs.«01_k».proof.Proof.Gen.KernelOutIdeal.Value
public import proofs.«01_k».proof.Proof.Gen.ReferenceOutIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelOutIdeal.RefValue

open Cert.KernelOutIdeal Cert.KernelOutIdeal.Gen

variable (m : (ℓ : Loc nD τ sig) → Buf (Elt Ideal) ℓ) (ρ : Dev nD → PrngReg)

/-- What the result array is shown to hold: the reference's last value, of the kernel's arguments. -/
abbrev goal (x0 : FVec Ideal S12288x1024 .bf16) (x1 : FVec Ideal S12288x1024 .bf16) (x2 : FVec Ideal S12288x1024 .bf16) (x3 : FVec Ideal S12288x1024 .bf16) (x4 : FVec Ideal S2x4096x4096 .f32) :
    FVec Ideal S12288x4096 .f32 :=
  Cert.ReferenceOutIdeal.Read.val_main_v4 (F := Ideal) x0 x1 x2 x3 x4

/-- The windows' block indices at every grid point. -/
theorem idx : ∀ t : Fin cfg0.N, win0_0.index t = ![t.val / 8, 0] ∧ win0_1.index t = ![t.val / 8, 0] ∧ win0_2.index t = ![t.val / 8, 0]
    ∧ win0_3.index t = ![t.val / 8, 0] ∧ win0_4.index t = ![0, 0, t.val % 8] ∧ win0_5.index t = ![t.val / 8, t.val % 8] :=
  (by decide +kernel : ∀ t : Fin grid0.N, _)

/-- A sum over the 4096 joined columns, branch by branch. -/
theorem sum_quarters (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [Fin.sum_univ_tiles 4 1024 rfl f, Fin.sum_univ_four]
  refine congrArg₂ (· + ·) (congrArg₂ (· + ·) (congrArg₂ (· + ·) ?_ ?_) ?_) ?_ <;>
    exact Finset.sum_congr rfl fun k _ => congrArg f (Fin.ext (by simp))

/-- The result array after the run is the reference's value of the arguments: the written blocks tile it. -/
theorem final (c : Dev nD) : (dats m 0 c).arrAt 5 cfg0.N
    = goal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay1, goal, Cert.ReferenceOutIdeal.Read.val_main_v0, Cert.ReferenceOutIdeal.Read.val_main_v1, Cert.ReferenceOutIdeal.Read.val_main_v2, Cert.ReferenceOutIdeal.Read.val_main_v3, Cert.ReferenceOutIdeal.Read.val_main_v4]
  rw [sum_quarters]
  refine congrArg₂ (· + ·) (congrArg₂ (· + ·) (congrArg₂ (· + ·) ?_ ?_) ?_) ?_ <;>
    refine Finset.sum_congr rfl fun x _ => ?_ <;>
    simp (disch := omega) only [dif_pos, dif_neg] <;>
    blk_point [iblk, V, idx t]

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v0) = goal (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelOutIdeal.RefValue

/-! ## The claims -/

namespace Cert.Proof.OutClaims

/-- Every weakly fair execution of the kernel ends, with its arguments unchanged and every counter at zero. -/
theorem frame_kernel : Cert.quiescent_KernelOut := fun m ρ _ => Cert.KernelOut.Gen.frame m ρ

/-- The same of the kernel read at the extended reals. -/
theorem frame_ideal : Cert.quiescent_KernelOutIdeal := fun m ρ _ => Cert.KernelOutIdeal.Gen.frame m ρ

/-- The same of the reference, whose program has no counters. -/
theorem frame_reference : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

/-- No operation was rewritten. -/
theorem preserves : Cert.preserves_KernelOut_KernelOutIdeal := trivial

/-- From agreeing arguments the kernel and the reference end with the same result at the extended reals. -/
theorem algebraic : Cert.algebraic_KernelOutIdeal_ReferenceOutIdeal := fun m ρ m' ρ' _ hag =>
  ⟨fun c => Cert.KernelOutIdeal.RefValue.goal (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)),
    Cert.KernelOutIdeal.RefValue.run m ρ,
    (θ_run Cert.ReferenceOutIdeal.defs _ _).mono (fun _ h c => ⟨(h c).1.trans (by
        rw [(hag c).1, (hag c).2.1, (hag c).2.2.1, (hag c).2.2.2.1, (hag c).2.2.2.2]; rfl), (h c).2⟩)
      (Cert.ReferenceOutIdeal.Value.run (F := Ideal) m' ρ')⟩

end Cert.Proof.OutClaims

end
-- ==== Proof.Window.lean ====
/-
  The softmax over a masked window, over the extended reals. A row of 512 window scores is minus infinity outside 16
  columns of each of its 8 grid rows; together with 256 further scores it has the same maximum, the same sum of
  exponentials and the same weighted sums as the row of the 8 × 16 remaining scores and the 256 further ones. Where the
  scores are finite the sum of exponentials is not zero, so a product with its reciprocal is the quotient.
-/
module

public import proofs.«01_k».proof.Proof.Softmax
public import Idealize.ShloMosaic.Lib.IdealHost

@[expose] public section

set_option maxRecDepth 16384

noncomputable section

open Idealize.ShloMosaic

namespace Cert.Softmax

/-! ## Finite values -/

/-- An extended real that is a real number. -/
def IsReal (x : EReal) : Prop := ∃ r : ℝ, x = (r : EReal)

/-- A product of real numbers is one. -/
theorem IsReal.mul {x y : EReal} : IsReal x → IsReal y → IsReal (x * y)
  | ⟨a, ha⟩, ⟨b, hb⟩ => ⟨a * b, by rw [ha, hb, EReal.coe_mul]⟩

/-- A sum of two real numbers is one. -/
theorem IsReal.add {x y : EReal} : IsReal x → IsReal y → IsReal (x + y)
  | ⟨a, ha⟩, ⟨b, hb⟩ => ⟨a + b, by rw [ha, hb, EReal.coe_add]⟩

/-- A finite sum of real numbers is one. -/
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- A real number is not plus infinity. -/
theorem IsReal.ne_top {x : EReal} : IsReal x → x ≠ ⊤
  | ⟨_, h⟩ => h ▸ EReal.coe_ne_top _

/-- A real number is not minus infinity. -/
theorem IsReal.ne_bot {x : EReal} : IsReal x → x ≠ ⊥
  | ⟨_, h⟩ => h ▸ EReal.coe_ne_bot _

/-- An extended real that is neither infinity is a real number. -/
theorem isReal_of_ne {x : EReal} (ht : x ≠ ⊤) (hb : x ≠ ⊥) : IsReal x := ⟨x.toReal, (EReal.coe_toReal ht hb).symm⟩

/-- The pattern of the scale `1/8` is a real number. -/
theorem isReal_scale : IsReal (Ideal.ofBits .f32 0x3E000000#32) := by
  refine isReal_of_ne ?_ ?_ <;> simp [Ideal.ofBits, Ideal.ieee, -EReal.coe_mul]

/-- A value whose magnitude compares below +∞ is a real number. -/
theorem real_of_below (x : Ideal .f32)
    (h : FloatOps.cmpf .olt (FloatOps.hostAbsf x) (FloatOps.ofBits (F := Ideal) .f32 0x7F800000#32) = 1#1) : IsReal x := by
  have ht : Ideal.ofBits .f32 0x7F800000#32 = ⊤ := by simp [Ideal.ofBits, Ideal.ieee]
  have hc : BitVec.ofBool (decide (max (x : EReal) (-(x : EReal)) < Ideal.ofBits .f32 0x7F800000#32)) = 1#1 := h
  rw [ht] at hc
  have hl : max (x : EReal) (-(x : EReal)) < ⊤ := by
    by_contra hn
    rw [decide_eq_false hn] at hc
    exact absurd hc (by decide)
  refine isReal_of_ne (ne_top_of_lt ((le_max_left _ _).trans_lt hl)) fun hb => ?_
  rw [hb] at hl
  simp at hl

/-- The pattern of minus infinity. -/
theorem ofBits_neg_inf : Ideal.ofBits .f32 0xFF800000#32 = ⊥ := by
  simp [Ideal.ofBits, Ideal.ieee]

/-- The score of finite queries and keys is finite. -/
theorem isReal_score {q k : Fin 64 → EReal} (hq : ∀ d, IsReal (q d)) (hk : ∀ d, IsReal (k d)) : IsReal (score q k) :=
  (IsReal.sum _ _ fun d => (hq d).mul (hk d)).mul isReal_scale

/-! ## The row maximum and the exponentials -/

/-- A row's maximum is below a bound when all its scores are. -/
theorem rowMax_le {N : Nat} {s : Fin N → EReal} {x : EReal} : rowMax s ≤ x ↔ ∀ n, s n ≤ x := by
  rw [rowMax, ofBits_neg_inf, Finset.fold_max_le]
  simp

/-- A row without plus infinity has a maximum below it. -/
theorem rowMax_ne_top {N : Nat} {s : Fin N → EReal} (h : ∀ n, s n ≠ ⊤) : rowMax s ≠ ⊤ := by
  rw [← lt_top_iff_ne_top, rowMax, ofBits_neg_inf, Finset.fold_max_lt]
  exact ⟨bot_lt_top, fun n _ => lt_top_iff_ne_top.2 (h n)⟩

/-- The exponential is nowhere negative. -/
theorem exp_nonneg (x : EReal) : 0 ≤ Ideal.exp x := by
  induction x with
  | bot => exact le_rfl
  | top => exact le_top
  | coe r => exact EReal.coe_nonneg.2 (Real.exp_pos r).le

/-- The exponential of a real number is positive. -/
theorem exp_pos {x : EReal} : IsReal x → 0 < Ideal.exp x
  | ⟨r, h⟩ => h ▸ EReal.coe_pos.2 (Real.exp_pos r)

/-- The exponential of minus infinity less anything is zero. -/
theorem exp_bot_sub (x : EReal) : Ideal.exp (⊥ - x) = 0 := by
  rw [sub_eq_add_neg, EReal.bot_add]; rfl

/-! ## The window -/

/-- The window's place of neighbour `(i, j)` where the neighbours start at column `c`. -/
def place (c : Nat) (hc : c ≤ 48) (p : Fin 8 × Fin 16) : Fin 512 := ⟨p.1.val * 64 + (c + p.2.val), by omega⟩

/-- Distinct neighbours have distinct places. -/
theorem place_injective (c : Nat) (hc : c ≤ 48) : Function.Injective (place c hc) := by
  rintro ⟨i, j⟩ ⟨i', j'⟩ h
  have h' : i.val * 64 + (c + j.val) = i'.val * 64 + (c + j'.val) := congrArg Fin.val h
  exact Prod.ext (Fin.ext (by dsimp only; omega)) (Fin.ext (by dsimp only; omega))

/-- A place outside the neighbours' columns is no neighbour's, and the other way round. -/
theorem not_mem_place {c : Nat} {hc : c ≤ 48} {w : Fin 512} (h : w ∉ Set.range (place c hc)) :
    ¬(c ≤ w.val % 64 ∧ w.val % 64 < c + 16) := fun ⟨h1, h2⟩ =>
  h ⟨(⟨w.val / 64, by omega⟩, ⟨w.val % 64 - c, by omega⟩), Fin.ext (by dsimp only [place]; omega)⟩

/-- The 8 × 16 neighbours' scores and the 256 further scores, as one row. -/
def joined (s : Fin 8 × Fin 16 → EReal) (sc : Fin 256 → EReal) (n : Fin 384) : EReal :=
  if h : n.val < 128 then s (⟨n.val / 16, by omega⟩, ⟨n.val % 16, by omega⟩) else sc ⟨n.val - 128, by omega⟩

/-- The joined row at a neighbour. -/
theorem joined_first (s : Fin 8 × Fin 16 → EReal) (sc : Fin 256 → EReal) (i : Fin 8) (j : Fin 16) :
    joined s sc ⟨i.val * 16 + j.val, by omega⟩ = s (i, j) := by
  unfold joined
  rw [dif_pos (by dsimp only; omega)]
  exact congrArg s (Prod.ext (Fin.ext (by dsimp only; omega)) (Fin.ext (by dsimp only; omega)))

/-- The joined row at a further score. -/
theorem joined_second (s : Fin 8 × Fin 16 → EReal) (sc : Fin 256 → EReal) (n : Fin 256) :
    joined s sc ⟨128 + n.val, by omega⟩ = sc n := by
  unfold joined
  rw [dif_neg (by dsimp only; omega)]
  exact congrArg sc (Fin.ext (by dsimp only; omega))

/-- A sum over the joined row is the sum over the neighbours and the sum over the further scores. -/
theorem sum_joined (f : Fin 384 → EReal) :
    ∑ n, f n = (∑ p : Fin 8 × Fin 16, f ⟨p.1.val * 16 + p.2.val, by omega⟩) + ∑ n : Fin 256, f ⟨128 + n.val, by omega⟩ := by
  rw [Fin.sum_univ_two_halves 128 256 rfl, Fin.sum_univ_tiles 8 16 rfl, Fintype.sum_prod_type]

/-- The softmax over the window's and the further scores, with one reciprocal for all weights, against the values. -/
def windowed (sl : Fin 512 → EReal) (sc : Fin 256 → EReal) (v : Fin 512 → EReal) (vc : Fin 256 → EReal) : EReal :=
  (∑ w, Ideal.exp (sl w - max (rowMax sl) (rowMax sc))
      * Ideal.div 1 ((∑ w, Ideal.exp (sl w - max (rowMax sl) (rowMax sc))) + ∑ n, Ideal.exp (sc n - max (rowMax sl) (rowMax sc))) * v w)
    + (∑ n, Ideal.exp (sc n - max (rowMax sl) (rowMax sc))
        * Ideal.div 1 ((∑ w, Ideal.exp (sl w - max (rowMax sl) (rowMax sc))) + ∑ n, Ideal.exp (sc n - max (rowMax sl) (rowMax sc))) * vc n)

/-- The softmax over the joined row, against the neighbours' values and the further values. -/
def attended (s : Fin 8 × Fin 16 → EReal) (sc : Fin 256 → EReal) (v : Fin 8 × Fin 16 → EReal) (vc : Fin 256 → EReal) : EReal :=
  (∑ p : Fin 8 × Fin 16, weight (joined s sc) ⟨p.1.val * 16 + p.2.val, by omega⟩ * v p)
    + ∑ n : Fin 256, weight (joined s sc) ⟨128 + n.val, by omega⟩ * vc n

variable (c : Nat) (hc : c ≤ 48) (sl : Fin 512 → EReal) (sc : Fin 256 → EReal)

/-- The row of the neighbours' scores alone, joined with the further scores. -/
abbrev near : Fin 384 → EReal := joined (fun p => sl (place c hc p)) sc

/-- The masked window's maximum is the neighbours'. -/
theorem max_near (hout : ∀ w : Fin 512, ¬(c ≤ w.val % 64 ∧ w.val % 64 < c + 16) → sl w = ⊥) :
    max (rowMax sl) (rowMax sc) = rowMax (near c hc sl sc) := by
  refine eq_of_forall_ge_iff fun x => ?_
  rw [max_le_iff, rowMax_le, rowMax_le, rowMax_le]
  constructor
  · rintro ⟨h1, h2⟩ n
    unfold near joined
    split
    · exact h1 _
    · exact h2 _
  · refine fun h => ⟨fun w => ?_, fun n => joined_second (fun p => sl (place c hc p)) sc n ▸ h _⟩
    by_cases hw : w ∈ Set.range (place c hc)
    · obtain ⟨⟨i, j⟩, rfl⟩ := hw
      exact joined_first (fun p => sl (place c hc p)) sc i j ▸ h _
    · rw [hout w (not_mem_place hw)]; exact bot_le

/-- A sum of the masked window's exponentials against any values is the sum over the neighbours. -/
theorem sum_near (hout : ∀ w : Fin 512, ¬(c ≤ w.val % 64 ∧ w.val % 64 < c + 16) → sl w = ⊥) (M : EReal)
    (f : Fin 512 → EReal → EReal) (hf : ∀ w, f w 0 = 0) :
    ∑ w, f w (Ideal.exp (sl w - M)) = ∑ p : Fin 8 × Fin 16, f (place c hc p) (Ideal.exp (sl (place c hc p) - M)) :=
  (Fintype.sum_of_injective (place c hc) (place_injective c hc) _ _
    (fun w hw => by rw [hout w (not_mem_place hw), exp_bot_sub, hf]) fun _ => rfl).symm

/-- The sum of the exponentials of a row with a finite score and none plus infinity is not zero. -/
theorem sum_exp_ne_zero {N : Nat} (s : Fin N → EReal) (n : Fin N) (hn : IsReal (s n)) (ht : ∀ n, s n ≠ ⊤) :
    ∑ n', Ideal.exp (s n' - rowMax s) ≠ 0 := by
  have hM : IsReal (rowMax s) := isReal_of_ne (rowMax_ne_top ht) fun h => hn.ne_bot (le_bot_iff.1 (h ▸ rowMax_le.1 le_rfl n))
  obtain ⟨a, ha⟩ := hn
  obtain ⟨b, hb⟩ := hM
  have h1 : 0 < Ideal.exp (s n - rowMax s) := exp_pos ⟨a - b, by rw [ha, hb, EReal.coe_sub]⟩
  exact (h1.trans_le (Finset.single_le_sum (f := fun n' => Ideal.exp (s n' - rowMax s)) (fun i _ => exp_nonneg _) (Finset.mem_univ n))).ne'

/-- The masked window's weighted sums with the reciprocal of the sum of exponentials are the weighted sums of the
    softmax over the neighbours and the further scores. -/
theorem window_eq (hout : ∀ w : Fin 512, ¬(c ≤ w.val % 64 ∧ w.val % 64 < c + 16) → sl w = ⊥)
    (hl : ∀ w, sl w ≠ ⊤) (hs : ∀ n, IsReal (sc n)) (v : Fin 512 → EReal) (vc : Fin 256 → EReal) :
    windowed sl sc v vc = attended (fun p => sl (place c hc p)) sc (fun p => v (place c hc p)) vc := by
  unfold windowed attended
  have hd : (∑ w, Ideal.exp (sl w - rowMax (near c hc sl sc))) + ∑ n, Ideal.exp (sc n - rowMax (near c hc sl sc))
      = ∑ n, Ideal.exp (near c hc sl sc n - rowMax (near c hc sl sc)) := by
    rw [sum_joined, sum_near c hc sl hout _ (fun _ x => x) fun _ => rfl]
    exact congrArg₂ (· + ·) (Finset.sum_congr rfl fun p _ => by rw [near, joined_first])
      (Finset.sum_congr rfl fun n _ => by rw [near, joined_second])
  have hne : ∑ n, Ideal.exp (near c hc sl sc n - rowMax (near c hc sl sc)) ≠ 0 := by
    refine sum_exp_ne_zero _ ⟨128, by omega⟩ ?_ fun n => ?_
    · have h := joined_second (fun p => sl (place c hc p)) sc ⟨0, by omega⟩
      exact (congrArg IsReal h).mpr (hs _)
    · unfold near joined
      split
      · exact hl _
      · exact (hs _).ne_top
  rw [max_near c hc sl sc hout, hd]
  simp only [Ideal.mul_one_div hne]
  rw [sum_near c hc sl hout _ (fun w x => Ideal.div x _ * v w) fun w => by rw [Ideal.zero_div hne, zero_mul]]
  exact congrArg₂ (· + ·) (Finset.sum_congr rfl fun p _ => by rw [weight, joined_first])
    (Finset.sum_congr rfl fun n _ => by rw [weight, joined_second])

end Cert.Softmax

end
-- ==== Proof.NbrBody.lean ====
/-
  What the neighbourhood attention's body (`KernelNa`) stores for one pair of heads, over the blocks it loads.
-/
module

public import proofs.«01_k».proof.Proof.Gen.KernelNaIdeal.Skeleton
public import proofs.«01_k».proof.Proof.Window
public import Idealize.ShloMosaic.Lib.Pipeline.ValueKit

@[expose] public section

set_option maxRecDepth 16384

noncomputable section

open Idealize.ShloMosaic Idealize.ShloMosaic.TcCoe
open Cert.Softmax

namespace Cert.KernelNaIdeal.Body

open Cert.KernelNaIdeal Cert.KernelNaIdeal.Gen

/-- The stacked queries: two copies, each with one head's columns and zero elsewhere. -/
abbrev stacked (q : Vec Ideal S64x128 .f32) : FVec Ideal S128x128 .bf16 := k0_pay7 (F := Ideal) q q

/-- The window's scores with their biases, of both heads. -/
abbrev near (q : Vec Ideal S64x128 .f32) (k : Vec Ideal S512x128 .f32) (b : Vec Ideal S1x2x64x512 .f32) : FVec Ideal S128x512 .f32 :=
  k0_pay11 (F := Ideal) (stacked q) k b

/-- The context's scores, of both heads. -/
abbrev far (q : Vec Ideal S64x128 .f32) (kc : Vec Ideal S1x256x128 .f32) : FVec Ideal S128x256 .f32 :=
  k0_pay15 (F := Ideal) (stacked q) kc

/-- The softmax of the scores against the values, of both heads and on all 128 columns. -/
abbrev both (s : FVec Ideal S128x512 .f32) (sc : FVec Ideal S128x256 .f32) (v : Vec Ideal S512x128 .f32) (vc : Vec Ideal S1x256x128 .f32) :
    FVec Ideal S128x128 .f32 :=
  k0_pay37 (F := Ideal) (k0_pay25 s sc) (k0_pay29 s sc) (k0_pay33 s sc) v vc

/-- What the body stores for one pair of heads. -/
def stored (q : Vec Ideal S64x128 .f32) (k v : Vec Ideal S512x128 .f32) (kc vc : Vec Ideal S1x256x128 .f32)
    (b : Vec Ideal S1x2x64x512 .f32) : FVec Ideal S64x128 .bf16 :=
  k0_pay2 (F := Ideal) k0_pay5 k0_pay6 (both (near q k b) (far q kc) v vc)

/-- The window's score of query `r` of head `h` against key `w`, with its bias. -/
theorem near_at (q : Vec Ideal S64x128 .f32) (k : Vec Ideal S512x128 .f32) (b : Vec Ideal S1x2x64x512 .f32) (h : Fin 2) (r : Fin 64) (w : Fin 512) :
    near q k b (ix2 ⟨h.val * 64 + r.val, by omega⟩ w)
      = score (fun d => q (ix2 r ⟨h.val * 64 + d.val, by omega⟩)) (fun d => k (ix2 w ⟨h.val * 64 + d.val, by omega⟩)) + b (ix4 0 h r w) := by
  pointwise [k0_pay11, k0_pay7, k0_pay6, k0_pay5]
  refine congrArg (· * Ideal.ofBits .f32 0x3E000000#32 + b (ix4 0 h r w)) ?_
  simp only [mask_apply, one_sub_mask]
  obtain ⟨h, hh⟩ := h
  obtain rfl | rfl : h = 0 ∨ h = 1 := by omega
  · simp (disch := omega) only [dif_pos, sum_first]
    simp only [Nat.zero_mul, Nat.zero_add]
  · simp (disch := omega) only [dif_neg, sum_second]
    simp only [Nat.one_mul, Nat.add_sub_cancel_left]

/-- The context's score of query `r` of head `h` against key `n`. -/
theorem far_at (q : Vec Ideal S64x128 .f32) (kc : Vec Ideal S1x256x128 .f32) (h : Fin 2) (r : Fin 64) (n : Fin 256) :
    far q kc (ix2 ⟨h.val * 64 + r.val, by omega⟩ n)
      = score (fun d => q (ix2 r ⟨h.val * 64 + d.val, by omega⟩)) (fun d => kc (ix3 0 n ⟨h.val * 64 + d.val, by omega⟩)) := by
  pointwise [k0_pay15, k0_pay7, k0_pay6, k0_pay5]
  refine congrArg (· * Ideal.ofBits .f32 0x3E000000#32) ?_
  simp only [mask_apply, one_sub_mask]
  obtain ⟨h, hh⟩ := h
  obtain rfl | rfl : h = 0 ∨ h = 1 := by omega
  · simp (disch := omega) only [dif_pos, sum_first]
    simp only [Nat.zero_mul, Nat.zero_add]
  · simp (disch := omega) only [dif_neg, sum_second]
    simp only [Nat.one_mul, Nat.add_sub_cancel_left]

/-- A row and column of the softmax against the values. -/
theorem both_at (s : FVec Ideal S128x512 .f32) (sc : FVec Ideal S128x256 .f32) (v : Vec Ideal S512x128 .f32) (vc : Vec Ideal S1x256x128 .f32) (r l : Fin 128) :
    both s sc v vc (ix2 r l)
      = windowed (fun w => s (ix2 r w)) (fun n => sc (ix2 r n)) (fun w => v (ix2 w l)) (fun n => vc (ix3 0 n l)) := by
  pointwise [k0_pay37, k0_pay25, k0_pay29, k0_pay33, k0_pay21]
  rfl

/-- The two copies are joined by keeping of each the columns of its head. -/
theorem join_at (o : FVec Ideal S128x128 .f32) (r : Fin 64) (l : Fin 128) :
    k0_pay2 (F := Ideal) k0_pay5 k0_pay6 o (ix2 r l) = o (ix2 ⟨l.val / 64 * 64 + r.val, by omega⟩ l) := by
  pointwise [k0_pay2, k0_pay6, k0_pay5]
  simp only [mask_apply, one_sub_mask]
  by_cases h : l.val < 64
  · have e : (⟨l.val / 64 * 64 + r.val, by omega⟩ : Fin 128) = ⟨r.val, by omega⟩ := Fin.ext (by dsimp only; omega)
    simp only [h, if_true, mul_one, mul_zero, add_zero, e]
  · have e : (⟨l.val / 64 * 64 + r.val, by omega⟩ : Fin 128) = ⟨64 + r.val, by omega⟩ := Fin.ext (by dsimp only; omega)
    simp only [h, if_false, mul_one, mul_zero, zero_add, e]

/-- What the body stores for a pair of heads, at query `r` and column `l`: the windowed softmax of the column's head. -/
theorem stored_at (q : Vec Ideal S64x128 .f32) (k v : Vec Ideal S512x128 .f32) (kc vc : Vec Ideal S1x256x128 .f32)
    (b : Vec Ideal S1x2x64x512 .f32) (r : Fin 64) (l : Fin 128) :
    stored q k v kc vc b (ix2 r l)
      = windowed
          (fun w => score (fun d => q (ix2 r ⟨l.val / 64 * 64 + d.val, by omega⟩)) (fun d => k (ix2 w ⟨l.val / 64 * 64 + d.val, by omega⟩))
            + b (ix4 0 ⟨l.val / 64, by omega⟩ r w))
          (fun n => score (fun d => q (ix2 r ⟨l.val / 64 * 64 + d.val, by omega⟩)) (fun d => kc (ix3 0 n ⟨l.val / 64 * 64 + d.val, by omega⟩)))
          (fun w => v (ix2 w l)) (fun n => vc (ix3 0 n l)) := by
  unfold stored
  rw [join_at, both_at]
  have e1 := fun w => near_at q k b ⟨l.val / 64, by omega⟩ r w
  have e2 := fun n => far_at q kc ⟨l.val / 64, by omega⟩ r n
  simp only [e1, e2]

/-! ## The four pairs' payloads are the same function of what they load -/

theorem pair0 (q : Vec Ideal S64x128 .f32) (k v : Vec Ideal S512x128 .f32) (kc vc : Vec Ideal S1x256x128 .f32) (b : Vec Ideal S1x2x64x512 .f32) :
    k0_pay1 (F := Ideal) k0_pay6
      (k0_pay37 (k0_pay25 (k0_pay11 (k0_pay7 q q) k b) (k0_pay15 (k0_pay7 q q) kc)) (k0_pay29 (k0_pay11 (k0_pay7 q q) k b) (k0_pay15 (k0_pay7 q q) kc))
        (k0_pay33 (k0_pay11 (k0_pay7 q q) k b) (k0_pay15 (k0_pay7 q q) kc)) v vc)
      (k0_pay42 k0_pay5
        (k0_pay37 (k0_pay25 (k0_pay11 (k0_pay7 q q) k b) (k0_pay15 (k0_pay7 q q) kc)) (k0_pay29 (k0_pay11 (k0_pay7 q q) k b) (k0_pay15 (k0_pay7 q q) kc))
          (k0_pay33 (k0_pay11 (k0_pay7 q q) k b) (k0_pay15 (k0_pay7 q q) kc)) v vc))
      = stored q k v kc vc b := rfl

end Cert.KernelNaIdeal.Body

end
-- ==== Proof.NbrTables.lean ====
/-
  The neighbourhood attention's reference (`ReferenceNa`): which row, column and bias each of its gathers reads. The
  neighbours of a query at row `r`, column `q` are the 8 rows from `rowStart r` on and the 16 columns from
  `colStart q` on; the bias of a neighbour depends on its offset from the query.
-/
module

public import proofs.«01_k».proof.Proof.Gen.ReferenceNaIdeal.Read
public import Idealize.ShloMosaic.Lib.Pipeline.ValueKit

@[expose] public section

set_option maxRecDepth 16384

noncomputable section

open Idealize.ShloMosaic Idealize.ShloMosaic.TcCoe

namespace Cert.ReferenceNaIdeal.Tables

open Cert.ReferenceNaIdeal Cert.ReferenceNaIdeal.Read

/-- The first neighbour row of a query in row `r`. -/
def rowStart (r : Fin 32) : Nat := min (r.val - 4) 24

/-- The first neighbour column of a query in column `q`. -/
def colStart (q : Fin 64) : Nat := min (q.val - 8) 48

theorem rowStart_le (r : Fin 32) : rowStart r ≤ 24 := Nat.min_le_right _ _

theorem colStart_le (q : Fin 64) : colStart q ≤ 48 := Nat.min_le_right _ _

/-! ## The index tables -/

/-- The neighbour rows the keys are read at. -/
theorem row_key : ∀ (r : Fin 32) (i : Fin 8), ((val_main_v46 (F := Ideal)) (ix2 r i)).toInt.toNat = rowStart r + i.val := by
  decide +kernel

/-- The neighbour rows the values are read at. -/
theorem row_val : ∀ (r : Fin 32) (i : Fin 8), ((val_main_v60 (F := Ideal)) (ix2 r i)).toInt.toNat = rowStart r + i.val := by
  decide +kernel

/-- The neighbour columns the keys are read at. -/
theorem col_key : ∀ (q : Fin 64) (j : Fin 16), ((val_main_v53 (F := Ideal)) (ix2 q j)).toInt.toNat = colStart q + j.val := by
  decide +kernel

/-- The neighbour columns the values are read at. -/
theorem col_val : ∀ (q : Fin 64) (j : Fin 16), ((val_main_v67 (F := Ideal)) (ix2 q j)).toInt.toNat = colStart q + j.val := by
  decide +kernel

/-- The bias's row: the neighbour's row offset from the query. -/
theorem row_bias : ∀ (r : Fin 32) (i : Fin 8), ((val_main_v76 (F := Ideal)) (ix4 r 0 i 0)).toInt.toNat = rowStart r + i.val + 7 - r.val := by
  decide +kernel

/-- The bias's column: the neighbour's column offset from the query. -/
theorem col_bias : ∀ (q : Fin 64) (j : Fin 16), ((val_main_v81 (F := Ideal)) (ix4 0 q 0 j)).toInt.toNat = colStart q + j.val + 15 - q.val := by
  decide +kernel

/-! ## The gathers -/

section Axes

variable {s si t : Shape} {d : GatherDims s si t} {w : Nat} {j : t.Idx} {T : IVec si w} {a : Fin s.rank}

/-- An axis no start index names starts at zero. -/
theorem start_zero (h : a ∉ d.startIndexMap) : d.start j T a = 0 := by
  unfold GatherDims.start; rw [dif_neg h]

/-- An axis a start index names starts there, clamped. -/
theorem start_mapped (h : a ∈ d.startIndexMap) :
    d.start j T a = min (T (d.siIdx j ⟨d.startIndexMap.idxOf a, List.idxOf_lt_length_iff.2 h⟩)).toInt.toNat (s.size a - d.sliceSizes a) := by
  unfold GatherDims.start; rw [dif_pos h]

/-- A collapsed axis has no offset. -/
theorem off_collapsed (h : a ∉ d.sKept) : d.offCoord j a = 0 := d.offCoord_eq_zero j a h

/-- A kept axis's offset is the result's coordinate. -/
theorem off_kept (h : a ∈ d.sKept) :
    d.offCoord j a = (j (d.offsetDims[d.sKept.idxOf a]'(by rw [d.offset_length]; exact List.idxOf_lt_length_iff.2 h))).val := by
  unfold GatherDims.offCoord; rw [dif_pos h]

end Axes

/-- Rows gathered at a table of start indices: the operand at the table's row, clamped into the grid. -/
theorem rows_at (x : FVec Ideal S4x32x64x16x64 .f32) (T : IVec S32x8x1 32) (j : S4x32x8x64x16x64.Idx) :
    Host.gather gather_S4x32x64x16x64_S32x8x1_S4x32x8x64x16x64_0345_1_n_n_1_2_41641664 x T j
      = x (ix5 (j 0) ⟨min (T (ix3 (j 1) (j 2) 0)).toInt.toNat 31, by omega⟩ (j 3) (j 4) (j 5)) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ => rw [start_zero (show (0 : Fin 5) ∉ _ by decide), off_kept (show (0 : Fin 5) ∈ _ by decide), Nat.zero_add]; rfl
  | ⟨1, _⟩ =>
    rw [start_mapped (show (1 : Fin 5) ∈ _ by decide), off_collapsed (show (1 : Fin 5) ∉ _ by decide), Nat.add_zero]
    refine congrArg (fun n => min (T n).toInt.toNat 31) ?_
    funext e
    match e with
    | ⟨0, _⟩ => rfl
    | ⟨1, _⟩ => rfl
    | ⟨2, _⟩ => rfl
  | ⟨2, _⟩ => rw [start_zero (show (2 : Fin 5) ∉ _ by decide), off_kept (show (2 : Fin 5) ∈ _ by decide), Nat.zero_add]; rfl
  | ⟨3, _⟩ => rw [start_zero (show (3 : Fin 5) ∉ _ by decide), off_kept (show (3 : Fin 5) ∈ _ by decide), Nat.zero_add]; rfl
  | ⟨4, _⟩ => rw [start_zero (show (4 : Fin 5) ∉ _ by decide), off_kept (show (4 : Fin 5) ∈ _ by decide), Nat.zero_add]; rfl

/-- Columns gathered at a table of start indices: the operand at the table's column, clamped into the grid. -/
theorem cols_at (x : FVec Ideal S4x32x8x64x16x64 .f32) (T : IVec S64x16x1 32) (j : S4x32x8x64x16x16x64.Idx) :
    Host.gather gather_S4x32x8x64x16x64_S64x16x1_S4x32x8x64x16x16x64_01256_3_n_n_3_2_432811664 x T j
      = x (ix6 (j 0) (j 1) (j 2) ⟨min (T (ix3 (j 3) (j 4) 0)).toInt.toNat 63, by omega⟩ (j 5) (j 6)) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ => rw [start_zero (show (0 : Fin 6) ∉ _ by decide), off_kept (show (0 : Fin 6) ∈ _ by decide), Nat.zero_add]; rfl
  | ⟨1, _⟩ => rw [start_zero (show (1 : Fin 6) ∉ _ by decide), off_kept (show (1 : Fin 6) ∈ _ by decide), Nat.zero_add]; rfl
  | ⟨2, _⟩ => rw [start_zero (show (2 : Fin 6) ∉ _ by decide), off_kept (show (2 : Fin 6) ∈ _ by decide), Nat.zero_add]; rfl
  | ⟨3, _⟩ =>
    rw [start_mapped (show (3 : Fin 6) ∈ _ by decide), off_collapsed (show (3 : Fin 6) ∉ _ by decide), Nat.add_zero]
    refine congrArg (fun n => min (T n).toInt.toNat 63) ?_
    funext e
    match e with
    | ⟨0, _⟩ => rfl
    | ⟨1, _⟩ => rfl
    | ⟨2, _⟩ => rfl
  | ⟨4, _⟩ => rw [start_zero (show (4 : Fin 6) ∉ _ by decide), off_kept (show (4 : Fin 6) ∈ _ by decide), Nat.zero_add]; rfl
  | ⟨5, _⟩ => rw [start_zero (show (5 : Fin 6) ∉ _ by decide), off_kept (show (5 : Fin 6) ∈ _ by decide), Nat.zero_add]; rfl

/-- Biases gathered at a table of pairs of start indices: every head's bias at the table's row and column, clamped. -/
theorem bias_at (x : FVec Ideal S16x15x31 .f32) (T : IVec S32x64x8x16x2 32) (j : S16x32x64x8x16.Idx) :
    Host.gather gather_S16x15x31_S32x64x8x16x2_S16x32x64x8x16_0_12_n_n_12_4_1611 x T j
      = x (ix3 (j 0) ⟨min (T (ix5 (j 1) (j 2) (j 3) (j 4) 0)).toInt.toNat 14, by omega⟩
          ⟨min (T (ix5 (j 1) (j 2) (j 3) (j 4) 1)).toInt.toNat 30, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ => rw [start_zero (show (0 : Fin 3) ∉ _ by decide), off_kept (show (0 : Fin 3) ∈ _ by decide), Nat.zero_add]; rfl
  | ⟨1, _⟩ =>
    rw [start_mapped (show (1 : Fin 3) ∈ _ by decide), off_collapsed (show (1 : Fin 3) ∉ _ by decide), Nat.add_zero]
    refine congrArg (fun n => min (T n).toInt.toNat 14) ?_
    funext e
    match e with
    | ⟨0, _⟩ => rfl
    | ⟨1, _⟩ => rfl
    | ⟨2, _⟩ => rfl
    | ⟨3, _⟩ => rfl
    | ⟨4, _⟩ => rfl
  | ⟨2, _⟩ =>
    rw [start_mapped (show (2 : Fin 3) ∈ _ by decide), off_collapsed (show (2 : Fin 3) ∉ _ by decide), Nat.add_zero]
    refine congrArg (fun n => min (T n).toInt.toNat 30) ?_
    funext e
    match e with
    | ⟨0, _⟩ => rfl
    | ⟨1, _⟩ => rfl
    | ⟨2, _⟩ => rfl
    | ⟨3, _⟩ => rfl
    | ⟨4, _⟩ => rfl

end Cert.ReferenceNaIdeal.Tables

end
-- ==== Proof.NbrRef.lean ====
/-
  The neighbourhood attention's reference (`ReferenceNa`), read at one row and column of its result: the softmax over
  the 8 × 16 neighbours' scores with their biases and the 256 context scores, against the values.
-/
module

public import proofs.«01_k».proof.Proof.NbrTables
public import proofs.«01_k».proof.Proof.Window

@[expose] public section

set_option maxRecDepth 16384

noncomputable section

open Idealize.ShloMosaic Idealize.ShloMosaic.TcCoe
open Cert.Softmax

namespace Cert.ReferenceNaIdeal.Attn

open Cert.ReferenceNaIdeal Cert.ReferenceNaIdeal.Read Cert.ReferenceNaIdeal.Tables

/-- The row of `z` a query sits in. -/
def queryRow (b : Fin 4) (r : Fin 32) (q : Fin 64) : Fin 12288 := ⟨4096 + (b.val * 2048 + r.val * 64 + q.val), by omega⟩

/-- The row of `z` a query's neighbour `(i, j)` sits in. -/
def nbrRow (b : Fin 4) (r : Fin 32) (q : Fin 64) (p : Fin 8 × Fin 16) : Fin 12288 :=
  ⟨4096 + (b.val * 2048 + (rowStart r + p.1.val) * 64 + (colStart q + p.2.val)), by
    have := rowStart_le r; have := colStart_le q; omega⟩

/-- A column of one head of the queries, the keys or the values. -/
def headCol (c : Nat) (hc : c + 1024 ≤ 8704) (h : Fin 16) (d : Fin 64) : Fin 8704 := ⟨c + (h.val * 64 + d.val), by omega⟩

/-- A query's entry. -/
theorem query_at (X : FVec Ideal S12288x8704 .f32) (b : Fin 4) (r : Fin 32) (q : Fin 64) (h : Fin 16) (d : Fin 64) :
    val_main_v1 (F := Ideal) X (ix5 b r q h d) = X (ix2 (queryRow b r q) (headCol 1024 (by omega) h d)) := by
  pointwise [val_main_v1, val_main_v0]
  rfl

/-- The keys at the gathers' clamped row and column is a neighbour's. -/
theorem key_of (X : FVec Ideal S12288x8704 .f32) (b : Fin 4) (r : Fin 32) (i : Fin 8) (q : Fin 64) (j : Fin 16) (h : Fin 16) (d : Fin 64) :
    val_main_v3 (F := Ideal) X (ix5 b ⟨min (val_main_v47 (F := Ideal) (ix3 r i 0)).toInt.toNat 31, by omega⟩
        ⟨min (val_main_v54 (F := Ideal) (ix3 q j 0)).toInt.toNat 63, by omega⟩ h d)
      = X (ix2 (nbrRow b r q (i, j)) (headCol 2048 (by omega) h d)) := by
  have h1 : min (val_main_v47 (F := Ideal) (ix3 r i 0)).toInt.toNat 31 = rowStart r + i.val := by
    have := rowStart_le r
    pointwise [val_main_v47]
    rw [row_key r i]
    omega
  have h2 : min (val_main_v54 (F := Ideal) (ix3 q j 0)).toInt.toNat 63 = colStart q + j.val := by
    have := colStart_le q
    pointwise [val_main_v54]
    rw [col_key q j]
    omega
  simp only [h1, h2]
  pointwise [val_main_v3, val_main_v2]
  rfl

/-- A neighbour's key. -/
theorem key_at (X : FVec Ideal S12288x8704 .f32) (j : S4x32x8x64x16x16x64.Idx) :
    val_main_v55 (F := Ideal) X j
      = X (ix2 (nbrRow (j 0) (j 1) (j 3) (j 2, j 4)) (headCol 2048 (by omega) (j 5) (j 6))) := by
  unfold val_main_v55
  rw [cols_at]
  unfold val_main_v48
  rw [rows_at]
  exact key_of X (j 0) (j 1) (j 2) (j 3) (j 4) (j 5) (j 6)

/-- The values at the gathers' clamped row and column is a neighbour's. -/
theorem value_of (X : FVec Ideal S12288x8704 .f32) (b : Fin 4) (r : Fin 32) (i : Fin 8) (q : Fin 64) (j : Fin 16) (h : Fin 16) (d : Fin 64) :
    val_main_v5 (F := Ideal) X (ix5 b ⟨min (val_main_v61 (F := Ideal) (ix3 r i 0)).toInt.toNat 31, by omega⟩
        ⟨min (val_main_v68 (F := Ideal) (ix3 q j 0)).toInt.toNat 63, by omega⟩ h d)
      = X (ix2 (nbrRow b r q (i, j)) (headCol 3072 (by omega) h d)) := by
  have h1 : min (val_main_v61 (F := Ideal) (ix3 r i 0)).toInt.toNat 31 = rowStart r + i.val := by
    have := rowStart_le r
    pointwise [val_main_v61]
    rw [row_val r i]
    omega
  have h2 : min (val_main_v68 (F := Ideal) (ix3 q j 0)).toInt.toNat 63 = colStart q + j.val := by
    have := colStart_le q
    pointwise [val_main_v68]
    rw [col_val q j]
    omega
  simp only [h1, h2]
  pointwise [val_main_v5, val_main_v4]
  rfl

/-- A neighbour's value. -/
theorem value_at (X : FVec Ideal S12288x8704 .f32) (j : S4x32x8x64x16x16x64.Idx) :
    val_main_v69 (F := Ideal) X j
      = X (ix2 (nbrRow (j 0) (j 1) (j 3) (j 2, j 4)) (headCol 3072 (by omega) (j 5) (j 6))) := by
  unfold val_main_v69
  rw [cols_at]
  unfold val_main_v62
  rw [rows_at]
  exact value_of X (j 0) (j 1) (j 2) (j 3) (j 4) (j 5) (j 6)

/-- The bias of a query's neighbour `(i, j)` in head `h`. -/
def biasOf (B : FVec Ideal S16x15x31 .f32) (h : Fin 16) (r : Fin 32) (q : Fin 64) (p : Fin 8 × Fin 16) : EReal :=
  B (ix3 h ⟨rowStart r + p.1.val + 7 - r.val, by unfold rowStart; omega⟩ ⟨colStart q + p.2.val + 15 - q.val, by unfold colStart; omega⟩)

/-- A neighbour's bias. -/
theorem nbrBias_at (B : FVec Ideal S16x15x31 .f32) (h : Fin 16) (r : Fin 32) (q : Fin 64) (i : Fin 8) (j : Fin 16) :
    val_main_v87 (F := Ideal) B (ix5 h r q i j) = biasOf B h r q (i, j) := by
  have h1 := row_bias r i
  have h2 := col_bias q j
  unfold val_main_v87
  rw [bias_at]
  have e0 : val_main_v86 (F := Ideal) (ix5 r q i j 0) = val_main_v76 (F := Ideal) (ix4 r 0 i 0) := by
    pointwise [val_main_v86, val_main_v84, val_main_v85, val_main_v82, val_main_v83]
  have e1 : val_main_v86 (F := Ideal) (ix5 r q i j 1) = val_main_v81 (F := Ideal) (ix4 0 q 0 j) := by
    pointwise [val_main_v86, val_main_v84, val_main_v85, val_main_v82, val_main_v83]
  refine congrArg B ((ix3_inj ..).2 ⟨rfl, Fin.ext ?_, Fin.ext ?_⟩)
  · show min (val_main_v86 (F := Ideal) (ix5 r q i j 0)).toInt.toNat 14 = _
    rw [e0, h1]
    dsimp only [rowStart]
    omega
  · show min (val_main_v86 (F := Ideal) (ix5 r q i j 1)).toInt.toNat 30 = _
    rw [e1, h2]
    dsimp only [colStart]
    omega

/-- The query's row of head `h`. -/
abbrev queryOf (X : FVec Ideal S12288x8704 .f32) (b : Fin 4) (r : Fin 32) (q : Fin 64) (h : Fin 16) (d : Fin 64) : EReal :=
  X (ix2 (queryRow b r q) (headCol 1024 (by omega) h d))

/-- The score of a query and its neighbour, with the neighbour's bias. -/
def nbrScore (X : FVec Ideal S12288x8704 .f32) (B : FVec Ideal S16x15x31 .f32) (b : Fin 4) (h : Fin 16) (r : Fin 32) (q : Fin 64)
    (p : Fin 8 × Fin 16) : EReal :=
  score (queryOf X b r q h) (fun d => X (ix2 (nbrRow b r q p) (headCol 2048 (by omega) h d))) + biasOf B h r q p

/-- The score of a query and a context key. -/
def ctxScore (X : FVec Ideal S12288x8704 .f32) (K : FVec Ideal S4x256x1024 .f32) (b : Fin 4) (h : Fin 16) (r : Fin 32) (q : Fin 64)
    (n : Fin 256) : EReal :=
  score (queryOf X b r q h) (fun d => K (ix3 b n ⟨h.val * 64 + d.val, by omega⟩))

/-- The reference's score of a neighbour. -/
theorem nbrScore_at (X : FVec Ideal S12288x8704 .f32) (B : FVec Ideal S16x15x31 .f32) (b : Fin 4) (h : Fin 16) (r : Fin 32) (q : Fin 64)
    (i : Fin 8) (j : Fin 16) :
    val_main_v93 (F := Ideal) X B (ix6 b h r q i j) = nbrScore X B b h r q (i, j) := by
  pointwise [val_main_v93, val_main_v92, val_main_v91, val_main_v90, val_main_v89, val_main_cst, nbrBias_at]
  refine congrArg (· * Ideal.ofBits .f32 0x3E000000#32 + biasOf B h r q (i, j)) ?_
  rw [val_main_v88_apply]
  refine Finset.sum_congr rfl fun d _ => ?_
  rw [key_at]
  exact congrArg (· * _) (query_at X b r q h d)

/-- The reference's score of a context key. -/
theorem ctxScore_at (X : FVec Ideal S12288x8704 .f32) (K : FVec Ideal S4x256x1024 .f32) (b : Fin 4) (h : Fin 16) (r : Fin 32) (q : Fin 64)
    (n : Fin 256) :
    val_main_v96 (F := Ideal) X K (ix5 b h r q n) = ctxScore X K b h r q n := by
  pointwise [val_main_v96, val_main_v95, val_main_v94, val_main_v6, val_main_cst_21, query_at]
  rfl

/-- The reference's row of scores: the neighbours' and then the context's. -/
theorem row_at (X : FVec Ideal S12288x8704 .f32) (K : FVec Ideal S4x256x1024 .f32) (B : FVec Ideal S16x15x31 .f32)
    (b : Fin 4) (h : Fin 16) (r : Fin 32) (q : Fin 64) (n : Fin 384) :
    val_main_v98 (F := Ideal) X K B (ix5 b h r q n) = joined (nbrScore X B b h r q) (ctxScore X K b h r q) n := by
  pointwise [val_main_v98, val_main_v97, nbrScore_at, ctxScore_at]
  rfl

/-- The reference's row maximum with the one more maximum. -/
theorem max_at (X : FVec Ideal S12288x8704 .f32) (K : FVec Ideal S4x256x1024 .f32) (B : FVec Ideal S16x15x31 .f32) (i : S4x16x32x64.Idx) :
    val_main_v101 (F := Ideal) X K B i = max (Ideal.ofBits .f32 0xFF800000#32) (val_main_v99 (F := Ideal) X K B i) := by
  rw [val_main_v101_apply, val_main_v100_apply, val_main_cst_23_apply]
  rfl

/-- The reference's softmax weight. -/
theorem weight_at (X : FVec Ideal S12288x8704 .f32) (K : FVec Ideal S4x256x1024 .f32) (B : FVec Ideal S16x15x31 .f32)
    (b : Fin 4) (h : Fin 16) (r : Fin 32) (q : Fin 64) (n : Fin 384) :
    val_main_v109 (F := Ideal) X K B (ix5 b h r q n) = weight (joined (nbrScore X B b h r q) (ctxScore X K b h r q)) n := by
  pointwise [val_main_v109, val_main_v108, val_main_v107, val_main_v106, val_main_v105, val_main_v104, val_main_v103, val_main_v102,
    max_at, val_main_v99, val_main_cst_22, val_main_cst_24, row_at]
  exact weight_of_max _ _

/-- The reference's sum over the neighbours. -/
theorem nbrSum_at (X : FVec Ideal S12288x8704 .f32) (K : FVec Ideal S4x256x1024 .f32) (B : FVec Ideal S16x15x31 .f32)
    (b : Fin 4) (r : Fin 32) (q : Fin 64) (h : Fin 16) (d : Fin 64) :
    val_main_v112 (F := Ideal) X K B (ix5 b r q h d)
      = ∑ p : Fin 8 × Fin 16, weight (joined (nbrScore X B b h r q) (ctxScore X K b h r q)) ⟨p.1.val * 16 + p.2.val, by omega⟩
          * X (ix2 (nbrRow b r q p) (headCol 3072 (by omega) h d)) := by
  pointwise [val_main_v112, val_main_v111, val_main_v110, weight_at]
  rw [Fintype.sum_prod_type]
  refine Finset.sum_congr rfl fun i _ => Finset.sum_congr rfl fun j _ => ?_
  rw [value_at]
  rfl

/-- The reference's sum over the context. -/
theorem ctxSum_at (X : FVec Ideal S12288x8704 .f32) (K V : FVec Ideal S4x256x1024 .f32) (B : FVec Ideal S16x15x31 .f32)
    (b : Fin 4) (r : Fin 32) (q : Fin 64) (h : Fin 16) (d : Fin 64) :
    val_main_v115 (F := Ideal) X K V B (ix5 b r q h d)
      = ∑ n : Fin 256, weight (joined (nbrScore X B b h r q) (ctxScore X K b h r q)) ⟨128 + n.val, by omega⟩
          * V (ix3 b n ⟨h.val * 64 + d.val, by omega⟩) := by
  pointwise [val_main_v115, val_main_v114, val_main_v113, val_main_v7, weight_at]
  exact Finset.sum_congr rfl fun n _ => mul_comm _ _

/-- The reference's last reshape: a row is a block, a grid row and a grid column, a column a head and a column in it. -/
theorem flat_at (i : Fin 8192) (j : Fin 1024) (b : Fin 4) (r : Fin 32) (q : Fin 64) (h : Fin 16) (d : Fin 64)
    (hi : i.val = b.val * 2048 + r.val * 64 + q.val) (hj : j.val = h.val * 64 + d.val) :
    idx_main_v117 (ix2 i j) = ix5 b r q h d := by
  funext a
  refine Fin.ext ?_
  match a with
  | ⟨0, _⟩ => show (i.val * 1024 + j.val) / 2097152 = b.val; omega
  | ⟨1, _⟩ => show (i.val * 1024 + j.val) / 65536 % 32 = r.val; omega
  | ⟨2, _⟩ => show (i.val * 1024 + j.val) / 1024 % 64 = q.val; omega
  | ⟨3, _⟩ => show (i.val * 1024 + j.val) / 64 % 16 = h.val; omega
  | ⟨4, _⟩ => show (i.val * 1024 + j.val) % 64 = d.val; omega

/-- The reference's result at row `i` and column `j`: the attention of the row's query in the column's head. -/
theorem goal_at (X : FVec Ideal S12288x8704 .f32) (K V : FVec Ideal S4x256x1024 .f32) (B : FVec Ideal S16x15x31 .f32)
    (i : Fin 8192) (j : Fin 1024) (b : Fin 4) (r : Fin 32) (q : Fin 64) (h : Fin 16) (d : Fin 64)
    (hi : i.val = b.val * 2048 + r.val * 64 + q.val) (hj : j.val = h.val * 64 + d.val) :
    val_main_v118 (F := Ideal) X K V B (ix2 i j)
      = attended (nbrScore X B b h r q) (ctxScore X K b h r q)
          (fun p => X (ix2 (nbrRow b r q p) (headCol 3072 (by omega) h d)))
          (fun n => V (ix3 b n ⟨h.val * 64 + d.val, by omega⟩)) := by
  rw [val_main_v118_apply, val_main_v117_apply, flat_at i j b r q h d hi hj, val_main_v116_apply]
  exact congrArg₂ (· + ·) (nbrSum_at X K B b r q h d) (ctxSum_at X K V B b r q h d)

end Cert.ReferenceNaIdeal.Attn

end
-- ==== Proof.NbrBias.lean ====
/-
  The neighbourhood attention's bias table (`KernelNa`): what the operations before the kernel leave in it. Its entry for
  a row offset, a head, a query column and a key of the window is the head's bias at the key's offset from the query,
  and −∞ for a key outside the query's 16 columns.
-/
module

public import proofs.«01_k».proof.Proof.Gen.KernelNaIdeal.Frame
public import proofs.«01_k».proof.Proof.NbrTables
public import proofs.«01_k».proof.Proof.Window
public import Idealize.ShloMosaic.Lib.StableHlo.RunRead

@[expose] public section

set_option maxRecDepth 16384

noncomputable section

open Idealize.ShloMosaic Idealize.ShloMosaic.TcCoe Idealize.SL.Sem
open Cert.Softmax Cert.ReferenceNaIdeal.Tables

namespace Cert.KernelNaIdeal.Bias

open Cert.KernelNaIdeal Cert.KernelNaIdeal.Gen

/-- The columns 0 to 63. -/
abbrev cols : IVec S64 32 := iotaInDim S64 32 0

/-- The first column of each query column's window. -/
def first : IVec S64 32 :=
  minsi (broadcastInDim S64 ![] bcast_S_S64 (constantI S_ 32 48#32))
    (maxsi (broadcastInDim S64 ![] bcast_S_S64 (constantI S_ 32 0#32))
      (subi cols (broadcastInDim S64 ![] bcast_S_S64 (constantI S_ 32 8#32))))

/-- Which columns lie in a query column's window. -/
def inside : IVec S64x64 1 :=
  andi
    (cmpi .sge (broadcastInDim S64x64 ![0, 1] bcast_S1x64_S64x64_0_1 (broadcastInDim S1x64 ![1] bcast_S64_S1x64_1 cols))
      (broadcastInDim S64x64 ![0, 1] bcast_S64x1_S64x64_0_1 (broadcastInDim S64x1 ![0] bcast_S64_S64x1_0 first)))
    (cmpi .slt (broadcastInDim S64x64 ![0, 1] bcast_S1x64_S64x64_0_1 (broadcastInDim S1x64 ![1] bcast_S64_S1x64_1 cols))
      (broadcastInDim S64x64 ![0, 1] bcast_S64x1_S64x64_0_1
        (addi (broadcastInDim S64x1 ![0] bcast_S64_S64x1_0 first) (broadcastInDim S64x1 ![] bcast_S_S64x1 (constantI S_ 32 16#32)))))

/-- The row offsets. -/
def rowOff : IVec S8x8x1x1 32 :=
  broadcastInDim S8x8x1x1 ![0, 1] bcast_S8x8_S8x8x1x1_0_1
    (subi (broadcastInDim S8x8 ![0, 1] bcast_S1x8_S8x8_0_1
        (addi (broadcastInDim S1x8 ![1] bcast_S8_S1x8_1 (iotaInDim S8 32 0)) (broadcastInDim S1x8 ![] bcast_S_S1x8 (constantI S_ 32 7#32))))
      (broadcastInDim S8x8 ![0, 1] bcast_S8x1_S8x8_0_1 (broadcastInDim S8x1 ![0] bcast_S8_S8x1_0 (iotaInDim S8 32 0))))

/-- The column offsets, clipped. -/
def colOff : IVec S1x1x64x64 32 :=
  broadcastInDim S1x1x64x64 ![2, 3] bcast_S64x64_S1x1x64x64_2_3
    (minsi (broadcastInDim S64x64 ![] bcast_S_S64x64 (constantI S_ 32 30#32))
      (maxsi (broadcastInDim S64x64 ![] bcast_S_S64x64 (constantI S_ 32 0#32))
        (subi (addi (subi
              (broadcastInDim S64x64 ![0, 1] bcast_S1x64_S64x64_0_1 (broadcastInDim S1x64 ![1] bcast_S64_S1x64_1 cols))
              (broadcastInDim S64x64 ![0, 1] bcast_S64x1_S64x64_0_1 (broadcastInDim S64x1 ![0] bcast_S64_S64x1_0 cols)))
            (broadcastInDim S64x64 ![] bcast_S_S64x64 (constantI S_ 32 16#32)))
          (broadcastInDim S64x64 ![] bcast_S_S64x64 (constantI S_ 32 1#32)))))

/-- The row offsets with a negative one counted from the end. -/
def rowSel : IVec S8x8x1x1 32 :=
  select (cmpi .slt rowOff (broadcastInDim S8x8x1x1 ![] bcast_S_S8x8x1x1 (constantI S_ 32 0#32)))
    (addi rowOff (broadcastInDim S8x8x1x1 ![] bcast_S_S8x8x1x1 (constantI S_ 32 15#32))) rowOff

/-- The column offsets with a negative one counted from the end. -/
def colSel : IVec S1x1x64x64 32 :=
  select (cmpi .slt colOff (broadcastInDim S1x1x64x64 ![] bcast_S_S1x1x64x64 (constantI S_ 32 0#32)))
    (addi colOff (broadcastInDim S1x1x64x64 ![] bcast_S_S1x1x64x64 (constantI S_ 32 31#32))) colOff

/-- The row offsets at every index of the table. -/
def rowAll : IVec S8x8x64x64x1 32 :=
  broadcastInDim S8x8x64x64x1 ![0, 1, 2, 3] bcast_S8x8x64x64_S8x8x64x64x1_0_1_2_3
    (broadcastInDim S8x8x64x64 ![0, 1, 2, 3] bcast_S8x8x1x1_S8x8x64x64_0_1_2_3 rowSel)

/-- The column offsets at every index of the table. -/
def colAll : IVec S8x8x64x64x1 32 :=
  broadcastInDim S8x8x64x64x1 ![0, 1, 2, 3] bcast_S8x8x64x64_S8x8x64x64x1_0_1_2_3
    (broadcastInDim S8x8x64x64 ![0, 1, 2, 3] bcast_S1x1x64x64_S8x8x64x64_0_1_2_3 colSel)

/-- The pairs of row and column offset at every index of the table. -/
def pairs : IVec S8x8x64x64x2 32 :=
  concatenate S8x8x64x64x2 4 [⟨S8x8x64x64x1, rowAll⟩, ⟨S8x8x64x64x1, colAll⟩] concatenates_S8x8x64x64x1_S8x8x64x64x1_S8x8x64x64x2_d4

/-- The table before its last reshape: the gathered biases, with −∞ outside the window. -/
def wide (B : FVec Ideal S16x15x31 .f32) : FVec Ideal S8x16x64x8x64 .f32 :=
  select
    (broadcastInDim S8x16x64x8x64 ![0, 1, 2, 3, 4] bcast_S1x1x64x1x64_S8x16x64x8x64_0_1_2_3_4
      (broadcastInDim S1x1x64x1x64 ![2, 4] bcast_S64x64_S1x1x64x1x64_2_4 inside))
    (transpose S8x16x64x8x64 [1, 0, 3, 2, 4] (Host.gather gather_S16x15x31_S8x8x64x64x2_S16x8x8x64x64_0_12_n_n_12_4_1611 B pairs)
      transposes_S16x8x8x64x64_S8x16x64x8x64_1_0_3_2_4)
    (broadcastInDim S8x16x64x8x64 ![] bcast_S_S8x16x64x8x64 (constant S_ .f32 0xFF800000#32))

/-- The table as the kernel reads it. -/
def table (B : FVec Ideal S16x15x31 .f32) : FVec Ideal S8x16x64x512 .f32 :=
  shapeCast S8x16x64x512 (wide B) shapeCasts_S8x16x64x8x64_S8x16x64x512

section Read

variable (m : (ℓ : Loc nD τ sig) → Buf (Elt Ideal) ℓ)

/-- The operations before the kernel, in order. -/
abbrev ops : List (HloOp τ sig (Elt Ideal)) :=
  hostOps0 ++ (hostOps0_1 ++ (hostOps0_2 ++ (hostOps0_3 ++ (hostOps0_4 ++ (hostOps0_5 ++ hostOps0_6)))))

theorem read_rows (c : Dev nD) : StableHlo.upto ops (fun b => m (c, b)) 73 (Proc.tc.devRef main_v48) = rowAll := by
  after_reads_simp
  rfl

theorem read_cols (c : Dev nD) : StableHlo.upto ops (fun b => m (c, b)) 73 (Proc.tc.devRef main_v49) = colAll := by
  after_reads_simp
  rfl

theorem read_pairs (c : Dev nD) : StableHlo.upto ops (fun b => m (c, b)) 74 (Proc.tc.devRef main_v50) = pairs := by
  after_reads_simp
  rw [read_rows m c, read_cols m c]
  rfl

/-- The array the kernel reads its biases from is the table of the bias argument. -/
theorem table_read (c : Dev nD) : V m c main_v55 = table (m ((c : Thread nD τ).loc main_arg3)) := by
  show StableHlo.after ops (fun b => m (c, b)) (Proc.tc.devRef main_v55) = _
  after_reads_simp
  rw [read_rows m c, read_cols m c]
  rfl

end Read

end Cert.KernelNaIdeal.Bias

end
-- ==== Proof.NbrBiasAt.lean ====
/-
  The neighbourhood attention's bias table at an index (`KernelNa`).
-/
module

public import proofs.«01_k».proof.Proof.NbrBias

@[expose] public section

set_option maxRecDepth 16384

noncomputable section

open Idealize.ShloMosaic Idealize.ShloMosaic.TcCoe
open Cert.Softmax Cert.ReferenceNaIdeal.Tables

namespace Cert.KernelNaIdeal.Bias

open Cert.KernelNaIdeal

/-- A column lies in the window exactly when the mask is one there. -/
theorem inside_at : ∀ (q c : Fin 64), inside (ix2 q c) = 1 ↔ (colStart q ≤ c.val ∧ c.val < colStart q + 16) := by
  decide +kernel

/-- The row offset of a window row, shifted to be a row of the biases. -/
theorem row_at : ∀ v i : Fin 8, (rowSel (ix4 v i 0 0)).toInt.toNat = i.val + 7 - v.val := by
  decide +kernel

/-- The column offset of a column in the window, shifted to be a column of the biases. -/
theorem col_at : ∀ q c : Fin 64, (colStart q ≤ c.val ∧ c.val < colStart q + 16) → (colSel (ix4 0 0 q c)).toInt.toNat = c.val + 15 - q.val := by
  decide +kernel

/-- Biases gathered at a table of pairs of start indices: every head's bias at the table's row and column, clamped. -/
theorem gather_at (x : FVec Ideal S16x15x31 .f32) (T : IVec S8x8x64x64x2 32) (j : S16x8x8x64x64.Idx) :
    Host.gather gather_S16x15x31_S8x8x64x64x2_S16x8x8x64x64_0_12_n_n_12_4_1611 x T j
      = x (ix3 (j 0) ⟨min (T (ix5 (j 1) (j 2) (j 3) (j 4) 0)).toInt.toNat 14, by omega⟩
          ⟨min (T (ix5 (j 1) (j 2) (j 3) (j 4) 1)).toInt.toNat 30, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ => rw [start_zero (show (0 : Fin 3) ∉ _ by decide), off_kept (show (0 : Fin 3) ∈ _ by decide), Nat.zero_add]; rfl
  | ⟨1, _⟩ =>
    rw [start_mapped (show (1 : Fin 3) ∈ _ by decide), off_collapsed (show (1 : Fin 3) ∉ _ by decide), Nat.add_zero]
    refine congrArg (fun n => min (T n).toInt.toNat 14) ?_
    funext e
    match e with
    | ⟨0, _⟩ => rfl
    | ⟨1, _⟩ => rfl
    | ⟨2, _⟩ => rfl
    | ⟨3, _⟩ => rfl
    | ⟨4, _⟩ => rfl
  | ⟨2, _⟩ =>
    rw [start_mapped (show (2 : Fin 3) ∈ _ by decide), off_collapsed (show (2 : Fin 3) ∉ _ by decide), Nat.add_zero]
    refine congrArg (fun n => min (T n).toInt.toNat 30) ?_
    funext e
    match e with
    | ⟨0, _⟩ => rfl
    | ⟨1, _⟩ => rfl
    | ⟨2, _⟩ => rfl
    | ⟨3, _⟩ => rfl
    | ⟨4, _⟩ => rfl

theorem pairs_row (v i : Fin 8) (q c : Fin 64) : pairs (ix5 v i q c 0) = rowSel (ix4 v i 0 0) := by
  pointwise [pairs, rowAll]

theorem pairs_col (v i : Fin 8) (q c : Fin 64) : pairs (ix5 v i q c 1) = colSel (ix4 0 0 q c) := by
  pointwise [pairs, colAll]

theorem wide_at (B : FVec Ideal S16x15x31 .f32) (v i : Fin 8) (h : Fin 16) (q c : Fin 64) :
    wide B (ix5 v h q i c) = if inside (ix2 q c) = 1
      then Host.gather gather_S16x15x31_S8x8x64x64x2_S16x8x8x64x64_0_12_n_n_12_4_1611 B pairs (ix5 h v i q c) else ⊥ := by
  pointwise [wide]
  rw [ofBits_neg_inf]
  rfl

/-- The table at a row offset `v`, a head, a query column and a window place: the head's bias at the place's offset from
    the query inside the query's 16 columns, −∞ outside them. -/
theorem table_at (B : FVec Ideal S16x15x31 .f32) (v : Fin 8) (h : Fin 16) (q : Fin 64) (w : Fin 512) :
    table B (ix4 v h q w)
      = if hw : colStart q ≤ w.val % 64 ∧ w.val % 64 < colStart q + 16 then
          B (ix3 h ⟨w.val / 64 + 7 - v.val, by omega⟩ ⟨w.val % 64 + 15 - q.val, by have := colStart_le q; unfold colStart at hw; omega⟩)
        else ⊥ := by
  have e : table B (ix4 v h q w) = wide B (ix5 v h q ⟨w.val / 64, by omega⟩ ⟨w.val % 64, by omega⟩) := by
    pointwise [table]
  rw [e]
  by_cases hw : colStart q ≤ w.val % 64 ∧ w.val % 64 < colStart q + 16
  · rw [dif_pos hw, wide_at, if_pos ((inside_at q ⟨w.val % 64, by omega⟩).2 hw), gather_at]
    refine congrArg B (congrArg₂ (ix3 h) (Fin.ext ?_) (Fin.ext ?_))
    · show min (pairs (ix5 v ⟨w.val / 64, by omega⟩ q ⟨w.val % 64, by omega⟩ 0)).toInt.toNat 14 = _
      rw [pairs_row, row_at]
      dsimp only
      omega
    · show min (pairs (ix5 v ⟨w.val / 64, by omega⟩ q ⟨w.val % 64, by omega⟩ 1)).toInt.toNat 30 = _
      rw [pairs_col, col_at q ⟨w.val % 64, by omega⟩ hw]
      unfold colStart at hw
      dsimp only
      omega
  · rw [dif_neg hw, wide_at, if_neg (fun h' => hw ((inside_at q ⟨w.val % 64, by omega⟩).1 h'))]

end Cert.KernelNaIdeal.Bias

end
-- ==== Proof.NbrPoint.lean ====
/-
  One pair of heads of the neighbourhood attention (`KernelNa`): what the body stores for it, over blocks that hold the
  right parts of the arguments, is the reference's value. The window's scores outside the query's columns are −∞, and with
  finite arguments no score is +∞ and the context's are finite, so the window's softmax is the softmax over the
  neighbours.
-/
module

public import proofs.«01_k».proof.Proof.NbrBody
public import proofs.«01_k».proof.Proof.NbrRef
public import proofs.«01_k».proof.Proof.NbrBiasAt

@[expose] public section

set_option maxRecDepth 16384

noncomputable section

open Idealize.ShloMosaic Idealize.ShloMosaic.TcCoe
open Cert.Softmax Cert.ReferenceNaIdeal.Tables Cert.ReferenceNaIdeal.Attn

namespace Cert.KernelNaIdeal.Pair

open Cert.KernelNaIdeal Cert.KernelNaIdeal.Body Cert.KernelNaIdeal.Bias

/-- The queries and the keys that the attention reads are finite. -/
def FiniteRows (X : FVec Ideal S12288x8704 .f32) : Prop :=
  ∀ (i : Fin 8192) (j : Fin 2048), IsReal (X (ix2 ⟨4096 + i.val, by omega⟩ ⟨1024 + j.val, by omega⟩))

/-- A finite entry, by its row and column. -/
theorem FiniteRows.at {X : FVec Ideal S12288x8704 .f32} (h : FiniteRows X) (i : Fin 12288) (j : Fin 8704)
    (hi : 4096 ≤ i.val) (hj : 1024 ≤ j.val ∧ j.val < 3072) : IsReal (X (ix2 i j)) := by
  have e := h ⟨i.val - 4096, by omega⟩ ⟨j.val - 1024, by omega⟩
  have ei : (⟨4096 + (i.val - 4096), by omega⟩ : Fin 12288) = i := Fin.ext (by dsimp only; omega)
  have ej : (⟨1024 + (j.val - 1024), by omega⟩ : Fin 8704) = j := Fin.ext (by dsimp only; omega)
  simpa only [ei, ej] using e

variable {X : FVec Ideal S12288x8704 .f32} {K V : FVec Ideal S4x256x1024 .f32} {B : FVec Ideal S16x15x31 .f32}

/-- What the body stores for pair `p` of the half `e` of the heads, at query column `q` of grid row `r` of block `b` and
    at the pair's column `l`, is the reference's value there. -/
theorem pair_at (hX : FiniteRows X) (hKf : ∀ i, IsReal (K i)) (hBf : ∀ i, IsReal (B i))
    (b : Fin 4) (r : Fin 32) (e : Fin 2) (p : Fin 4) (q : Fin 64) (l : Fin 128)
    (Qb : Vec Ideal S64x128 .f32) (Kb Vb : Vec Ideal S512x128 .f32) (Kc Vc : Vec Ideal S1x256x128 .f32) (Bb : Vec Ideal S1x2x64x512 .f32)
    (hQ : ∀ d : Fin 128, Qb (ix2 q d) = X (ix2 (queryRow b r q) ⟨1024 + (e.val * 512 + (128 * p.val + d.val)), by omega⟩))
    (hK : ∀ (w : Fin 512) (d : Fin 128), Kb (ix2 w d)
      = X (ix2 ⟨4096 + (b.val * 2048 + (rowStart r * 64 + w.val)), by have := rowStart_le r; omega⟩ ⟨2048 + (e.val * 512 + (128 * p.val + d.val)), by omega⟩))
    (hV : ∀ (w : Fin 512) (d : Fin 128), Vb (ix2 w d)
      = X (ix2 ⟨4096 + (b.val * 2048 + (rowStart r * 64 + w.val)), by have := rowStart_le r; omega⟩ ⟨3072 + (e.val * 512 + (128 * p.val + d.val)), by omega⟩))
    (hKc : ∀ (n : Fin 256) (d : Fin 128), Kc (ix3 0 n d) = K (ix3 b n ⟨e.val * 512 + (128 * p.val + d.val), by omega⟩))
    (hVc : ∀ (n : Fin 256) (d : Fin 128), Vc (ix3 0 n d) = V (ix3 b n ⟨e.val * 512 + (128 * p.val + d.val), by omega⟩))
    (hB : ∀ (h : Fin 2) (w : Fin 512), Bb (ix4 0 h q w)
      = table B (ix4 ⟨r.val - rowStart r, by unfold rowStart; omega⟩ ⟨e.val * 8 + (2 * p.val + h.val), by omega⟩ q w)) :
    stored Qb Kb Vb Kc Vc Bb (ix2 q l)
      = Cert.ReferenceNaIdeal.Read.val_main_v118 (F := Ideal) X K V B
          (ix2 ⟨b.val * 2048 + (r.val * 64 + q.val), by omega⟩ ⟨e.val * 512 + (128 * p.val + l.val), by omega⟩) := by
  have hr := rowStart_le r
  have hc := colStart_le q
  have hr' : rowStart r ≤ r.val ∧ r.val ≤ rowStart r + 7 := by unfold rowStart; omega
  rw [stored_at, goal_at X K V B _ _ b r q ⟨e.val * 8 + (2 * p.val + l.val / 64), by omega⟩ ⟨l.val % 64, by omega⟩
    (by dsimp only; omega) (by dsimp only; omega)]
  have hq (d : Fin 64) : IsReal (X (ix2 (queryRow b r q) ⟨1024 + (e.val * 512 + (128 * p.val + (l.val / 64 * 64 + d.val))), by omega⟩)) :=
    hX.at _ _ (by dsimp only [queryRow]; omega) (by dsimp only; omega)
  have hk (w : Fin 512) (d : Fin 64) : IsReal (X (ix2 ⟨4096 + (b.val * 2048 + (rowStart r * 64 + w.val)), by omega⟩
      ⟨2048 + (e.val * 512 + (128 * p.val + (l.val / 64 * 64 + d.val))), by omega⟩)) :=
    hX.at _ _ (by dsimp only; omega) (by dsimp only; omega)
  simp only [hQ, hK, hKc, hB, table_at]
  rw [window_eq (colStart q) hc]
  · refine congr (congr (congrArg₂ attended (funext fun n => ?_) (funext fun n => ?_)) (funext fun n => ?_)) (funext fun n => ?_)
    · have hn : colStart q ≤ (place (colStart q) hc n).val % 64 ∧ (place (colStart q) hc n).val % 64 < colStart q + 16 := by
        dsimp only [place]; omega
      rw [dif_pos hn]
      refine congrArg₂ (· + ·) (congrArg₂ score (funext fun d => congrArg X (congrArg₂ ix2 rfl (Fin.ext ?_)))
        (funext fun d => congrArg X (congrArg₂ ix2 (Fin.ext ?_) (Fin.ext ?_))))
        (congrArg B (congr (congrArg₂ ix3 rfl (Fin.ext ?_)) (Fin.ext ?_)))
      all_goals dsimp only [headCol, nbrRow, place]; omega
    · exact congrArg₂ score (funext fun d => congrArg X (congrArg₂ ix2 rfl (Fin.ext (by dsimp only [headCol]; omega))))
        (funext fun d => congrArg K (congrArg (ix3 b n) (Fin.ext (by dsimp only; omega))))
    · rw [hV]
      refine congrArg X (congrArg₂ ix2 (Fin.ext ?_) (Fin.ext ?_))
      all_goals dsimp only [headCol, nbrRow, place]; omega
    · rw [hVc]
      exact congrArg V (congrArg (ix3 b n) (Fin.ext (by dsimp only; omega)))
  · intro w hw
    rw [dif_neg hw, EReal.add_bot]
  · intro w
    by_cases hw : colStart q ≤ w.val % 64 ∧ w.val % 64 < colStart q + 16
    · rw [dif_pos hw]
      exact ((isReal_score hq (hk w)).add (hBf _)).ne_top
    · rw [dif_neg hw, EReal.add_bot]
      exact bot_ne_top
  · exact fun n => isReal_score hq fun d => hKf _

end Cert.KernelNaIdeal.Pair

end
-- ==== Proof.NbrAttn.lean ====
/-
  The neighbourhood attention (`KernelNa`): its result array over the extended reals, and the five claims.
-/
module

public import proofs.«01_k».proof.Defs
public import proofs.«01_k».proof.Proof.Gen.KernelNa.Frame
public import proofs.«01_k».proof.Proof.Gen.ReferenceNaIdeal.Run
public import proofs.«01_k».proof.Proof.NbrPoint

@[expose] public section

set_option maxRecDepth 16384

noncomputable section

open Idealize.ShloMosaic Idealize.ShloMosaic.TcCoe Idealize.SL.Sem
open Idealize.ShloMosaic.Pipeline (Dat)
open Cert.Softmax Cert.ReferenceNaIdeal.Tables Cert.ReferenceNaIdeal.Attn

/-! ## The kernel's result array -/

namespace Cert.KernelNaIdeal.RefValue

open Cert.KernelNaIdeal Cert.KernelNaIdeal.Gen Cert.KernelNaIdeal.Body Cert.KernelNaIdeal.Bias Cert.KernelNaIdeal.Pair

variable (m : (ℓ : Loc nD τ sig) → Buf (Elt Ideal) ℓ) (ρ : Dev nD → PrngReg)

/-- What the result array is shown to hold: the reference's last value, of the kernel's arguments. -/
abbrev goal (x0 : FVec Ideal S12288x8704 .f32) (x1 x2 : FVec Ideal S4x256x1024 .f32) (x3 : FVec Ideal S16x15x31 .f32) :
    FVec Ideal S8192x1024 .bf16 :=
  Cert.ReferenceNaIdeal.Read.val_main_v118 (F := Ideal) x0 x1 x2 x3

/-- The windows' block indices at every grid point: a point is a block of rows, a half of the heads and a grid row. -/
theorem idx : ∀ t : Fin cfg0.N, win0_0.index t = ![64 + (t.val / 64 * 32 + t.val % 32), 2 + t.val / 32 % 2]
    ∧ win0_1.index t = ![2 + t.val / 64, 4 + t.val / 32 % 2] ∧ win0_2.index t = ![2 + t.val / 64, 6 + t.val / 32 % 2]
    ∧ win0_3.index t = ![t.val / 64, 0, t.val / 32 % 2] ∧ win0_4.index t = ![t.val / 64, 0, t.val / 32 % 2]
    ∧ win0_5.index t = ![t.val % 32 - min (t.val % 32 - 4) 24, t.val / 32 % 2, 0, 0]
    ∧ win0_6.index t = ![t.val / 64 * 32 + t.val % 32, t.val / 32 % 2] :=
  (by decide +kernel : ∀ t : Fin grid0.N, _)

/-- A point's block of rows. -/
def blockOf (t : Fin cfg0.N) : Fin 4 := ⟨t.val / 64, by have : t.val < 256 := t.isLt; omega⟩

/-- A point's grid row. -/
def rowOf (t : Fin cfg0.N) : Fin 32 := ⟨t.val % 32, by omega⟩

/-- A point's half of the heads. -/
def halfOf (t : Fin cfg0.N) : Fin 2 := ⟨t.val / 32 % 2, by omega⟩

/-- The rows of the window's first key, of each pair. -/
theorem off : ∀ t : Fin cfg0.N, k0_off1 (grid0.coords t) = ![rowStart (rowOf t) * 64, 0] ∧ k0_off2 (grid0.coords t) = ![rowStart (rowOf t) * 64, 128]
    ∧ k0_off3 (grid0.coords t) = ![rowStart (rowOf t) * 64, 256] ∧ k0_off4 (grid0.coords t) = ![rowStart (rowOf t) * 64, 384] :=
  (by decide +kernel : ∀ t : Fin grid0.N, _)

/-- The block of queries. -/
theorem query_block (c : Dev nD) (t : Fin cfg0.N) (q : Fin 64) (d : Fin 512) :
    iblk m c 0 t (ix2 q d) = m ((c : Thread nD τ).loc main_arg0)
      (ix2 (queryRow (blockOf t) (rowOf t) q) ⟨1024 + ((halfOf t).val * 512 + d.val), by omega⟩) := by
  blk_point [iblk, V, idx t]
  all_goals dsimp only [queryRow, blockOf, rowOf, halfOf] <;> omega

/-- The block of keys. -/
theorem key_block (c : Dev nD) (t : Fin cfg0.N) (w : Fin 2048) (d : Fin 512) :
    iblk m c 1 t (ix2 w d) = m ((c : Thread nD τ).loc main_arg0)
      (ix2 ⟨4096 + ((blockOf t).val * 2048 + w.val), by omega⟩ ⟨2048 + ((halfOf t).val * 512 + d.val), by omega⟩) := by
  blk_point [iblk, V, idx t]
  all_goals dsimp only [blockOf, halfOf] <;> omega

/-- The block of values. -/
theorem value_block (c : Dev nD) (t : Fin cfg0.N) (w : Fin 2048) (d : Fin 512) :
    iblk m c 2 t (ix2 w d) = m ((c : Thread nD τ).loc main_arg0)
      (ix2 ⟨4096 + ((blockOf t).val * 2048 + w.val), by omega⟩ ⟨3072 + ((halfOf t).val * 512 + d.val), by omega⟩) := by
  blk_point [iblk, V, idx t]
  all_goals dsimp only [blockOf, halfOf] <;> omega

/-- The block of context keys. -/
theorem ctx_key_block (c : Dev nD) (t : Fin cfg0.N) (n : Fin 256) (d : Fin 512) :
    iblk m c 3 t (ix3 0 n d) = m ((c : Thread nD τ).loc main_arg1) (ix3 (blockOf t) n ⟨(halfOf t).val * 512 + d.val, by omega⟩) := by
  blk_point [iblk, V, idx t]
  all_goals dsimp only [blockOf, halfOf] <;> omega

/-- The block of context values. -/
theorem ctx_value_block (c : Dev nD) (t : Fin cfg0.N) (n : Fin 256) (d : Fin 512) :
    iblk m c 4 t (ix3 0 n d) = m ((c : Thread nD τ).loc main_arg2) (ix3 (blockOf t) n ⟨(halfOf t).val * 512 + d.val, by omega⟩) := by
  blk_point [iblk, V, idx t]
  all_goals dsimp only [blockOf, halfOf] <;> omega

/-- The block of biases. -/
theorem bias_block (c : Dev nD) (t : Fin cfg0.N) (h : Fin 8) (q : Fin 64) (w : Fin 512) :
    iblk m c 5 t (ix4 0 h q w) = table (m ((c : Thread nD τ).loc main_arg3))
      (ix4 ⟨(rowOf t).val - rowStart (rowOf t), by unfold rowStart; omega⟩ ⟨(halfOf t).val * 8 + h.val, by omega⟩ q w) := by
  rw [← table_read m c]
  blk_point [iblk, idx t]
  all_goals dsimp only [blockOf, halfOf, rowOf, rowStart] <;> omega

/-- A rectangle's element of two axes, by its offsets. -/
theorem unit2 {A B a b : Nat} (o : Fin 2 → Nat) (inb) (r : Fin a) (l : Fin b) (i : Fin A) (j : Fin B) (hr : o 0 + r.val = i.val) (hl : o 1 + l.val = j.val) :
    (Rect.unit (s := ⟨2, ![A, B]⟩) o ![a, b] inb).emb (ix2 r l) = ix2 i j := by
  funext e
  refine Fin.ext ?_
  match e with
  | ⟨0, _⟩ => exact (congrArg (o 0 + ·) (Nat.one_mul r.val)).trans hr
  | ⟨1, _⟩ => exact (congrArg (o 1 + ·) (Nat.one_mul l.val)).trans hl

/-- The same of three axes. -/
theorem unit3 {A B C a b d : Nat} (o : Fin 3 → Nat) (inb) (r : Fin a) (l : Fin b) (k : Fin d) (i : Fin A) (j : Fin B) (n : Fin C)
    (hr : o 0 + r.val = i.val) (hl : o 1 + l.val = j.val) (hk : o 2 + k.val = n.val) :
    (Rect.unit (s := ⟨3, ![A, B, C]⟩) o ![a, b, d] inb).emb (ix3 r l k) = ix3 i j n := by
  funext e
  refine Fin.ext ?_
  match e with
  | ⟨0, _⟩ => exact (congrArg (o 0 + ·) (Nat.one_mul r.val)).trans hr
  | ⟨1, _⟩ => exact (congrArg (o 1 + ·) (Nat.one_mul l.val)).trans hl
  | ⟨2, _⟩ => exact (congrArg (o 2 + ·) (Nat.one_mul k.val)).trans hk

/-- The same of four axes. -/
theorem unit4 {A B C D a b d f : Nat} (o : Fin 4 → Nat) (inb) (r : Fin a) (l : Fin b) (k : Fin d) (g : Fin f)
    (i : Fin A) (j : Fin B) (n : Fin C) (w : Fin D)
    (hr : o 0 + r.val = i.val) (hl : o 1 + l.val = j.val) (hk : o 2 + k.val = n.val) (hg : o 3 + g.val = w.val) :
    (Rect.unit (s := ⟨4, ![A, B, C, D]⟩) o ![a, b, d, f] inb).emb (ix4 r l k g) = ix4 i j n w := by
  funext e
  refine Fin.ext ?_
  match e with
  | ⟨0, _⟩ => exact (congrArg (o 0 + ·) (Nat.one_mul r.val)).trans hr
  | ⟨1, _⟩ => exact (congrArg (o 1 + ·) (Nat.one_mul l.val)).trans hl
  | ⟨2, _⟩ => exact (congrArg (o 2 + ·) (Nat.one_mul k.val)).trans hk
  | ⟨3, _⟩ => exact (congrArg (o 3 + ·) (Nat.one_mul g.val)).trans hg

/-- What the body stores for pair `p` of the heads, over the parts of its blocks that it loads, is the reference's value
    where the store lands. -/
theorem piece_at (hX : ∀ c : Dev nD, FiniteRows (m ((c : Thread nD τ).loc main_arg0))) (hK : ∀ (c : Dev nD) i, IsReal (m ((c : Thread nD τ).loc main_arg1) i))
    (hB : ∀ (c : Dev nD) i, IsReal (m ((c : Thread nD τ).loc main_arg3) i)) (c : Dev nD) (t : Fin cfg0.N) (p : Fin 4)
    (q0 : Fin 2 → Nat) (hq) (k0 : Fin 2 → Nat) (hk) (c0 : Fin 3 → Nat) (hc) (b0 : Fin 4 → Nat) (hb)
    (eq : q0 = ![0, 128 * p.val]) (ek : k0 = ![rowStart (rowOf t) * 64, 128 * p.val]) (ec : c0 = ![0, 0, 128 * p.val])
    (eb : b0 = ![0, 2 * p.val, 0, 0]) (y : S64x512.Idx) (x : S64x128.Idx) (h0 : (y 0).val = (x 0).val) (h1 : (y 1).val = 128 * p.val + (x 1).val) :
    stored (View.ld (iblk m c 0 t) (Rect.unit q0 ![64, 128] hq)) (View.ld (iblk m c 1 t) (Rect.unit k0 ![512, 128] hk))
        (View.ld (iblk m c 2 t) (Rect.unit k0 ![512, 128] hk)) (View.ld (iblk m c 3 t) (Rect.unit c0 ![1, 256, 128] hc))
        (View.ld (iblk m c 4 t) (Rect.unit c0 ![1, 256, 128] hc)) (View.ld (iblk m c 5 t) (Rect.unit b0 ![1, 2, 64, 512] hb)) x
      = goal (m ((c : Thread nD τ).loc main_arg0)) (m ((c : Thread nD τ).loc main_arg1)) (m ((c : Thread nD τ).loc main_arg2)) (m ((c : Thread nD τ).loc main_arg3))
          (((cfg0.win 6).blk t).view.emb y) := by
  subst eq ek ec eb
  rw [eq_ix2 x]
  have hr := rowStart_le (rowOf t)
  have l0 : (x 0).val < 64 := (x 0).isLt
  have l1 : (x 1).val < 128 := (x 1).isLt
  refine (pair_at (V := m ((c : Thread nD τ).loc main_arg2)) (hX c) (hK c) (hB c) (blockOf t) (rowOf t) (halfOf t) p (x 0) (x 1) _ _ _ _ _ _
    (fun d => ?_) (fun w d => ?_) (fun w d => ?_) (fun n d => ?_) (fun n d => ?_) (fun h w => ?_)).trans ?_
  · exact (congrArg (iblk m c 0 t) (unit2 _ hq (x 0) d (x 0) ⟨128 * p.val + d.val, by omega⟩ (Nat.zero_add _) rfl)).trans
      (query_block m c t (x 0) ⟨128 * p.val + d.val, by omega⟩)
  · exact (congrArg (iblk m c 1 t) (unit2 _ hk w d ⟨rowStart (rowOf t) * 64 + w.val, by omega⟩ ⟨128 * p.val + d.val, by omega⟩ rfl rfl)).trans
      (key_block m c t ⟨rowStart (rowOf t) * 64 + w.val, by omega⟩ ⟨128 * p.val + d.val, by omega⟩)
  · exact (congrArg (iblk m c 2 t) (unit2 _ hk w d ⟨rowStart (rowOf t) * 64 + w.val, by omega⟩ ⟨128 * p.val + d.val, by omega⟩ rfl rfl)).trans
      (value_block m c t ⟨rowStart (rowOf t) * 64 + w.val, by omega⟩ ⟨128 * p.val + d.val, by omega⟩)
  · exact (congrArg (iblk m c 3 t) (unit3 _ hc 0 n d 0 n ⟨128 * p.val + d.val, by omega⟩ rfl (Nat.zero_add _) rfl)).trans
      (ctx_key_block m c t n ⟨128 * p.val + d.val, by omega⟩)
  · exact (congrArg (iblk m c 4 t) (unit3 _ hc 0 n d 0 n ⟨128 * p.val + d.val, by omega⟩ rfl (Nat.zero_add _) rfl)).trans
      (ctx_value_block m c t n ⟨128 * p.val + d.val, by omega⟩)
  · exact (congrArg (iblk m c 5 t) (unit4 _ hb 0 h (x 0) w 0 ⟨2 * p.val + h.val, by omega⟩ (x 0) w rfl rfl (Nat.zero_add _) (Nat.zero_add _))).trans
      (bias_block m c t ⟨2 * p.val + h.val, by omega⟩ (x 0) w)
  · unfold goal
    generalize Cert.ReferenceNaIdeal.Read.val_main_v118 (F := Ideal) _ _ _ _ = G
    blk_point [idx t]
    all_goals dsimp only [blockOf, halfOf, rowOf] <;> omega

/-- The result array after the run is the reference's value of the arguments: the written blocks tile it. -/
theorem final (hX : ∀ c : Dev nD, FiniteRows (m ((c : Thread nD τ).loc main_arg0))) (hK : ∀ (c : Dev nD) i, IsReal (m ((c : Thread nD τ).loc main_arg1) i))
    (hB : ∀ (c : Dev nD) i, IsReal (m ((c : Thread nD τ).loc main_arg3) i)) (c : Dev nD) : (dats m 0 c).arrAt 6 cfg0.N
    = goal (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold Gen.outsAt0; frame_out
  canon_tiles x h
  case piece3 =>
    refine Eq.trans (b := stored
      (View.ld (iblk m c 0 t) (Rect.unit ![0, 0] ![64, 128] inb_S64x512_S64x128_0_0))
      (View.ld (iblk m c 1 t) (Rect.unit (k0_off1 (grid0.coords t)) ![512, 128] (k0_off1_inb (grid0.coords t))))
      (View.ld (iblk m c 2 t) (Rect.unit (k0_off1 (grid0.coords t)) ![512, 128] (k0_off1_inb (grid0.coords t))))
      (View.ld (iblk m c 3 t) (Rect.unit ![0, 0, 0] ![1, 256, 128] inb_S1x256x512_S1x256x128_0_0_0))
      (View.ld (iblk m c 4 t) (Rect.unit ![0, 0, 0] ![1, 256, 128] inb_S1x256x512_S1x256x128_0_0_0))
      (View.ld (iblk m c 5 t) (Rect.unit ![0, 0, 0, 0] ![1, 2, 64, 512] inb_S1x8x64x512_S1x2x64x512_0_0_0_0)) x) rfl ?_
    exact piece_at m hX hK hB c t 0 _ _ _ _ _ _ _ _ rfl (off t).1 rfl rfl y x h0 (h1.trans (Nat.zero_add _).symm)
  case piece2 =>
    refine Eq.trans (b := stored
      (View.ld (iblk m c 0 t) (Rect.unit ![0, 128] ![64, 128] inb_S64x512_S64x128_0_128))
      (View.ld (iblk m c 1 t) (Rect.unit (k0_off2 (grid0.coords t)) ![512, 128] (k0_off2_inb (grid0.coords t))))
      (View.ld (iblk m c 2 t) (Rect.unit (k0_off2 (grid0.coords t)) ![512, 128] (k0_off2_inb (grid0.coords t))))
      (View.ld (iblk m c 3 t) (Rect.unit ![0, 0, 128] ![1, 256, 128] inb_S1x256x512_S1x256x128_0_0_128))
      (View.ld (iblk m c 4 t) (Rect.unit ![0, 0, 128] ![1, 256, 128] inb_S1x256x512_S1x256x128_0_0_128))
      (View.ld (iblk m c 5 t) (Rect.unit ![0, 2, 0, 0] ![1, 2, 64, 512] inb_S1x8x64x512_S1x2x64x512_0_2_0_0)) x) rfl ?_
    exact piece_at m hX hK hB c t 1 _ _ _ _ _ _ _ _ rfl (off t).2.1 rfl rfl y x h0 h1
  case piece1 =>
    refine Eq.trans (b := stored
      (View.ld (iblk m c 0 t) (Rect.unit ![0, 256] ![64, 128] inb_S64x512_S64x128_0_256))
      (View.ld (iblk m c 1 t) (Rect.unit (k0_off3 (grid0.coords t)) ![512, 128] (k0_off3_inb (grid0.coords t))))
      (View.ld (iblk m c 2 t) (Rect.unit (k0_off3 (grid0.coords t)) ![512, 128] (k0_off3_inb (grid0.coords t))))
      (View.ld (iblk m c 3 t) (Rect.unit ![0, 0, 256] ![1, 256, 128] inb_S1x256x512_S1x256x128_0_0_256))
      (View.ld (iblk m c 4 t) (Rect.unit ![0, 0, 256] ![1, 256, 128] inb_S1x256x512_S1x256x128_0_0_256))
      (View.ld (iblk m c 5 t) (Rect.unit ![0, 4, 0, 0] ![1, 2, 64, 512] inb_S1x8x64x512_S1x2x64x512_0_4_0_0)) x) rfl ?_
    exact piece_at m hX hK hB c t 2 _ _ _ _ _ _ _ _ rfl (off t).2.2.1 rfl rfl y x h0 h1
  case piece0 =>
    refine Eq.trans (b := stored
      (View.ld (iblk m c 0 t) (Rect.unit ![0, 384] ![64, 128] inb_S64x512_S64x128_0_384))
      (View.ld (iblk m c 1 t) (Rect.unit (k0_off4 (grid0.coords t)) ![512, 128] (k0_off4_inb (grid0.coords t))))
      (View.ld (iblk m c 2 t) (Rect.unit (k0_off4 (grid0.coords t)) ![512, 128] (k0_off4_inb (grid0.coords t))))
      (View.ld (iblk m c 3 t) (Rect.unit ![0, 0, 384] ![1, 256, 128] inb_S1x256x512_S1x256x128_0_0_384))
      (View.ld (iblk m c 4 t) (Rect.unit ![0, 0, 384] ![1, 256, 128] inb_S1x256x512_S1x256x128_0_0_384))
      (View.ld (iblk m c 5 t) (Rect.unit ![0, 6, 0, 0] ![1, 2, 64, 512] inb_S1x8x64x512_S1x2x64x512_0_6_0_0)) x) rfl ?_
    exact piece_at m hX hK hB c t 3 _ _ _ _ _ _ _ _ rfl (off t).2.2.2 rfl rfl y x h0 h1

variable [Cert.Pre_finite_na.Facts]

/-- Under the precondition the query and key columns of the packed rows are real. -/
theorem rows_real (h : Cert.Pre_KernelNaIdeal_finite_na m) (c : Dev nD) : FiniteRows (m ((c : Thread nD τ).loc main_arg0)) :=
  fun i j => real_of_below _ <| by
    refine Eq.trans (congrArg (fun z => FloatOps.cmpf .olt (FloatOps.hostAbsf z) (FloatOps.ofBits (F := Ideal) .f32 0x7F800000#32)) ?_)
      (congrFun (h c).1 (ix2 i j))
    exact (extractStridedSlice_apply _ _ _ _ _ (by intro a; fin_cases a <;> rfl)).symm

/-- Under the precondition the context keys are real. -/
theorem keys_real (h : Cert.Pre_KernelNaIdeal_finite_na m) (c : Dev nD) (i) : IsReal (m ((c : Thread nD τ).loc main_arg1) i) :=
  real_of_below _ (congrFun (h c).2.1 i)

/-- Under the precondition the relative-position biases are real. -/
theorem biases_real (h : Cert.Pre_KernelNaIdeal_finite_na m) (c : Dev nD) (i) : IsReal (m ((c : Thread nD τ).loc main_arg3) i) :=
  real_of_below _ (congrFun (h c).2.2 i)

/-- Every execution from real arguments ends with the result array at the reference's value and the arguments unchanged. -/
theorem run (h : Cert.Pre_KernelNaIdeal_finite_na m) :
    θ_run defs (onTc (τ := τ) (main (F := Ideal))) ⟨m, fun _ => 0, ρ⟩ fun r => ∀ c : Dev nD,
      r.2.mem ((c : Thread nD τ).loc main_v56) = goal (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun r hr c => ⟨((hr.1 c).1 6).trans (final m (rows_real m h) (keys_real m h) (biases_real m h) c), hr.2 c⟩)
    (θ_run_and (run_main m ρ) (unchanged m ρ))

end Cert.KernelNaIdeal.RefValue

/-! ## The claims -/

namespace Cert.Proof.NaClaims

/-- Every weakly fair execution of the kernel ends, with its arguments unchanged and every counter at zero. -/
theorem frame_kernel : Cert.quiescent_KernelNa := fun m ρ _ => Cert.KernelNa.Gen.frame m ρ

/-- The same of the kernel read at the extended reals. -/
theorem frame_ideal : Cert.quiescent_KernelNaIdeal := fun m ρ _ => Cert.KernelNaIdeal.Gen.frame m ρ

/-- The same of the reference, whose program has no counters. -/
theorem frame_reference : Cert.quiescent_ReferenceNaIdeal := fun m ρ _ =>
  (θ_run Cert.ReferenceNaIdeal.defs _ _).mono (fun r h => ⟨fun c => (h c).2,
      Idealize.ShloMosaic.sem_eq_zero_of_no_sems (by decide) r.2⟩)
    (Cert.ReferenceNaIdeal.Value.run (F := Ideal) m ρ)

/-- No operation was rewritten. -/
theorem preserves : Cert.preserves_KernelNa_KernelNaIdeal := trivial

/-- The shapes the precondition's operations take fit together. -/
theorem precondition_facts : Cert.Pre_finite_na.Facts where
  slices_S12288x8704_S8192x2048_4096_1024 := by decide
  bcast_S_S8192x2048 := by decide
  bcast_S_S4x256x1024 := by decide
  bcast_S_S16x15x31 := by decide

variable [Cert.Pre_finite_na.Facts]

/-- The kernel's frame under the precondition, which it does not need. -/
theorem frame_ideal_finite : Cert.quiescent_KernelNaIdeal_pre_finite_na := fun m ρ _ => frame_ideal m ρ trivial

/-- The reference's frame under the precondition, which it does not need. -/
theorem frame_reference_finite : Cert.quiescent_ReferenceNaIdeal_pre_finite_na := fun m ρ _ => frame_reference m ρ trivial

/-- From agreeing real arguments the kernel and the reference end with the same result at the extended reals. -/
theorem algebraic : Cert.algebraic_KernelNaIdeal_ReferenceNaIdeal_pre_finite_na := fun m ρ m' ρ' hpre hag =>
  ⟨fun c => Cert.KernelNaIdeal.RefValue.goal (m ((c.tc : Thread Cert.KernelNaIdeal.nD Cert.KernelNaIdeal.τ).loc Cert.KernelNaIdeal.main_arg0))
      (m ((c.tc : Thread Cert.KernelNaIdeal.nD Cert.KernelNaIdeal.τ).loc Cert.KernelNaIdeal.main_arg1))
      (m ((c.tc : Thread Cert.KernelNaIdeal.nD Cert.KernelNaIdeal.τ).loc Cert.KernelNaIdeal.main_arg2))
      (m ((c.tc : Thread Cert.KernelNaIdeal.nD Cert.KernelNaIdeal.τ).loc Cert.KernelNaIdeal.main_arg3)),
    Cert.KernelNaIdeal.RefValue.run m ρ hpre,
    (θ_run Cert.ReferenceNaIdeal.defs _ _).mono (fun _ h c => ⟨(h c).1.trans (by
        rw [Cert.ReferenceNaIdeal.Read.val_main_v118_eq, (hag c).1, (hag c).2.1, (hag c).2.2.1, (hag c).2.2.2]), (h c).2⟩)
      (Cert.ReferenceNaIdeal.Value.run (F := Ideal) m' ρ')⟩

end Cert.Proof.NaClaims

end
-- ==== Proof.Mods.lean ====
/-
  The modulation product (`KernelMods`): one grid point multiplies the activated conditioning vectors by a 1024-column
  tile of one layer's weights. At the extended reals the result array is the reference's product over all layers.
-/
module

public import proofs.«01_k».proof.Defs
public import proofs.«01_k».proof.Proof.Gen.KernelMods.Frame
public import proofs.«01_k».proof.Proof.Gen.KernelModsIdeal.Value
public import proofs.«01_k».proof.Proof.Gen.ReferenceModsIdeal.Read
public import Idealize.ShloMosaic.Lib.Pipeline.ValueKit
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! ## The kernel's result array -/

namespace Cert.KernelModsIdeal.RefValue

open Cert.KernelModsIdeal Cert.KernelModsIdeal.Gen

variable (m : (ℓ : Loc nD τ sig) → Buf (Elt Ideal) ℓ) (ρ : Dev nD → PrngReg)

/-- What the result array is shown to hold: the reference's last value, of the kernel's arguments. -/
abbrev goal (x0 : FVec Ideal S8x4096 .f32) (x1 : FVec Ideal S2x4096x24576 .f32) :
    FVec Ideal S2x8x24576 .f32 :=
  Cert.ReferenceModsIdeal.Read.val_main_v2 (F := Ideal) x0 x1

/-- The windows' block indices at every grid point. -/
theorem idx : ∀ t : Fin cfg0.N, win0_0.index t = ![0, 0, 0] ∧ win0_1.index t = ![t.val / 24, 0, t.val % 24] ∧ win0_2.index t = ![t.val / 24, 0, t.val % 24] :=
  (by decide +kernel : ∀ t : Fin grid0.N, _)

/-- The array the kernel reads its rows from is the activated conditioning, under one unit axis. -/
theorem read_silu (c : Dev nD) : V m c main_v1
    = broadcastInDim S1x8x4096 ![1, 2] bcast_S8x4096_S1x8x4096_1_2
        (Cert.ReferenceModsIdeal.Read.val_main_v0 (F := Ideal) (m ((c : Thread nD τ).loc main_arg0))) := by
  show StableHlo.after (List.flatten [hostOps0, hostOps0_1]) (fun b => m (c, b)) (Proc.tc.devRef main_v1) = _
  simp only [List.flatten_cons, List.flatten_nil, List.append_nil]
  after_reads_simp
  rfl

/-- An entry of the block of activated conditioning. -/
theorem rows_block (c : Dev nD) (t : Fin cfg0.N) (r : Fin 8) (j : Fin 4096) :
    iblk m c 0 t (ix3 0 r j)
      = broadcastInDim S1x8x4096 ![1, 2] bcast_S8x4096_S1x8x4096_1_2
        (Cert.ReferenceModsIdeal.Read.val_main_v0 (F := Ideal) (m ((c : Thread nD τ).loc main_arg0))) (ix3 0 r j) := by
  rw [← read_silu m c]
  blk_point [iblk, idx t]

/-- What the body stores at index `y` of its block is the reference's value at the array index `y` sits at. -/
theorem point (c : Dev nD) (t : Fin cfg0.N) (y : S1x8x1024.Idx) :
    k0_pay1 (iblk m c 0 t) (iblk m c 1 t) y
      = goal (m ((c : Thread nD τ).loc main_arg0)) (m ((c : Thread nD τ).loc main_arg1)) (((cfg0.win 2).blk t).view.emb y) := by
  rw [eq_ix3 y]
  pointwise [k0_pay1]
  rw [eq_ix3 (((cfg0.win 2).blk t).view.emb _)]
  pointwise [goal, Cert.ReferenceModsIdeal.Read.val_main_v2, Cert.ReferenceModsIdeal.Read.val_main_v1]
  refine Finset.sum_congr rfl fun x _ => (mul_comm _ _).trans (congrArg₂ (· * ·) ?_ ?_)
  · blk_point [iblk, V, idx t]
  · rw [show iblk m c 0 t (ix3 0 (y 1) x) = _ from rows_block m c t (y 1) x]
    pointwise [Cert.ReferenceModsIdeal.Read.val_main_v0, Cert.ReferenceModsIdeal.Read.val_main_call0_v0, Cert.ReferenceModsIdeal.Read.val_main_call0_v1,
      Cert.ReferenceModsIdeal.Read.val_main_call0_v2, Cert.ReferenceModsIdeal.Read.val_main_call0_v3, Cert.ReferenceModsIdeal.Read.val_main_call0_v4,
      Cert.ReferenceModsIdeal.Read.val_main_call0_v5, Cert.ReferenceModsIdeal.Read.val_main_call0_cst, Cert.ReferenceModsIdeal.Read.val_main_call0_cst_0]
    blk_point [iblk, V, idx t]

/-- The result array after the run is the reference's value of the arguments: the written blocks tile it. -/
theorem final (c : Dev nD) : (dats m 0 c).arrAt 2 cfg0.N
    = goal (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v2) = goal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelModsIdeal.RefValue

/-! ## The claims -/

namespace Cert.Proof.ModsClaims

/-- Every weakly fair execution of the kernel ends, with its arguments unchanged and every counter at zero. -/
theorem frame_kernel : Cert.quiescent_KernelMods := fun m ρ _ => Cert.KernelMods.Gen.frame m ρ

/-- The same of the kernel read at the extended reals. -/
theorem frame_ideal : Cert.quiescent_KernelModsIdeal := fun m ρ _ => Cert.KernelModsIdeal.Gen.frame m ρ

/-- The same of the reference, whose program has no counters. -/
theorem frame_reference : Cert.quiescent_ReferenceModsIdeal := fun m ρ _ =>
  (θ_run Cert.ReferenceModsIdeal.defs _ _).mono (fun r h => ⟨fun c => (h c).2,
      Idealize.ShloMosaic.sem_eq_zero_of_no_sems (by decide) r.2⟩)
    (Cert.ReferenceModsIdeal.Value.run (F := Ideal) m ρ)

/-- No operation was rewritten. -/
theorem preserves : Cert.preserves_KernelMods_KernelModsIdeal := trivial

/-- From agreeing arguments the kernel and the reference end with the same result at the extended reals. -/
theorem algebraic : Cert.algebraic_KernelModsIdeal_ReferenceModsIdeal := fun m ρ m' ρ' _ hag =>
  ⟨fun c => Cert.KernelModsIdeal.RefValue.goal (m ((c.tc : Thread Cert.KernelModsIdeal.nD Cert.KernelModsIdeal.τ).loc Cert.KernelModsIdeal.main_arg0)) (m ((c.tc : Thread Cert.KernelModsIdeal.nD Cert.KernelModsIdeal.τ).loc Cert.KernelModsIdeal.main_arg1)),
    Cert.KernelModsIdeal.RefValue.run m ρ,
    (θ_run Cert.ReferenceModsIdeal.defs _ _).mono (fun _ h c => ⟨(h c).1.trans (by
        rw [(hag c).1, (hag c).2]; rfl), (h c).2⟩)
      (Cert.ReferenceModsIdeal.Value.run (F := Ideal) m' ρ')⟩

end Cert.Proof.ModsClaims

end
-- ==== Proof.Norm.lean ====
/-
  Layer norms at the extended reals: the formula that the kernels' bodies and the references both come to, and that it
  gives real numbers from real numbers.
-/
module

public import proofs.«01_k».proof.Proof.Softmax
public import proofs.«01_k».proof.Proof.Window

@[expose] public section

noncomputable section

open Idealize.ShloMosaic

namespace Cert.Norm

open Cert.Softmax (IsReal isReal_of_ne)

/-- The mean of a row. -/
def mean (x : Fin 4096 → EReal) : EReal := Ideal.div (∑ j, x j) (Ideal.ofBits FTy.f32 1166016512#32)

/-- The variance of a row, with the norm's small constant added. -/
def spread (x : Fin 4096 → EReal) : EReal :=
  Ideal.div (∑ j, (x j - mean x) * (x j - mean x)) (Ideal.ofBits FTy.f32 1166016512#32) + Ideal.ofBits FTy.f32 925353388#32

/-- One entry `x₀` of a row, normalised. -/
def lnorm (x₀ : EReal) (x : Fin 4096 → EReal) : EReal := (x₀ - mean x) * Ideal.rsqrt (spread x)

/-- One entry `x₀` of a normalised row, scaled and shifted. -/
def normed (x₀ : EReal) (x : Fin 4096 → EReal) (scale shift : EReal) : EReal := lnorm x₀ x * (1 + scale) + shift

/-- The row of the modulation array that belongs to a token row: the first for the context, then one for each block of
    latent rows. -/
def modRow (r : Fin 12288) : Fin 8 := if r.val < 4096 then 0 else ⟨1 + (r.val - 4096) / 2048, by omega⟩

/-- The modulation row of the token rows of a grid point. -/
theorem modRow_block {t r : Nat} (ht : t < 48) (hr : r < 256) : modRow ⟨t * 256 + r, by omega⟩
    = if t < 16 then 0 else ⟨1 + (t - 16) / 8, by omega⟩ := by
  unfold modRow
  by_cases h : t < 16
  · rw [if_pos h, if_pos (show t * 256 + r < 4096 by omega)]
  · rw [if_neg h, if_neg (show ¬t * 256 + r < 4096 by omega)]
    exact Fin.ext (by dsimp only; omega)

/-! ## Real rows -/

/-- The row length's pattern. -/
theorem ofBits_length : Ideal.ofBits FTy.f32 1166016512#32 = ((4096 : ℝ) : EReal) := by
  simp [Ideal.ofBits, Ideal.ieee, -EReal.coe_mul]
  norm_num

/-- The small constant's pattern is a positive real number. -/
theorem ofBits_eps : ∃ r : ℝ, 0 < r ∧ Ideal.ofBits FTy.f32 925353388#32 = (r : EReal) := by
  refine ⟨_, ?_, by simp [Ideal.ofBits, Ideal.ieee, -EReal.coe_mul]; rfl⟩
  positivity

/-- A difference of real numbers is one. -/
theorem isReal_sub {x y : EReal} : IsReal x → IsReal y → IsReal (x - y)
  | ⟨a, ha⟩, ⟨b, hb⟩ => ⟨a - b, by rw [ha, hb, EReal.coe_sub]⟩

/-- A sum of real numbers, taken at the extended reals. -/
theorem coe_sum {N : Nat} (d : Fin N → ℝ) : ((∑ j, d j : ℝ) : EReal) = ∑ j, (d j : EReal) :=
  map_sum (⟨⟨fun r : ℝ => (r : EReal), EReal.coe_zero⟩, EReal.coe_add⟩ : ℝ →+ EReal) d Finset.univ

/-- The mean of a real row is real. -/
theorem isReal_mean {x : Fin 4096 → EReal} (h : ∀ j, IsReal (x j)) : IsReal (mean x) := by
  unfold mean
  rw [ofBits_length, Ideal.div_coe (by norm_num)]
  exact (IsReal.sum _ _ h).mul ⟨_, rfl⟩

/-- A real row's entry is real after the norm: the variance and its constant are positive. -/
theorem isReal_lnorm {x₀ : EReal} {x : Fin 4096 → EReal} (h₀ : IsReal x₀) (h : ∀ j, IsReal (x j)) : IsReal (lnorm x₀ x) := by
  refine (isReal_sub h₀ (isReal_mean h)).mul ?_
  obtain ⟨e, he, hE⟩ := ofBits_eps
  have hd (j : Fin 4096) : ∃ d : ℝ, x j - mean x = (d : EReal) := isReal_sub (h j) (isReal_mean h)
  choose d hd using hd
  have hs : spread x = ((∑ j, d j * d j) * (1 / 4096) + e : ℝ) := by
    unfold spread
    rw [ofBits_length, Ideal.div_coe (by norm_num), hE, EReal.coe_add, EReal.coe_mul, coe_sum]
    simp only [hd, EReal.coe_mul]
  have hp : 0 < (∑ j, d j * d j) * (1 / 4096) + e :=
    add_pos_of_nonneg_of_pos (mul_nonneg (Finset.sum_nonneg fun j _ => mul_self_nonneg _) (by norm_num)) he
  rw [hs, Ideal.rsqrt_coe, if_neg hp.not_gt, if_neg hp.ne']
  exact ⟨_, rfl⟩

/-- The scaled and shifted entry of a real row is real. -/
theorem isReal_normed {x₀ : EReal} {x : Fin 4096 → EReal} {a b : EReal} (h₀ : IsReal x₀) (h : ∀ j, IsReal (x j))
    (ha : IsReal a) (hb : IsReal b) : IsReal (normed x₀ x a b) :=
  ((isReal_lnorm h₀ h).mul (IsReal.add ⟨1, rfl⟩ ha)).add hb

/-- A real number less itself is zero. -/
theorem sub_self_real {x : EReal} (h : IsReal x) : x - x = 0 := EReal.sub_self h.ne_top h.ne_bot

end Cert.Norm

end
-- ==== Proof.Ln.lean ====
/-
  The layer norm with its shift and scale (`KernelLn`): one grid point normalises 256 token rows and reads the row of
  the modulation array that belongs to them. At the extended reals the result array is the reference's, whose context
  and latent rows are normalised apart and joined.
-/
module

public import proofs.«01_k».proof.Defs
public import proofs.«01_k».proof.Proof.Gen.KernelLn.Frame
public import proofs.«01_k».proof.Proof.Gen.KernelLnIdeal.Value
public import proofs.«01_k».proof.Proof.Gen.ReferenceLnIdeal.Read
public import proofs.«01_k».proof.Proof.Norm
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelLnIdeal.RefValue

open Cert.KernelLnIdeal Cert.KernelLnIdeal.Gen
open Cert.Norm (normed modRow modRow_block)

variable (m : (ℓ : Loc nD τ sig) → Buf (Elt Ideal) ℓ) (ρ : Dev nD → PrngReg)

/-- What the result array is shown to hold: the reference's last value, of the kernel's arguments. -/
abbrev goal (x0 : FVec Ideal S12288x4096 .f32) (x1 : FVec Ideal S8x1x24576 .f32) :
    FVec Ideal S12288x4096 .bf16 :=
  Cert.ReferenceLnIdeal.Read.val_main_v61 (F := Ideal) x0 x1

/-- The windows' block indices at every grid point. -/
theorem idx : ∀ t : Fin cfg0.N, win0_0.index t = ![t.val, 0] ∧ win0_1.index t = ![if t.val < 16 then 0 else 1 + (t.val - 16) / 8, 0, 0]
    ∧ win0_2.index t = ![if t.val < 16 then 0 else 1 + (t.val - 16) / 8, 0, 1] ∧ win0_3.index t = ![t.val, 0] :=
  (by decide +kernel : ∀ t : Fin grid0.N, _)

/-- What the body stores: its block's rows normalised, scaled and shifted. -/
theorem pay_at (x : FVec Ideal S256x4096 .f32) (s g : FVec Ideal S1x1x4096 .f32) (r : Fin 256) (l : Fin 4096) :
    k0_pay1 (F := Ideal) x s g (ix2 r l)
      = normed (x (ix2 r l)) (fun j => x (ix2 r j)) (s (ix3 0 0 l)) (g (ix3 0 0 l)) := by
  pointwise [k0_pay1]
  rfl

section Reference
open Cert.ReferenceLnIdeal.Read

/-- The reference's context rows. -/
theorem ctx_at (x : FVec Ideal S12288x4096 .f32) (m : FVec Ideal S8x1x24576 .f32) (b : Fin 16) (r : Fin 256) (l : Fin 4096) :
    val_main_v31 (F := Ideal) x m (ix3 b r l)
      = normed (x (ix2 ⟨b.val * 256 + r.val, by omega⟩ l)) (fun j => x (ix2 ⟨b.val * 256 + r.val, by omega⟩ j))
          (m (ix3 0 0 ⟨4096 + l.val, by omega⟩)) (m (ix3 0 0 ⟨l.val, by omega⟩)) := by
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v3, val_main_v2, val_main_v1, val_main_v0, val_main_cst, val_main_cst_0,
    val_main_cst_1, val_main_cst_2, val_main_cst_3, val_main_cst_4, val_main_cst_5, val_main_cst_6, val_main_cst_7,
    val_main_cst_8, val_main_cst_9, val_main_cst_10]
  rfl

/-- The reference's latent rows. -/
theorem lat_at (x : FVec Ideal S12288x4096 .f32) (m : FVec Ideal S8x1x24576 .f32) (b : Fin 4) (r : Fin 2048) (l : Fin 4096) :
    val_main_v57 (F := Ideal) x m (ix3 b r l)
      = normed (x (ix2 ⟨4096 + (b.val * 2048 + r.val), by omega⟩ l)) (fun j => x (ix2 ⟨4096 + (b.val * 2048 + r.val), by omega⟩ j))
          (m (ix3 ⟨1 + b.val, by omega⟩ 0 ⟨4096 + l.val, by omega⟩)) (m (ix3 ⟨1 + b.val, by omega⟩ 0 ⟨l.val, by omega⟩)) := by
  pointwise [val_main_v57, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v5, val_main_v4, val_main_v1, val_main_v0, val_main_cst, val_main_cst_0,
    val_main_cst_1, val_main_cst_2, val_main_cst_3, val_main_cst_4, val_main_cst_5, val_main_cst_6, val_main_cst_7,
    val_main_cst_8, val_main_cst_9, val_main_cst_10]
  rfl

/-- The reference's result at row `r` and column `l`. -/
theorem goal_at (x : FVec Ideal S12288x4096 .f32) (m : FVec Ideal S8x1x24576 .f32) (r : Fin 12288) (l : Fin 4096) :
    val_main_v61 (F := Ideal) x m (ix2 r l)
      = normed (x (ix2 r l)) (fun j => x (ix2 r j)) (m (ix3 (modRow r) 0 ⟨4096 + l.val, by omega⟩)) (m (ix3 (modRow r) 0 ⟨l.val, by omega⟩)) := by
  pointwise [val_main_v61, val_main_v60, val_main_v59, val_main_v58, ctx_at, lat_at]
  unfold modRow
  split
  · have e : r.val / 256 * 256 + r.val % 256 = r.val := by omega
    simp only [e]
  · have e : 4096 + ((r.val - 4096) / 2048 * 2048 + (r.val - 4096) % 2048) = r.val := by omega
    simp only [e]

end Reference

/-- What the body stores at index `y` of its block is the reference's value at the array index `y` sits at. -/
theorem point (c : Dev nD) (t : Fin cfg0.N) (y : S256x4096.Idx) :
    k0_pay1 (iblk m c 0 t) (iblk m c 2 t) (iblk m c 1 t) y
      = goal (m ((c : Thread nD τ).loc main_arg0)) (m ((c : Thread nD τ).loc main_arg1)) (((cfg0.win 3).blk t).view.emb y) := by
  have ht : t.val < 48 := lt_of_lt_of_eq t.isLt (show cfg0.N = 48 from N_0)
  have hy : (y 0).val < 256 := (y 0).isLt
  have e : ((cfg0.win 3).blk t).view.emb (ix2 (y 0) (y 1)) = ix2 (⟨t.val * 256 + (y 0).val, by omega⟩ : Fin 12288) (y 1) := by
    blk_ext [idx t]
  rw [eq_ix2 y]
  refine (pay_at _ _ _ (y 0) (y 1)).trans ?_
  refine Eq.trans ?_ (congrArg _ e.symm)
  refine Eq.trans ?_ (goal_at _ _ _ _).symm
  rw [modRow_block ht hy]
  refine congr (congr (congrArg₂ normed ?_ (funext fun j => ?_)) ?_) ?_
  · blk_point [iblk, V, idx t]
  · blk_point [iblk, V, idx t]
  · split <;> blk_point [iblk, V, idx t] <;> split <;> omega
  · split <;> blk_point [iblk, V, idx t] <;> split <;> omega

/-- The result array after the run is the reference's value of the arguments: the written blocks tile it. -/
theorem final (c : Dev nD) : (dats m 0 c).arrAt 3 cfg0.N
    = goal (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v0) = goal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelLnIdeal.RefValue

/-! ## The claims -/

namespace Cert.Proof.LnClaims

/-- Every weakly fair execution of the kernel ends, with its arguments unchanged and every counter at zero. -/
theorem frame_kernel : Cert.quiescent_KernelLn := fun m ρ _ => Cert.KernelLn.Gen.frame m ρ

/-- The same of the kernel read at the extended reals. -/
theorem frame_ideal : Cert.quiescent_KernelLnIdeal := fun m ρ _ => Cert.KernelLnIdeal.Gen.frame m ρ

/-- The same of the reference, whose program has no counters. -/
theorem frame_reference : Cert.quiescent_ReferenceLnIdeal := fun m ρ _ =>
  (θ_run Cert.ReferenceLnIdeal.defs _ _).mono (fun r h => ⟨fun c => (h c).2,
      Idealize.ShloMosaic.sem_eq_zero_of_no_sems (by decide) r.2⟩)
    (Cert.ReferenceLnIdeal.Value.run (F := Ideal) m ρ)

/-- No operation was rewritten. -/
theorem preserves : Cert.preserves_KernelLn_KernelLnIdeal := trivial

/-- From agreeing arguments the kernel and the reference end with the same result at the extended reals. -/
theorem algebraic : Cert.algebraic_KernelLnIdeal_ReferenceLnIdeal := fun m ρ m' ρ' _ hag =>
  ⟨fun c => Cert.KernelLnIdeal.RefValue.goal (m ((c.tc : Thread Cert.KernelLnIdeal.nD Cert.KernelLnIdeal.τ).loc Cert.KernelLnIdeal.main_arg0)) (m ((c.tc : Thread Cert.KernelLnIdeal.nD Cert.KernelLnIdeal.τ).loc Cert.KernelLnIdeal.main_arg1)),
    Cert.KernelLnIdeal.RefValue.run m ρ,
    (θ_run Cert.ReferenceLnIdeal.defs _ _).mono (fun _ h c => ⟨(h c).1.trans (by
        rw [Cert.ReferenceLnIdeal.Read.val_main_v61_eq, (hag c).1, (hag c).2]), (h c).2⟩)
      (Cert.ReferenceLnIdeal.Value.run (F := Ideal) m' ρ')⟩

end Cert.Proof.LnClaims

end
-- ==== Proof.Mix.lean ====
/-
  The call after the mixing (`KernelMix`): one grid point takes 256 token rows, adds the gated mixing branch to the scaled
  residual stream and normalises (the first result), normalises again with the modulation's scale and shift (the second)
  and multiplies by the router's weights (the third). The kernel splits both operands of that product into a leading part
  and what is left over; at the extended reals nothing is left over of a real number, so from real arguments the three
  result arrays are the reference's.
-/
module

public import proofs.«01_k».proof.Defs
public import proofs.«01_k».proof.Proof.Gen.KernelMix.Frame
public import proofs.«01_k».proof.Proof.Gen.KernelMixIdeal.Value
public import proofs.«01_k».proof.Proof.Gen.ReferenceMixIdeal.Read
public import proofs.«01_k».proof.Proof.Norm
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result arrays -/

namespace Cert.KernelMixIdeal.RefValue

open Cert.KernelMixIdeal Cert.KernelMixIdeal.Gen
open Cert.Softmax (IsReal isReal_of_ne real_of_below)
open Cert.Norm (normed lnorm modRow modRow_block isReal_lnorm isReal_normed sub_self_real)

/-- The row that the first norm takes: the residual stream, scaled, plus the gated mixing branch. -/
def resid (x m : FVec Ideal S12288x4096 .f32) (mods : FVec Ideal S8x1x24576 .f32) (r : Fin 12288) (j : Fin 4096) : EReal :=
  Ideal.ofBits FTy.f32 1068827891#32 * x (ix2 r j) + mods (ix3 (modRow r) 0 ⟨8192 + j.val, by omega⟩) * m (ix2 r j)

/-- The first norm's row, with its gain and offset. -/
def first (x m : FVec Ideal S12288x4096 .f32) (mods : FVec Ideal S8x1x24576 .f32) (lg lb : FVec Ideal S4096 .f32) (r : Fin 12288) (l : Fin 4096) : EReal :=
  lnorm (resid x m mods r l) (resid x m mods r) * lg (ix1 l) + lb (ix1 l)

/-- The second norm's row, scaled and shifted. -/
def second (x m : FVec Ideal S12288x4096 .f32) (mods : FVec Ideal S8x1x24576 .f32) (lg lb : FVec Ideal S4096 .f32) (r : Fin 12288) (l : Fin 4096) : EReal :=
  normed (first x m mods lg lb r l) (first x m mods lg lb r) (mods (ix3 (modRow r) 0 ⟨16384 + l.val, by omega⟩))
    (mods (ix3 (modRow r) 0 ⟨12288 + l.val, by omega⟩))

section Reference
open Cert.ReferenceMixIdeal.Read

/-- The token row of a context block's row. -/
abbrev ctxRow (b : Fin 16) (r : Fin 256) : Fin 12288 := ⟨b.val * 256 + r.val, by omega⟩

/-- The token row of a latent block's row. -/
abbrev latRow (b : Fin 4) (r : Fin 2048) : Fin 12288 := ⟨4096 + (b.val * 2048 + r.val), by omega⟩

/-- A context row's modulation row. -/
theorem modRow_ctx (b : Fin 16) (r : Fin 256) : modRow (ctxRow b r) = 0 := if_pos (by dsimp only; omega)

/-- A latent row's modulation row. -/
theorem modRow_lat (b : Fin 4) (r : Fin 2048) : modRow (latRow b r) = ⟨1 + b.val, by omega⟩ :=
  (if_neg (by dsimp only; omega)).trans (Fin.ext (by dsimp only; omega))

/-- The reference's context rows after the first norm. -/
theorem ctx_first (x m : FVec Ideal S12288x4096 .f32) (mods : FVec Ideal S8x1x24576 .f32) (lg lb : FVec Ideal S4096 .f32) (b : Fin 16) (r : Fin 256) (l : Fin 4096) :
    val_main_v40 (F := Ideal) x m mods lg lb (ix3 b r l) = first x m mods lg lb (ctxRow b r) l := by
  pointwise [
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v6, val_main_v5,
    val_main_v4, val_main_v3, val_main_v0, val_main_cst, val_main_cst_0, val_main_cst_1, val_main_cst_2,
    val_main_cst_3, val_main_cst_4, val_main_cst_5, val_main_cst_6, val_main_cst_7, val_main_cst_8, val_main_cst_9,
    val_main_cst_10, val_main_cst_11, val_main_cst_12, val_main_cst_13, val_main_cst_14, val_main_cst_15,
    val_main_cst_16, val_main_cst_17, val_main_cst_18, val_main_cst_19, val_main_cst_20, val_main_cst_21,
    val_main_cst_22]
  unfold first resid
  rw [modRow_ctx]
  rfl

/-- The reference's latent rows after the first norm. -/
theorem lat_first (x m : FVec Ideal S12288x4096 .f32) (mods : FVec Ideal S8x1x24576 .f32) (lg lb : FVec Ideal S4096 .f32) (b : Fin 4) (r : Fin 2048) (l : Fin 4096) :
    val_main_v70 (F := Ideal) x m mods lg lb (ix3 b r l) = first x m mods lg lb (latRow b r) l := by
  pointwise [
    val_main_v70, val_main_v69, val_main_v68, val_main_v67, val_main_v66, val_main_v65, val_main_v64, val_main_v63,
    val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_v44, val_main_v43, val_main_v42, val_main_v41, val_main_v10, val_main_v9,
    val_main_v8, val_main_v7, val_main_v0, val_main_cst, val_main_cst_0, val_main_cst_1, val_main_cst_2,
    val_main_cst_3, val_main_cst_4, val_main_cst_5, val_main_cst_6, val_main_cst_7, val_main_cst_8, val_main_cst_9,
    val_main_cst_10, val_main_cst_11, val_main_cst_12, val_main_cst_13, val_main_cst_14, val_main_cst_15,
    val_main_cst_16, val_main_cst_17, val_main_cst_18, val_main_cst_19, val_main_cst_20, val_main_cst_21,
    val_main_cst_22]
  unfold first resid
  rw [modRow_lat]
  rfl

/-- The reference's context rows after the second norm. -/
theorem ctx_second (x m : FVec Ideal S12288x4096 .f32) (mods : FVec Ideal S8x1x24576 .f32) (lg lb : FVec Ideal S4096 .f32) (b : Fin 16) (r : Fin 256) (l : Fin 4096) :
    val_main_v96 (F := Ideal) x m mods lg lb (ix3 b r l) = second x m mods lg lb (ctxRow b r) l := by
  pointwise [
    val_main_v96, val_main_v95, val_main_v94, val_main_v93, val_main_v92, val_main_v91, val_main_v90, val_main_v89,
    val_main_v88, val_main_v87, val_main_v86, val_main_v85, val_main_v84, val_main_v83, val_main_v82, val_main_v81,
    val_main_v80, val_main_v79, val_main_v78, val_main_v77, val_main_v76, val_main_v75, val_main_v74, val_main_v73,
    val_main_v72, val_main_v71, val_main_v1, val_main_v2, val_main_cst, val_main_cst_0, val_main_cst_1,
    val_main_cst_2, val_main_cst_3, val_main_cst_4, val_main_cst_5, val_main_cst_6, val_main_cst_7, val_main_cst_8,
    val_main_cst_9, val_main_cst_10, val_main_cst_11, val_main_cst_12, val_main_cst_13, val_main_cst_14,
    val_main_cst_15, val_main_cst_16, val_main_cst_17, val_main_cst_18, val_main_cst_19, val_main_cst_20,
    val_main_cst_21, val_main_cst_22, ctx_first]
  unfold second
  rw [modRow_ctx]
  rfl

/-- The reference's latent rows after the second norm. -/
theorem lat_second (x m : FVec Ideal S12288x4096 .f32) (mods : FVec Ideal S8x1x24576 .f32) (lg lb : FVec Ideal S4096 .f32) (b : Fin 4) (r : Fin 2048) (l : Fin 4096) :
    val_main_v122 (F := Ideal) x m mods lg lb (ix3 b r l) = second x m mods lg lb (latRow b r) l := by
  pointwise [
    val_main_v122, val_main_v121, val_main_v120, val_main_v119, val_main_v118, val_main_v117, val_main_v116,
    val_main_v115, val_main_v114, val_main_v113, val_main_v112, val_main_v111, val_main_v110, val_main_v109,
    val_main_v108, val_main_v107, val_main_v106, val_main_v105, val_main_v104, val_main_v103, val_main_v102,
    val_main_v101, val_main_v100, val_main_v99, val_main_v98, val_main_v97, val_main_v1, val_main_v2, val_main_cst,
    val_main_cst_0, val_main_cst_1, val_main_cst_2, val_main_cst_3, val_main_cst_4, val_main_cst_5, val_main_cst_6,
    val_main_cst_7, val_main_cst_8, val_main_cst_9, val_main_cst_10, val_main_cst_11, val_main_cst_12,
    val_main_cst_13, val_main_cst_14, val_main_cst_15, val_main_cst_16, val_main_cst_17, val_main_cst_18,
    val_main_cst_19, val_main_cst_20, val_main_cst_21, val_main_cst_22, lat_first]
  unfold second
  rw [modRow_lat]
  rfl

/-- The reference's first result at row `r` and column `l`. -/
theorem first_at (x m : FVec Ideal S12288x4096 .f32) (mods : FVec Ideal S8x1x24576 .f32) (lg lb : FVec Ideal S4096 .f32) (r : Fin 12288) (l : Fin 4096) :
    val_main_v125 (F := Ideal) x m mods lg lb (ix2 r l) = first x m mods lg lb r l := by
  pointwise [val_main_v125, val_main_v124, val_main_v123, ctx_first, lat_first]
  split <;> exact congrArg (first x m mods lg lb · l) (Fin.ext (by dsimp only; omega))

/-- The reference's second result at row `r` and column `l`. -/
theorem second_at (x m : FVec Ideal S12288x4096 .f32) (mods : FVec Ideal S8x1x24576 .f32) (lg lb : FVec Ideal S4096 .f32) (r : Fin 12288) (l : Fin 4096) :
    val_main_v128 (F := Ideal) x m mods lg lb (ix2 r l) = second x m mods lg lb r l := by
  pointwise [val_main_v128, val_main_v127, val_main_v126, ctx_second, lat_second]
  split <;> exact congrArg (second x m mods lg lb · l) (Fin.ext (by dsimp only; omega))

/-- The reference's third result at row `r` and expert column `e`. -/
theorem logits_at (x m : FVec Ideal S12288x4096 .f32) (mods : FVec Ideal S8x1x24576 .f32) (lg lb : FVec Ideal S4096 .f32) (w : FVec Ideal S4096x128 .f32) (r : Fin 12288) (e : Fin 128) :
    val_main_v129 (F := Ideal) x m mods lg lb w (ix2 r e) = ∑ d, second x m mods lg lb r d * w (ix2 d e) := by
  pointwise [val_main_v129, second_at]

end Reference

section Body

variable (x : FVec Ideal S256x4096 .f32) (g : FVec Ideal S1x1x4096 .f32) (m : FVec Ideal S256x4096 .f32)
  (lg lb : FVec Ideal S1x4096 .f32) (sc sh : FVec Ideal S1x1x4096 .f32) (w : FVec Ideal S4096x128 .f32)

/-- The row that the body's first norm takes. -/
def blockResid (r : Fin 256) (j : Fin 4096) : EReal :=
  Ideal.ofBits FTy.f32 1068827891#32 * x (ix2 r j) + g (ix3 0 0 j) * m (ix2 r j)

/-- What the body stores first. -/
theorem pay1_at (r : Fin 256) (l : Fin 4096) : k0_pay1 (F := Ideal) x g m lg lb (ix2 r l)
    = lnorm (blockResid x g m r l) (blockResid x g m r) * lg (ix2 0 l) + lb (ix2 0 l) := by
  pointwise [k0_pay1]
  rfl

/-- What the body stores second, of what it stores first. -/
theorem pay4_at (r : Fin 256) (l : Fin 4096) :
    k0_pay4 (F := Ideal) (k0_pay1 x g m lg lb) (k0_pay2 x g m lg lb) k0_pay3 sc sh (ix2 r l)
    = normed (k0_pay1 (F := Ideal) x g m lg lb (ix2 r l)) (fun j => k0_pay1 (F := Ideal) x g m lg lb (ix2 r j))
        (sc (ix3 0 0 l)) (sh (ix3 0 0 l)) := by
  pointwise [k0_pay4, k0_pay2, k0_pay3]
  rfl

/-- What the body stores third: the product in two halves of each operand, the second halves being what the first
    leave over. -/
theorem pay5_at (r : Fin 256) (e : Fin 128) :
    k0_pay5 (F := Ideal) (k0_pay1 x g m lg lb) (k0_pay2 x g m lg lb) k0_pay3 sc sh w (ix2 r e)
    = ∑ d, k0_pay4 (F := Ideal) (k0_pay1 x g m lg lb) (k0_pay2 x g m lg lb) k0_pay3 sc sh (ix2 r d) * w (ix2 d e)
      + ∑ d, (k0_pay4 (F := Ideal) (k0_pay1 x g m lg lb) (k0_pay2 x g m lg lb) k0_pay3 sc sh (ix2 r d)
          - k0_pay4 (F := Ideal) (k0_pay1 x g m lg lb) (k0_pay2 x g m lg lb) k0_pay3 sc sh (ix2 r d)) * w (ix2 d e)
      + ∑ d, k0_pay4 (F := Ideal) (k0_pay1 x g m lg lb) (k0_pay2 x g m lg lb) k0_pay3 sc sh (ix2 r d)
          * (w (ix2 d e) - w (ix2 d e)) := by
  pointwise [k0_pay5]

end Body

/-! ## The written blocks -/

/-- The windows' block indices at every grid point. -/
theorem idx : ∀ t : Fin cfg0.N, win0_0.index t = ![t.val, 0] ∧ win0_1.index t = ![t.val, 0]
    ∧ win0_2.index t = ![if t.val < 16 then 0 else 1 + (t.val - 16) / 8, 0, 2]
    ∧ win0_3.index t = ![if t.val < 16 then 0 else 1 + (t.val - 16) / 8, 0, 3]
    ∧ win0_4.index t = ![if t.val < 16 then 0 else 1 + (t.val - 16) / 8, 0, 4]
    ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (ρ : Dev nD → PrngReg)

/-- The first result: the reference's value of the kernel's arguments. -/
abbrev goal0 (c : Dev nD) : FVec Ideal S12288x4096 .f32 :=
  Cert.ReferenceMixIdeal.Read.val_main_v125 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The second result: the reference's value of the kernel's arguments. -/
abbrev goal1 (c : Dev nD) : FVec Ideal S12288x4096 .f32 :=
  Cert.ReferenceMixIdeal.Read.val_main_v128 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The third result: the reference's value of the kernel's arguments. -/
abbrev goal2 (c : Dev nD) : FVec Ideal S12288x128 .f32 :=
  Cert.ReferenceMixIdeal.Read.val_main_v129 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- What a point stores first. -/
abbrev stored0 (c : Dev nD) (t : Fin cfg0.N) : FVec Ideal S256x4096 .f32 :=
  k0_pay1 (iblk m c 0 t) (iblk m c 2 t) (iblk m c 1 t) (iblk m c 5 t) (iblk m c 6 t)

/-- What a point stores second. -/
abbrev stored1 (c : Dev nD) (t : Fin cfg0.N) : FVec Ideal S256x4096 .f32 :=
  k0_pay4 (stored0 m c t) (k0_pay2 (iblk m c 0 t) (iblk m c 2 t) (iblk m c 1 t) (iblk m c 5 t) (iblk m c 6 t)) k0_pay3
    (iblk m c 4 t) (iblk m c 3 t)

/-- What a point stores third. -/
abbrev stored2 (c : Dev nD) (t : Fin cfg0.N) : FVec Ideal S256x128 .f32 :=
  k0_pay5 (stored0 m c t) (k0_pay2 (iblk m c 0 t) (iblk m c 2 t) (iblk m c 1 t) (iblk m c 5 t) (iblk m c 6 t)) k0_pay3
    (iblk m c 4 t) (iblk m c 3 t) (iblk m c 7 t)

/-- The token row of a block's row. -/
abbrev row (t : Fin cfg0.N) (r : Fin 256) : Fin 12288 :=
  ⟨t.val * 256 + r.val, by have : t.val < 48 := lt_of_lt_of_eq t.isLt (show cfg0.N = 48 from N_0); omega⟩

/-- The modulation row that a point's windows hold. -/
theorem modRow_row (t : Fin cfg0.N) (r : Fin 256) : modRow (row t r)
    = if t.val < 16 then 0 else ⟨1 + (t.val - 16) / 8, by have : t.val < 48 := lt_of_lt_of_eq t.isLt (show cfg0.N = 48 from N_0); omega⟩ :=
  modRow_block (lt_of_lt_of_eq t.isLt (show cfg0.N = 48 from N_0)) r.isLt

/-- A point's first block is the reference's first result at the block's rows. -/
theorem stored0_at (c : Dev nD) (t : Fin cfg0.N) (r : Fin 256) (l : Fin 4096) : stored0 m c t (ix2 r l) = goal0 m c (ix2 (row t r) l) := by
  have hP (j : Fin 4096) : blockResid (iblk m c 0 t) (iblk m c 2 t) (iblk m c 1 t) r j
      = resid (m ((c : Thread nD τ).loc main_arg0)) (m ((c : Thread nD τ).loc main_arg1)) (m ((c : Thread nD τ).loc main_arg2)) (row t r) j := by
    unfold blockResid resid
    rw [modRow_row]
    refine congrArg₂ (· + ·) (congrArg₂ (· * ·) rfl ?_) (congrArg₂ (· * ·) ?_ ?_)
    · blk_point [iblk, V, idx t]
    · split <;> blk_point [iblk, V, idx t] <;> split <;> omega
    · blk_point [iblk, V, idx t]
  refine (pay1_at _ _ _ _ _ r l).trans ?_
  refine Eq.trans ?_ (first_at _ _ _ _ _ _ _).symm
  unfold first
  refine congrArg₂ (· + ·) (congrArg₂ (· * ·) (congrArg₂ lnorm (hP l) (funext hP)) ?_) ?_
  · blk_point [iblk, V, idx t]
  · blk_point [iblk, V, idx t]

/-- A point's second block is the reference's second result at the block's rows. -/
theorem stored1_at (c : Dev nD) (t : Fin cfg0.N) (r : Fin 256) (l : Fin 4096) : stored1 m c t (ix2 r l) = goal1 m c (ix2 (row t r) l) := by
  have h0 (j : Fin 4096) := (stored0_at m c t r j).trans (first_at _ _ _ _ _ _ _)
  refine (pay4_at _ _ _ _ _ _ _ r l).trans ?_
  refine Eq.trans ?_ (second_at _ _ _ _ _ _ _).symm
  unfold second
  rw [modRow_row]
  refine congr (congr (congrArg₂ normed (h0 l) (funext h0)) ?_) ?_
  · split <;> blk_point [iblk, V, idx t] <;> split <;> omega
  · split <;> blk_point [iblk, V, idx t] <;> split <;> omega

/-- A point's third block is the reference's third result at the block's rows, where the second result and the router are
    real. -/
theorem stored2_at (c : Dev nD) (hu : ∀ i, IsReal (goal1 m c i)) (hw : ∀ i, IsReal (m ((c : Thread nD τ).loc main_arg5) i))
    (t : Fin cfg0.N) (r : Fin 256) (e : Fin 128) : stored2 m c t (ix2 r e) = goal2 m c (ix2 (row t r) e) := by
  have hb (d : Fin 4096) : iblk m c 7 t (ix2 d e) = m ((c : Thread nD τ).loc main_arg5) (ix2 d e) := by blk_point [iblk, V, idx t]
  refine (pay5_at _ _ _ _ _ _ _ _ r e).trans ?_
  refine Eq.trans ?_ (logits_at _ _ _ _ _ _ _ _).symm
  have hs (d : Fin 4096) := (stored1_at m c t r d).trans (second_at _ _ _ _ _ _ _)
  have hr (d : Fin 4096) := (congrArg IsReal (second_at _ _ _ _ _ _ _)).mp (hu (ix2 (row t r) d))
  refine Eq.trans (congrArg₂ (· + ·) (congrArg₂ (· + ·) (Finset.sum_congr rfl fun d _ => congrArg₂ (· * ·) (hs d) (hb d))
    (Finset.sum_eq_zero fun d _ => ?_)) (Finset.sum_eq_zero fun d _ => ?_)) ((add_zero _).trans (add_zero _))
  · refine (congrArg (· * _) ((congrArg (fun z => z - z) (hs d)).trans (sub_self_real (hr d)))).trans (zero_mul _)
  · exact (congrArg (_ * ·) ((congrArg (fun z : EReal => z - z) (hb d)).trans (sub_self_real (hw (ix2 d e))))).trans (mul_zero _)

/-- The first result array after the run is the reference's value of the arguments: the written blocks tile it. -/
theorem final0 (c : Dev nD) : (dats m 0 c).arrAt 8 cfg0.N = goal0 m c := by
  refine (dats m 0 c).arrAt_eq_of_covers 8 _ (by decide +kernel) fun t _ y => ?_
  have e : ((cfg0.win 8).blk t).view.emb (ix2 (y 0) (y 1)) = ix2 (row t (y 0)) (y 1) := by blk_ext [idx t]
  blk_simp
  rw [after0_8]; frame_out
  rw [eq_ix2 y]
  exact (stored0_at m c t (y 0) (y 1)).trans (congrArg _ e.symm)

/-- The second result array after the run is the reference's value of the arguments. -/
theorem final1 (c : Dev nD) : (dats m 0 c).arrAt 9 cfg0.N = goal1 m c := by
  refine (dats m 0 c).arrAt_eq_of_covers 9 _ (by decide +kernel) fun t _ y => ?_
  have e : ((cfg0.win 9).blk t).view.emb (ix2 (y 0) (y 1)) = ix2 (row t (y 0)) (y 1) := by blk_ext [idx t]
  blk_simp
  rw [after0_9]; unfold_out out0_9; frame_out
  rw [eq_ix2 y]
  exact (stored1_at m c t (y 0) (y 1)).trans (congrArg _ e.symm)

/-- The third result array after the run is the reference's value of the arguments. -/
theorem final2 (c : Dev nD) (hu : ∀ i, IsReal (goal1 m c i)) (hw : ∀ i, IsReal (m ((c : Thread nD τ).loc main_arg5) i)) :
    (dats m 0 c).arrAt 10 cfg0.N = goal2 m c := by
  refine (dats m 0 c).arrAt_eq_of_covers 10 _ (by decide +kernel) fun t _ y => ?_
  have e : ((cfg0.win 10).blk t).view.emb (ix2 (y 0) (y 1)) = ix2 (row t (y 0)) (y 1) := by blk_ext [idx t]
  blk_simp
  rw [after0_10]; unfold_out out0_10; frame_out
  rw [eq_ix2 y]
  exact (stored2_at m c hu hw t (y 0) (y 1)).trans (congrArg _ e.symm)

/-! ## Real arguments -/

/-- The pattern of the residual stream's scale is a real number. -/
theorem isReal_alpha : IsReal (Ideal.ofBits FTy.f32 1068827891#32) := by
  refine isReal_of_ne ?_ ?_ <;> simp [Ideal.ofBits, Ideal.ieee, -EReal.coe_mul]

variable [Cert.Pre_finite_mix.Facts]

/-- Under the precondition the columns of the modulation that the call reads are real. -/
theorem mods_real (h : Cert.Pre_KernelMixIdeal_finite_mix m) (c : Dev nD) (r : Fin 12288) {k : Nat} (hk : 8192 ≤ k ∧ k < 20480) :
    IsReal (m ((c : Thread nD τ).loc main_arg2) (ix3 (modRow r) 0 ⟨k, by omega⟩)) := by
  have hm : (modRow r).val < 5 := by unfold modRow; split <;> [decide; (dsimp only; omega)]
  refine real_of_below _ ?_
  refine Eq.trans (congrArg (fun z => FloatOps.cmpf .olt (FloatOps.hostAbsf z) (FloatOps.ofBits (F := Ideal) .f32 0x7F800000#32)) ?_)
    (congrFun (h c).2.2.1 (ix3 ⟨(modRow r).val, hm⟩ 0 ⟨k - 8192, by omega⟩))
  refine (extractStridedSlice_apply _ _ _ _ _ fun a => ?_).symm
  fin_cases a
  · exact (Nat.zero_add _).symm
  · rfl
  · exact (Nat.add_sub_cancel' hk.1).symm

/-- Under the precondition the second result is real. -/
theorem second_real (h : Cert.Pre_KernelMixIdeal_finite_mix m) (c : Dev nD) (i) : IsReal (goal1 m c i) := by
  obtain ⟨h0, h1, _, h3, h4, _⟩ := h c
  have r0 (i) := real_of_below _ (congrFun h0 i)
  have r1 (i) := real_of_below _ (congrFun h1 i)
  have r2 (r : Fin 12288) {k : Nat} (hk : 8192 ≤ k ∧ k < 20480) := mods_real m h c r hk
  have r3 (i) := real_of_below _ (congrFun h3 i)
  have r4 (i) := real_of_below _ (congrFun h4 i)
  have hP (r : Fin 12288) (j : Fin 4096) : IsReal (resid (m ((c : Thread nD τ).loc main_arg0)) (m ((c : Thread nD τ).loc main_arg1))
      (m ((c : Thread nD τ).loc main_arg2)) r j) := (isReal_alpha.mul (r0 _)).add ((r2 r (by omega)).mul (r1 _))
  have hF (r : Fin 12288) (j : Fin 4096) : IsReal (first (m ((c : Thread nD τ).loc main_arg0)) (m ((c : Thread nD τ).loc main_arg1))
      (m ((c : Thread nD τ).loc main_arg2)) (m ((c : Thread nD τ).loc main_arg3)) (m ((c : Thread nD τ).loc main_arg4)) r j) :=
    ((isReal_lnorm (hP r j) (hP r)).mul (r3 _)).add (r4 _)
  refine (congrArg IsReal ((congrArg _ (eq_ix2 i)).trans (second_at _ _ _ _ _ (i 0) (i 1)))).mpr ?_
  exact isReal_normed (hF _ _) (hF _) (r2 _ (by omega)) (r2 _ (by omega))

/-- Every execution from real arguments ends with the result arrays at the reference's values and the arguments unchanged. -/
theorem run (h : Cert.Pre_KernelMixIdeal_finite_mix m) :
    θ_run defs (onTc (τ := τ) (main (F := Ideal))) ⟨m, fun _ => 0, ρ⟩ fun r => ∀ c : Dev nD,
      r.2.mem ((c : Thread nD τ).loc main_v2_0) = goal0 m c
      ∧ r.2.mem ((c : Thread nD τ).loc main_v2_1) = goal1 m c
      ∧ r.2.mem ((c : Thread nD τ).loc main_v2_2) = goal2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨(hr c).1.trans (final0 m c), (hr c).2.1.trans (final1 m c),
      (hr c).2.2.1.trans (final2 m c (second_real m h c) fun i => real_of_below _ (congrFun (h c).2.2.2.2.2 i)), (hr c).2.2.2⟩)
    (Value.run_blocks m ρ)

end Cert.KernelMixIdeal.RefValue

/-! ## The claims -/

namespace Cert.Proof.MixClaims

/-- Every weakly fair execution of the kernel ends, with its arguments unchanged and every counter at zero. -/
theorem frame_kernel : Cert.quiescent_KernelMix := fun m ρ _ => Cert.KernelMix.Gen.frame m ρ

/-- The same of the kernel read at the extended reals. -/
theorem frame_ideal : Cert.quiescent_KernelMixIdeal := fun m ρ _ => Cert.KernelMixIdeal.Gen.frame m ρ

/-- The same of the reference, whose program has no counters. -/
theorem frame_reference : Cert.quiescent_ReferenceMixIdeal := fun m ρ _ =>
  (θ_run Cert.ReferenceMixIdeal.defs _ _).mono (fun r h => ⟨fun c => (h c).2.2.2,
      Idealize.ShloMosaic.sem_eq_zero_of_no_sems (by decide) r.2⟩)
    (Cert.ReferenceMixIdeal.Value.run (F := Ideal) m ρ)

/-- No operation was rewritten. -/
theorem preserves : Cert.preserves_KernelMix_KernelMixIdeal := trivial

/-- The shapes the precondition's operations take fit together. -/
theorem precondition_facts : Cert.Pre_finite_mix.Facts where
  slices_S8x1x24576_S5x1x12288_0_0_8192 := by decide
  bcast_S_S12288x4096 := by decide
  bcast_S_S5x1x12288 := by decide
  bcast_S_S4096 := by decide
  bcast_S_S4096x128 := by decide

variable [Cert.Pre_finite_mix.Facts]

/-- The kernel's frame under the precondition, which it does not need. -/
theorem frame_ideal_finite : Cert.quiescent_KernelMixIdeal_pre_finite_mix := fun m ρ _ => frame_ideal m ρ trivial

/-- The reference's frame under the precondition, which it does not need. -/
theorem frame_reference_finite : Cert.quiescent_ReferenceMixIdeal_pre_finite_mix := fun m ρ _ => frame_reference m ρ trivial

/-- From agreeing real arguments the kernel and the reference end with the same results at the extended reals. -/
theorem algebraic : Cert.algebraic_KernelMixIdeal_ReferenceMixIdeal_pre_finite_mix := fun m ρ m' ρ' hpre hag =>
  ⟨Cert.KernelMixIdeal.RefValue.goal0 m, Cert.KernelMixIdeal.RefValue.goal1 m, Cert.KernelMixIdeal.RefValue.goal2 m,
    Cert.KernelMixIdeal.RefValue.run m ρ hpre,
    (θ_run Cert.ReferenceMixIdeal.defs _ _).mono (fun _ h c => ⟨(h c).1.trans (by
        rw [Cert.ReferenceMixIdeal.Read.val_main_v125_eq, (hag c).1, (hag c).2.1, (hag c).2.2.1, (hag c).2.2.2.1, (hag c).2.2.2.2.1]),
      (h c).2.1.trans (by
        rw [Cert.ReferenceMixIdeal.Read.val_main_v128_eq, (hag c).1, (hag c).2.1, (hag c).2.2.1, (hag c).2.2.2.1, (hag c).2.2.2.2.1]),
      (h c).2.2.1.trans (by
        rw [Cert.ReferenceMixIdeal.Read.val_main_v129_eq, (hag c).1, (hag c).2.1, (hag c).2.2.1, (hag c).2.2.2.1, (hag c).2.2.2.2.1,
          (hag c).2.2.2.2.2]), (h c).2.2.2⟩)
      (Cert.ReferenceMixIdeal.Value.run (F := Ideal) m' ρ')⟩

end Cert.Proof.MixClaims

end
-- ==== Proof.Gated.lean ====
/-
  The gated unit at the extended reals: the formula that the kernels' bodies and the references both come to.
-/
module

public import Idealize.ShloMosaic.Lib.Pipeline.ValueKit

@[expose] public section

noncomputable section

open Idealize.ShloMosaic

namespace Cert.Gated

/-- The gelu of one entry, with the tanh. -/
def act (x : EReal) : EReal :=
  x * (Ideal.ofBits FTy.f32 1056964608#32 * (1 + Ideal.tanh (Ideal.ofBits FTy.f32 1061962282#32
    * (x + Ideal.ofBits FTy.f32 1027024659#32 * (x * (x * x))))))

/-- One entry `x₀` of the gated unit: its activation times the logistic of the row of activations times a column of weights. -/
def gated (x₀ : EReal) (x w : Fin 1024 → EReal) : EReal :=
  act x₀ * Ideal.logistic (∑ j, act (x j) * w j)

end Cert.Gated

end
-- ==== Proof.Glu.lean ====
/-
  The gated unit that ends the S5 branch (`KernelGlu`): one grid point adds the two directions and the skip term of 256
  latent rows, takes the gelu, and multiplies it by the logistic of its product with the weights. At the extended reals
  the result array is the reference's.
-/
module

public import proofs.«01_k».proof.Defs
public import proofs.«01_k».proof.Proof.Gen.KernelGlu.Frame
public import proofs.«01_k».proof.Proof.Gen.KernelGluIdeal.Value
public import proofs.«01_k».proof.Proof.Gen.ReferenceGluIdeal.Read
public import proofs.«01_k».proof.Proof.Gated
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelGluIdeal.RefValue

open Cert.KernelGluIdeal Cert.KernelGluIdeal.Gen Cert.Gated

variable (m : (ℓ : Loc nD τ sig) → Buf (Elt Ideal) ℓ) (ρ : Dev nD → PrngReg)

/-- What the result array is shown to hold: the reference's last value, of the kernel's arguments. -/
abbrev goal (x0 : FVec Ideal S8192x1024 .f32) (x1 : FVec Ideal S8192x1024 .f32) (x2 : FVec Ideal S12288x8704 .f32) (x3 : FVec Ideal S1024 .f32) (x4 : FVec Ideal S1024x1024 .bf16) :
    FVec Ideal S8192x1024 .bf16 :=
  Cert.ReferenceGluIdeal.Read.val_main_v28 (F := Ideal) x0 x1 x2 x3 x4

/-- The windows' block indices at every grid point. -/
theorem idx : ∀ t : Fin cfg0.N, win0_0.index t = ![t.val, 0] ∧ win0_1.index t = ![t.val, 0] ∧ win0_2.index t = ![16 + t.val, 4]
    ∧ win0_3.index t = ![0, 0] ∧ win0_4.index t = ![0, 0] ∧ win0_5.index t = ![t.val, 0] :=
  (by decide +kernel : ∀ t : Fin grid0.N, _)

/-- What the body stores: the gated unit of the two directions' sum with the skip term. -/
theorem pay_at (a b u : FVec Ideal S256x1024 .f32) (d : FVec Ideal S1x1024 .f32) (w : FVec Ideal S1024x1024 .bf16)
    (r : Fin 256) (l : Fin 1024) :
    k0_pay1 (F := Ideal) a b u d w (ix2 r l)
      = gated (u (ix2 r l) * d (ix2 0 l) + a (ix2 r l) + b (ix2 r l))
          (fun j => u (ix2 r j) * d (ix2 0 j) + a (ix2 r j) + b (ix2 r j)) (fun j => w (ix2 j l)) := by
  have e (x y z : EReal) : x + y + z = z + x + y := by rw [add_comm z x, add_assoc, add_assoc, add_comm y z]
  pointwise [k0_pay1]
  simp only [e (a _) (b _)]
  rfl

section Reference
open Cert.ReferenceGluIdeal.Read

/-- The reference's activation. -/
theorem act_at (a b : FVec Ideal S8192x1024 .f32) (z : FVec Ideal S12288x8704 .f32) (d : FVec Ideal S1024 .f32)
    (r : Fin 8192) (l : Fin 1024) :
    val_main_v18 (F := Ideal) a b z d (ix2 r l)
      = act (z (ix2 ⟨4096 + r.val, by omega⟩ ⟨4096 + l.val, by omega⟩) * d (ix1 l) + a (ix2 r l) + b (ix2 r l)) := by
  pointwise [val_main_v18, val_main_v17, val_main_v16, val_main_v15, val_main_v14, val_main_v13, val_main_v12, val_main_v11,
    val_main_v10, val_main_v9, val_main_v8, val_main_v7, val_main_v6, val_main_cst, val_main_cst_0, val_main_cst_1,
    val_main_cst_2]
  pointwise [val_main_v5, val_main_v4, val_main_v3, val_main_v2, val_main_v1, val_main_v0]
  unfold act
  rw [← mul_assoc (_ + _ + _) (_ + _ + _) (_ + _ + _)]

/-- The reference's result at row `r` and column `l`. -/
theorem goal_at (a b : FVec Ideal S8192x1024 .f32) (z : FVec Ideal S12288x8704 .f32) (d : FVec Ideal S1024 .f32)
    (w : FVec Ideal S1024x1024 .bf16) (r : Fin 8192) (l : Fin 1024) :
    val_main_v28 (F := Ideal) a b z d w (ix2 r l)
      = gated (z (ix2 ⟨4096 + r.val, by omega⟩ ⟨4096 + l.val, by omega⟩) * d (ix1 l) + a (ix2 r l) + b (ix2 r l))
          (fun j => z (ix2 ⟨4096 + r.val, by omega⟩ ⟨4096 + j.val, by omega⟩) * d (ix1 j) + a (ix2 r j) + b (ix2 r j))
          (fun j => w (ix2 j l)) := by
  pointwise [val_main_v28, val_main_v27, val_main_v26, val_main_v25, val_main_v24, val_main_v23, val_main_v22, val_main_v21,
    val_main_v20, val_main_v19, val_main_cst_3, val_main_cst_4, act_at]
  unfold gated Ideal.logistic
  rfl

end Reference

/-- What the body stores at index `y` of its block is the reference's value at the array index `y` sits at. -/
theorem point (c : Dev nD) (t : Fin cfg0.N) (y : S256x1024.Idx) :
    k0_pay1 (iblk m c 0 t) (iblk m c 1 t) (X0_2 m c t) (iblk m c 3 t) (iblk m c 4 t) y
      = goal (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [eq_ix2 y]
  refine (pay_at _ _ _ _ _ (y 0) (y 1)).trans ?_
  rw [eq_ix2 (((cfg0.win 5).blk t).view.emb (ix2 (y 0) (y 1)))]
  refine Eq.trans ?_ (goal_at _ _ _ _ _ _ _).symm
  refine congr (congrArg₂ gated ?_ (funext fun j => ?_)) (funext fun j => ?_)
  · refine congrArg₂ (· + ·) (congrArg₂ (· + ·) (congrArg₂ (· * ·) ?_ ?_) ?_) ?_
    · unfold X0_2 Pipeline.Window.fill
      rw [dif_pos (moved0_2 t _)]
      blk_point [iblk, V, idx t]
    all_goals blk_point [iblk, V, idx t]
  · refine congrArg₂ (· + ·) (congrArg₂ (· + ·) (congrArg₂ (· * ·) ?_ ?_) ?_) ?_
    · unfold X0_2 Pipeline.Window.fill
      rw [dif_pos (moved0_2 t _)]
      blk_point [iblk, V, idx t]
    all_goals blk_point [iblk, V, idx t]
  · blk_point [iblk, V, idx t]

/-- The result array after the run is the reference's value of the arguments: the written blocks tile it. -/
theorem final (c : Dev nD) : (dats m 0 c).arrAt 5 cfg0.N
    = goal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold Gen.outsAt0; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v1) = goal (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelGluIdeal.RefValue

/-! ## The claims -/

namespace Cert.Proof.GluClaims

/-- Every weakly fair execution of the kernel ends, with its arguments unchanged and every counter at zero. -/
theorem frame_kernel : Cert.quiescent_KernelGlu := fun m ρ _ => Cert.KernelGlu.Gen.frame m ρ

/-- The same of the kernel read at the extended reals. -/
theorem frame_ideal : Cert.quiescent_KernelGluIdeal := fun m ρ _ => Cert.KernelGluIdeal.Gen.frame m ρ

/-- The same of the reference, whose program has no counters. -/
theorem frame_reference : Cert.quiescent_ReferenceGluIdeal := fun m ρ _ =>
  (θ_run Cert.ReferenceGluIdeal.defs _ _).mono (fun r h => ⟨fun c => (h c).2,
      Idealize.ShloMosaic.sem_eq_zero_of_no_sems (by decide) r.2⟩)
    (Cert.ReferenceGluIdeal.Value.run (F := Ideal) m ρ)

/-- No operation was rewritten. -/
theorem preserves : Cert.preserves_KernelGlu_KernelGluIdeal := trivial

/-- From agreeing arguments the kernel and the reference end with the same result at the extended reals. -/
theorem algebraic : Cert.algebraic_KernelGluIdeal_ReferenceGluIdeal := fun m ρ m' ρ' _ hag =>
  ⟨fun c => Cert.KernelGluIdeal.RefValue.goal (m ((c.tc : Thread Cert.KernelGluIdeal.nD Cert.KernelGluIdeal.τ).loc Cert.KernelGluIdeal.main_arg0)) (m ((c.tc : Thread Cert.KernelGluIdeal.nD Cert.KernelGluIdeal.τ).loc Cert.KernelGluIdeal.main_arg1)) (m ((c.tc : Thread Cert.KernelGluIdeal.nD Cert.KernelGluIdeal.τ).loc Cert.KernelGluIdeal.main_arg2)) (m ((c.tc : Thread Cert.KernelGluIdeal.nD Cert.KernelGluIdeal.τ).loc Cert.KernelGluIdeal.main_arg3)) (m ((c.tc : Thread Cert.KernelGluIdeal.nD Cert.KernelGluIdeal.τ).loc Cert.KernelGluIdeal.main_arg4)),
    Cert.KernelGluIdeal.RefValue.run m ρ,
    (θ_run Cert.ReferenceGluIdeal.defs _ _).mono (fun _ h c => ⟨(h c).1.trans (by
        rw [Cert.ReferenceGluIdeal.Read.val_main_v28_eq, (hag c).1, (hag c).2.1, (hag c).2.2.1, (hag c).2.2.2.1, (hag c).2.2.2.2]), (h c).2⟩)
      (Cert.ReferenceGluIdeal.Value.run (F := Ideal) m' ρ')⟩

end Cert.Proof.GluClaims

end
-- ==== Proof.GluCtx.lean ====
/-
  The gated unit that ends the S5 branch, over the context rows (`KernelGluCtx`): the same body as over the latent rows,
  on the first 4096 rows. At the extended reals the result array is the reference's.
-/
module

public import proofs.«01_k».proof.Defs
public import proofs.«01_k».proof.Proof.Gen.KernelGluCtx.Frame
public import proofs.«01_k».proof.Proof.Gen.KernelGluCtxIdeal.Value
public import proofs.«01_k».proof.Proof.Gen.ReferenceGluCtxIdeal.Read
public import proofs.«01_k».proof.Proof.Gated
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelGluCtxIdeal.RefValue

open Cert.KernelGluCtxIdeal Cert.KernelGluCtxIdeal.Gen Cert.Gated

variable (m : (ℓ : Loc nD τ sig) → Buf (Elt Ideal) ℓ) (ρ : Dev nD → PrngReg)

/-- What the result array is shown to hold: the reference's last value, of the kernel's arguments. -/
abbrev goal (x0 : FVec Ideal S4096x1024 .f32) (x1 : FVec Ideal S4096x1024 .f32) (x2 : FVec Ideal S12288x8704 .f32) (x3 : FVec Ideal S1024 .f32) (x4 : FVec Ideal S1024x1024 .bf16) :
    FVec Ideal S4096x1024 .bf16 :=
  Cert.ReferenceGluCtxIdeal.Read.val_main_v28 (F := Ideal) x0 x1 x2 x3 x4

/-- The windows' block indices at every grid point. -/
theorem idx : ∀ t : Fin cfg0.N, win0_0.index t = ![t.val, 0] ∧ win0_1.index t = ![t.val, 0] ∧ win0_2.index t = ![t.val, 4]
    ∧ win0_3.index t = ![0, 0] ∧ win0_4.index t = ![0, 0] ∧ win0_5.index t = ![t.val, 0] :=
  (by decide +kernel : ∀ t : Fin grid0.N, _)

/-- What the body stores: the gated unit of the two directions' sum with the skip term. -/
theorem pay_at (a b u : FVec Ideal S256x1024 .f32) (d : FVec Ideal S1x1024 .f32) (w : FVec Ideal S1024x1024 .bf16)
    (r : Fin 256) (l : Fin 1024) :
    k0_pay1 (F := Ideal) a b u d w (ix2 r l)
      = gated (u (ix2 r l) * d (ix2 0 l) + a (ix2 r l) + b (ix2 r l))
          (fun j => u (ix2 r j) * d (ix2 0 j) + a (ix2 r j) + b (ix2 r j)) (fun j => w (ix2 j l)) := by
  have e (x y z : EReal) : x + y + z = z + x + y := by rw [add_comm z x, add_assoc, add_assoc, add_comm y z]
  pointwise [k0_pay1]
  simp only [e (a _) (b _)]
  rfl

section Reference
open Cert.ReferenceGluCtxIdeal.Read

/-- The reference's activation. -/
theorem act_at (a b : FVec Ideal S4096x1024 .f32) (z : FVec Ideal S12288x8704 .f32) (d : FVec Ideal S1024 .f32)
    (r : Fin 4096) (l : Fin 1024) :
    val_main_v18 (F := Ideal) a b z d (ix2 r l)
      = act (z (ix2 ⟨r.val, by omega⟩ ⟨4096 + l.val, by omega⟩) * d (ix1 l) + a (ix2 r l) + b (ix2 r l)) := by
  pointwise [val_main_v18, val_main_v17, val_main_v16, val_main_v15, val_main_v14, val_main_v13, val_main_v12, val_main_v11,
    val_main_v10, val_main_v9, val_main_v8, val_main_v7, val_main_v6, val_main_cst, val_main_cst_0, val_main_cst_1,
    val_main_cst_2]
  pointwise [val_main_v5, val_main_v4, val_main_v3, val_main_v2, val_main_v1, val_main_v0]
  unfold act
  rw [← mul_assoc (_ + _ + _) (_ + _ + _) (_ + _ + _)]

/-- The reference's result at row `r` and column `l`. -/
theorem goal_at (a b : FVec Ideal S4096x1024 .f32) (z : FVec Ideal S12288x8704 .f32) (d : FVec Ideal S1024 .f32)
    (w : FVec Ideal S1024x1024 .bf16) (r : Fin 4096) (l : Fin 1024) :
    val_main_v28 (F := Ideal) a b z d w (ix2 r l)
      = gated (z (ix2 ⟨r.val, by omega⟩ ⟨4096 + l.val, by omega⟩) * d (ix1 l) + a (ix2 r l) + b (ix2 r l))
          (fun j => z (ix2 ⟨r.val, by omega⟩ ⟨4096 + j.val, by omega⟩) * d (ix1 j) + a (ix2 r j) + b (ix2 r j))
          (fun j => w (ix2 j l)) := by
  pointwise [val_main_v28, val_main_v27, val_main_v26, val_main_v25, val_main_v24, val_main_v23, val_main_v22, val_main_v21,
    val_main_v20, val_main_v19, val_main_cst_3, val_main_cst_4, act_at]
  unfold gated Ideal.logistic
  rfl

end Reference

/-- What the body stores at index `y` of its block is the reference's value at the array index `y` sits at. -/
theorem point (c : Dev nD) (t : Fin cfg0.N) (y : S256x1024.Idx) :
    k0_pay1 (iblk m c 0 t) (iblk m c 1 t) (X0_2 m c t) (iblk m c 3 t) (iblk m c 4 t) y
      = goal (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [eq_ix2 y]
  refine (pay_at _ _ _ _ _ (y 0) (y 1)).trans ?_
  rw [eq_ix2 (((cfg0.win 5).blk t).view.emb (ix2 (y 0) (y 1)))]
  refine Eq.trans ?_ (goal_at _ _ _ _ _ _ _).symm
  refine congr (congrArg₂ gated ?_ (funext fun j => ?_)) (funext fun j => ?_)
  · refine congrArg₂ (· + ·) (congrArg₂ (· + ·) (congrArg₂ (· * ·) ?_ ?_) ?_) ?_
    · unfold X0_2 Pipeline.Window.fill
      rw [dif_pos (moved0_2 t _)]
      blk_point [iblk, V, idx t]
    all_goals blk_point [iblk, V, idx t]
  · refine congrArg₂ (· + ·) (congrArg₂ (· + ·) (congrArg₂ (· * ·) ?_ ?_) ?_) ?_
    · unfold X0_2 Pipeline.Window.fill
      rw [dif_pos (moved0_2 t _)]
      blk_point [iblk, V, idx t]
    all_goals blk_point [iblk, V, idx t]
  · blk_point [iblk, V, idx t]

/-- The result array after the run is the reference's value of the arguments: the written blocks tile it. -/
theorem final (c : Dev nD) : (dats m 0 c).arrAt 5 cfg0.N
    = goal (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold Gen.outsAt0; frame_out
  exact point m c t y

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v1) = goal (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelGluCtxIdeal.RefValue

/-! ## The claims -/

namespace Cert.Proof.GluCtxClaims

/-- Every weakly fair execution of the kernel ends, with its arguments unchanged and every counter at zero. -/
theorem frame_kernel : Cert.quiescent_KernelGluCtx := fun m ρ _ => Cert.KernelGluCtx.Gen.frame m ρ

/-- The same of the kernel read at the extended reals. -/
theorem frame_ideal : Cert.quiescent_KernelGluCtxIdeal := fun m ρ _ => Cert.KernelGluCtxIdeal.Gen.frame m ρ

/-- The same of the reference, whose program has no counters. -/
theorem frame_reference : Cert.quiescent_ReferenceGluCtxIdeal := fun m ρ _ =>
  (θ_run Cert.ReferenceGluCtxIdeal.defs _ _).mono (fun r h => ⟨fun c => (h c).2,
      Idealize.ShloMosaic.sem_eq_zero_of_no_sems (by decide) r.2⟩)
    (Cert.ReferenceGluCtxIdeal.Value.run (F := Ideal) m ρ)

/-- No operation was rewritten. -/
theorem preserves : Cert.preserves_KernelGluCtx_KernelGluCtxIdeal := trivial

/-- From agreeing arguments the kernel and the reference end with the same result at the extended reals. -/
theorem algebraic : Cert.algebraic_KernelGluCtxIdeal_ReferenceGluCtxIdeal := fun m ρ m' ρ' _ hag =>
  ⟨fun c => Cert.KernelGluCtxIdeal.RefValue.goal (m ((c.tc : Thread Cert.KernelGluCtxIdeal.nD Cert.KernelGluCtxIdeal.τ).loc Cert.KernelGluCtxIdeal.main_arg0)) (m ((c.tc : Thread Cert.KernelGluCtxIdeal.nD Cert.KernelGluCtxIdeal.τ).loc Cert.KernelGluCtxIdeal.main_arg1)) (m ((c.tc : Thread Cert.KernelGluCtxIdeal.nD Cert.KernelGluCtxIdeal.τ).loc Cert.KernelGluCtxIdeal.main_arg2)) (m ((c.tc : Thread Cert.KernelGluCtxIdeal.nD Cert.KernelGluCtxIdeal.τ).loc Cert.KernelGluCtxIdeal.main_arg3)) (m ((c.tc : Thread Cert.KernelGluCtxIdeal.nD Cert.KernelGluCtxIdeal.τ).loc Cert.KernelGluCtxIdeal.main_arg4)),
    Cert.KernelGluCtxIdeal.RefValue.run m ρ,
    (θ_run Cert.ReferenceGluCtxIdeal.defs _ _).mono (fun _ h c => ⟨(h c).1.trans (by
        rw [Cert.ReferenceGluCtxIdeal.Read.val_main_v28_eq, (hag c).1, (hag c).2.1, (hag c).2.2.1, (hag c).2.2.2.1, (hag c).2.2.2.2]), (h c).2⟩)
      (Cert.ReferenceGluCtxIdeal.Value.run (F := Ideal) m' ρ')⟩

end Cert.Proof.GluCtxClaims

end
-- ==== Proof.Dft.lean ====
/-
  What the Fourier mixing of a run of `n` rows computes, as sums over the extended reals: the values the two calls over
  the context rows and the latent rows share.
-/
module

public import Idealize.ShloMosaic.Lib.Pipeline.ValueKit

@[expose] public section

noncomputable section

namespace Cert.Dft

/-- Column `c` of the block of 256 columns that column `l` lies in. -/
abbrev sib (l : Fin 1024) (c : Fin 256) : Fin 1024 := ⟨l.val / 256 * 256 + c.val, by omega⟩

/-- Where column `l` lies in its block of 256 columns. -/
abbrev col (l : Fin 1024) : Fin 256 := ⟨l.val % 256, by omega⟩

/-- One output: the rows `u` transformed along the columns of each block with the tables `cc` and `sc`, then along the
    rows with `ct` and `nst`, then times the weights `w`. -/
def mix {n : Nat} (u : Fin n → Fin 1024 → EReal) (ct nst : Fin n → EReal) (cc sc : Fin 256 → Fin 256 → EReal)
    (w : Fin 1024 → EReal) : EReal :=
  ∑ l, ((∑ t, ct t * ∑ c, u t (sib l c) * cc c (col l)) + ∑ t, nst t * ∑ c, u t (sib l c) * sc c (col l)) * w l

/-- The rows transformed along the columns, the cosine half above the sine half: row `s` and column `l`. -/
def halves {n : Nat} (u : Fin n → Fin 1024 → EReal) (d : Fin 256 → Fin 512 → EReal) (s : Fin (n + n)) (l : Fin 1024) :
    EReal :=
  ∑ c, u ⟨s.val % n, Nat.mod_lt _ (show 0 < n by have := s.isLt; omega)⟩ (sib l c)
    * d c ⟨s.val / n * 256 + l.val % 256, by
        have h : s.val / n < 2 := Nat.div_lt_of_lt_mul (show s.val < n * 2 by omega)
        omega⟩

/-- One sum over both halves is the sum of the two sums. -/
theorem sum_halves {n : Nat} (k : Fin (n + n) → EReal) (u : Fin n → Fin 1024 → EReal) (d : Fin 256 → Fin 512 → EReal)
    (w : Fin 1024 → EReal) :
    ∑ l, (∑ s, k s * halves u d s l) * w l
      = mix u (fun t => k ⟨t.val, by omega⟩) (fun t => k ⟨n + t.val, by omega⟩) (fun c q => d c ⟨q.val, by omega⟩)
          (fun c q => d c ⟨256 + q.val, by omega⟩) w := by
  refine Finset.sum_congr rfl fun l _ => congrArg (· * w l) ?_
  refine (Fin.sum_univ_add _).trans (congrArg₂ (· + ·) ?_ ?_) <;>
    refine Finset.sum_congr rfl fun t _ => congrArg (_ * ·) (Finset.sum_congr rfl fun c _ => congrArg₂ (· * ·) ?_ ?_)
  · refine congrArg (u · _) (Fin.ext ?_)
    exact Nat.mod_eq_of_lt t.isLt
  · refine congrArg (d c) (Fin.ext ?_)
    show t.val / n * 256 + l.val % 256 = l.val % 256
    rw [Nat.div_eq_of_lt t.isLt]
    omega
  · refine congrArg (u · _) (Fin.ext ?_)
    show (n + t.val) % n = t.val
    rw [Nat.add_mod_left, Nat.mod_eq_of_lt t.isLt]
  · refine congrArg (d c) (Fin.ext ?_)
    show (n + t.val) / n * 256 + l.val % 256 = 256 + l.val % 256
    rw [Nat.add_div_left _ (show 0 < n by have := t.isLt; omega), Nat.div_eq_of_lt t.isLt]

end Cert.Dft

end
-- ==== Proof.Ft.lean ====
/-
  The Fourier mixing of the context rows (`KernelFt`): per sequence of 256 rows the kernel transforms the columns of each
  block into a scratch that holds the cosine half above the sine half, transforms the rows with one product against the
  two tables side by side, and multiplies by the weights. At the extended reals the result array is the reference's: the
  tables are the same, and the product over both halves is the sum of the two transforms.
-/
module

public import proofs.«01_k».proof.Defs
public import proofs.«01_k».proof.Proof.Gen.KernelFt.Frame
public import proofs.«01_k».proof.Proof.Gen.KernelFtIdeal.Value
public import proofs.«01_k».proof.Proof.Gen.ReferenceFtIdeal.Read
public import proofs.«01_k».proof.Proof.Dft
public import Idealize.ShloMosaic.Lib.StableHlo.RunRead
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelFtIdeal.RefValue

open Cert.KernelFtIdeal Cert.KernelFtIdeal.Gen Cert.Dft

variable (m : (ℓ : Loc nD τ sig) → Buf (Elt Ideal) ℓ) (ρ : Dev nD → PrngReg)

/-- What the result array is shown to hold: the reference's last value, of the kernel's arguments. -/
abbrev goal (x0 : FVec Ideal S12288x8704 .f32) (x1 : FVec Ideal S1024x1024 .bf16) : FVec Ideal S4096x1024 .bf16 :=
  Cert.ReferenceFtIdeal.Read.val_main_v46 (F := Ideal) x0 x1

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

section Tables
open Cert.ReferenceFtIdeal.Read

/-- The reference's table for the rows, cosines left of negated sines. -/
def rowTable : FVec Ideal S256x512 .bf16 :=
  truncf .bf16 (concatenate S256x512 1 [⟨S256x256, val_main_v15 (F := Ideal)⟩, ⟨S256x256, val_main_v38 (F := Ideal)⟩]
    concatenates_S256x256_S256x256_S256x512_d1) bitsLt_bf16_f32

/-- The reference's table for the columns, cosines left of sines. -/
def colTable : FVec Ideal S256x512 .bf16 :=
  truncf .bf16 (concatenate S256x512 1 [⟨S256x256, val_main_v31 (F := Ideal)⟩, ⟨S256x256, val_main_v34 (F := Ideal)⟩]
    concatenates_S256x256_S256x256_S256x512_d1) bitsLt_bf16_f32

/-- The operations before the kernel, in order. -/
abbrev ops : List (HloOp τ sig (Elt Ideal)) :=
  hostOps0 ++ (hostOps0_1 ++ (hostOps0_2 ++ (hostOps0_3 ++ hostOps0_4)))

/-- The cosines of the row table, as the host leaves them, are the reference's. -/
theorem read_cos_rows (c : Dev nD) :
    StableHlo.upto ops (fun b => m (c, b)) 81 (Proc.tc.devRef main_v12) = val_main_v15 (F := Ideal) := by
  after_reads_simp
  rfl

/-- The negated sines of the row table are the reference's. -/
theorem read_sin_rows (c : Dev nD) :
    StableHlo.upto ops (fun b => m (c, b)) 81 (Proc.tc.devRef main_v32) = val_main_v38 (F := Ideal) := by
  after_reads_simp
  rfl

/-- The table the kernel reads for the rows is the reference's. -/
theorem read_rows (c : Dev nD) : V m c main_v34 = rowTable := by
  show StableHlo.after ops (fun b => m (c, b)) (Proc.tc.devRef main_v34) = _
  after_reads_simp
  rw [read_cos_rows m c, read_sin_rows m c]
  rfl

/-- The cosines of the column table, as the host leaves them, are the reference's. -/
theorem read_cos_cols (c : Dev nD) :
    StableHlo.upto ops (fun b => m (c, b)) 83 (Proc.tc.devRef main_v28) = val_main_v31 (F := Ideal) := by
  after_reads_simp
  rfl

/-- The sines of the column table are the reference's. -/
theorem read_sin_cols (c : Dev nD) :
    StableHlo.upto ops (fun b => m (c, b)) 83 (Proc.tc.devRef main_v31) = val_main_v34 (F := Ideal) := by
  after_reads_simp
  rfl

/-- The table the kernel reads for the columns is the reference's. -/
theorem read_cols (c : Dev nD) : V m c main_v36 = colTable := by
  show StableHlo.after ops (fun b => m (c, b)) (Proc.tc.devRef main_v36) = _
  after_reads_simp
  rw [read_cos_cols m c, read_sin_cols m c]
  rfl

/-- The reference's result at row `r` and column `o`. -/
theorem goal_at (z : FVec Ideal S12288x8704 .f32) (w : FVec Ideal S1024x1024 .bf16) (r : Fin 4096) (o : Fin 1024) :
    val_main_v46 (F := Ideal) z w (ix2 r o)
      = mix (n := 256) (fun t l => z (ix2 ⟨r.val / 256 * 256 + t.val, by omega⟩ ⟨l.val, by omega⟩))
          (fun t => val_main_v15 (F := Ideal) (ix2 ⟨r.val % 256, by omega⟩ t)) (fun t => val_main_v38 (F := Ideal) (ix2 ⟨r.val % 256, by omega⟩ t))
          (fun c q => val_main_v31 (F := Ideal) (ix2 c q)) (fun c q => val_main_v34 (F := Ideal) (ix2 c q)) (fun l => w (ix2 l o)) := by
  pointwise [val_main_v46, val_main_v45, val_main_v44, val_main_v43, val_main_v42, val_main_v41, val_main_v40, val_main_v39,
    val_main_v37, val_main_v36, val_main_v35, val_main_v2, val_main_v1, val_main_v0]
  unfold mix
  refine Finset.sum_congr rfl fun l _ => congrArg (· * _) (congrArg₂ (· + ·) ?_ ?_) <;>
    exact Finset.sum_congr rfl fun t _ => mul_comm _ _

end Tables

/-- The parts of the scratch the body fills: a block of rows times one half of the column table. -/
theorem cos_at (x : FVec Ideal S256x256 .f32) (d : FVec Ideal S256x512 .bf16) (r q : Fin 256) :
    k0_pay9 (F := Ideal) x d (ix2 r q) = ∑ c : Fin 256, x (ix2 r c) * d (ix2 c ⟨q.val, by omega⟩) := by
  pointwise [k0_pay9, k0_pay8]

/-- The same of the column table's right half. -/
theorem sin_at (x : FVec Ideal S256x256 .f32) (d : FVec Ideal S256x512 .bf16) (r q : Fin 256) :
    k0_pay10 (F := Ideal) x d (ix2 r q) = ∑ c : Fin 256, x (ix2 r c) * d (ix2 c ⟨256 + q.val, by omega⟩) := by
  pointwise [k0_pay10, k0_pay8]

/-- What the body stores, of the row table, the scratch and the weights. -/
theorem pay_at (k : FVec Ideal S256x512 .bf16) (s : FVec Ideal S512x1024 .bf16) (w : FVec Ideal S1024x1024 .bf16)
    (r : Fin 256) (o : Fin 1024) :
    k0_pay7 (F := Ideal) k s w (ix2 r o) = ∑ l : Fin 1024, (∑ j : Fin 512, k (ix2 r j) * s (ix2 j l)) * w (ix2 l o) := by
  pointwise [k0_pay7]

/-- The scratch once it is filled. -/
abbrev scratch (x : FVec Ideal S256x1024 .f32) (d : FVec Ideal S256x512 .bf16) : S512x1024.Idx → EReal :=
  fun i => halves (n := 256) (fun t l => x (ix2 t l)) (fun c q => d (ix2 c q)) (i 0) (i 1)

/-- What is stored in the upper half, at the block of columns from `o` on. -/
theorem cos_piece (x : FVec Ideal S256x1024 .f32) (d : FVec Ideal S256x512 .bf16) (o : Nat) (ho : o % 256 = 0) (h h')
    (i : S256x256.Idx) :
    k0_pay9 (F := Ideal) (View.ld x (Rect.unit (s := S256x1024) ![0, o] ![256, 256] h)) d i
      = scratch x d ((Rect.unit (s := S512x1024) ![0, o] ![256, 256] h').emb i) := by
  have h0 : (i 0).val < 256 := (i 0).isLt
  have h1 : (i 1).val < 256 := (i 1).isLt
  rw [eq_ix2 i]
  refine (cos_at _ _ (i 0) (i 1)).trans (Finset.sum_congr rfl fun c _ => congrArg₂ (· * ·) (congrArg x ?_) (congrArg d ?_)) <;>
    funext a <;> refine Fin.ext ?_ <;> fin_cases a
  · show 0 + 1 * (i 0).val = (0 + 1 * (i 0).val) % 256
    omega
  · show o + 1 * c.val = (o + 1 * (i 1).val) / 256 * 256 + c.val
    omega
  · rfl
  · show (i 1).val = (0 + 1 * (i 0).val) / 256 * 256 + (o + 1 * (i 1).val) % 256
    omega

/-- What is stored in the lower half, at the block of columns from `o` on. -/
theorem sin_piece (x : FVec Ideal S256x1024 .f32) (d : FVec Ideal S256x512 .bf16) (o : Nat) (ho : o % 256 = 0) (h h')
    (i : S256x256.Idx) :
    k0_pay10 (F := Ideal) (View.ld x (Rect.unit (s := S256x1024) ![0, o] ![256, 256] h)) d i
      = scratch x d ((Rect.unit (s := S512x1024) ![256, o] ![256, 256] h').emb i) := by
  have h0 : (i 0).val < 256 := (i 0).isLt
  have h1 : (i 1).val < 256 := (i 1).isLt
  rw [eq_ix2 i]
  refine (sin_at _ _ (i 0) (i 1)).trans (Finset.sum_congr rfl fun c _ => congrArg₂ (· * ·) (congrArg x ?_) (congrArg d ?_)) <;>
    funext a <;> refine Fin.ext ?_ <;> fin_cases a
  · show 0 + 1 * (i 0).val = (256 + 1 * (i 0).val) % 256
    omega
  · show o + 1 * c.val = (o + 1 * (i 1).val) / 256 * 256 + c.val
    omega
  · rfl
  · show 256 + (i 1).val = (256 + 1 * (i 0).val) / 256 * 256 + (o + 1 * (i 1).val) % 256
    omega

/-- The block of rows the body reads, entry by entry. -/
theorem rows_block (c : Dev nD) (t : Fin cfg0.N) (r : Fin 256) (l : Fin 1024) :
    X0_0 m c t (ix2 r l) = m ((c : Thread nD τ).loc main_arg0) (ix2 ⟨t.val * 256 + r.val, by have : t.val < 16 := t.isLt; omega⟩ ⟨l.val, by omega⟩) := by
  unfold X0_0 Pipeline.Window.fill
  rw [dif_pos (moved0_0 t _)]
  blk_point [iblk, V, idx t]

/-- The body's block of the row table: cosines on the left, negated sines on the right. -/
theorem cos_rows_block (c : Dev nD) (t : Fin cfg0.N) (p q : Fin 256) :
    iblk m c 2 t (ix2 p (⟨q.val, by omega⟩ : Fin 512)) = Cert.ReferenceFtIdeal.Read.val_main_v15 (F := Ideal) (ix2 p q) := by
  have h : iblk m c 2 t (ix2 p (⟨q.val, by omega⟩ : Fin 512)) = V m c main_v34 (ix2 p (⟨q.val, by omega⟩ : Fin 512)) := by blk_point [iblk, idx t]
  rw [h, read_rows]
  pointwise [rowTable]

/-- The right half of the row table's block. -/
theorem sin_rows_block (c : Dev nD) (t : Fin cfg0.N) (p q : Fin 256) :
    iblk m c 2 t (ix2 p (⟨256 + q.val, by omega⟩ : Fin 512)) = Cert.ReferenceFtIdeal.Read.val_main_v38 (F := Ideal) (ix2 p q) := by
  have h : iblk m c 2 t (ix2 p (⟨256 + q.val, by omega⟩ : Fin 512)) = V m c main_v34 (ix2 p (⟨256 + q.val, by omega⟩ : Fin 512)) := by blk_point [iblk, idx t]
  rw [h, read_rows]
  pointwise [rowTable]

/-- The body's block of the column table: cosines on the left, sines on the right. -/
theorem cos_cols_block (c : Dev nD) (t : Fin cfg0.N) (p q : Fin 256) :
    iblk m c 1 t (ix2 p (⟨q.val, by omega⟩ : Fin 512)) = Cert.ReferenceFtIdeal.Read.val_main_v31 (F := Ideal) (ix2 p q) := by
  have h : iblk m c 1 t (ix2 p (⟨q.val, by omega⟩ : Fin 512)) = V m c main_v36 (ix2 p (⟨q.val, by omega⟩ : Fin 512)) := by blk_point [iblk, idx t]
  rw [h, read_cols]
  pointwise [colTable]

/-- The right half of the column table's block. -/
theorem sin_cols_block (c : Dev nD) (t : Fin cfg0.N) (p q : Fin 256) :
    iblk m c 1 t (ix2 p (⟨256 + q.val, by omega⟩ : Fin 512)) = Cert.ReferenceFtIdeal.Read.val_main_v34 (F := Ideal) (ix2 p q) := by
  have h : iblk m c 1 t (ix2 p (⟨256 + q.val, by omega⟩ : Fin 512)) = V m c main_v36 (ix2 p (⟨256 + q.val, by omega⟩ : Fin 512)) := by blk_point [iblk, idx t]
  rw [h, read_cols]
  pointwise [colTable]

/-- What the body stores at row `p` and column `o` of its block is the reference's value where that entry sits. -/
theorem point (c : Dev nD) (t : Fin cfg0.N) (p : Fin 256) (o : Fin 1024) :
    k0_pay7 (iblk m c 2 t) (scratch (X0_0 m c t) (iblk m c 1 t)) (iblk m c 3 t) (ix2 p o)
      = goal (m ((c : Thread nD τ).loc main_arg0)) (m ((c : Thread nD τ).loc main_arg1)) (((cfg0.win 4).blk t).view.emb (ix2 p o)) := by
  have hw (l : Fin 1024) : iblk m c 3 t (ix2 l o) = m ((c : Thread nD τ).loc main_arg1) (ix2 l o) := by blk_point [iblk, V, idx t]
  have hr : (((cfg0.win 4).blk t).view.emb (ix2 p o) 0).val = t.val * 256 + p.val := by
    show win0_4.index t 0 * 256 + 1 * p.val = _
    rw [(idx t).2.2.2.2]
    show t.val * 256 + 1 * p.val = _
    omega
  have ho : ((cfg0.win 4).blk t).view.emb (ix2 p o) 1 = o := by
    refine Fin.ext ?_
    show win0_4.index t 1 * 1024 + 1 * o.val = _
    rw [(idx t).2.2.2.2]
    show 0 * 1024 + 1 * o.val = _
    omega
  refine (pay_at _ _ _ p o).trans ?_
  refine (sum_halves (n := 256) (fun j => iblk m c 2 t (ix2 p j)) _ _ (fun l => iblk m c 3 t (ix2 l o))).trans ?_
  rw [eq_ix2 (((cfg0.win 4).blk t).view.emb (ix2 p o))]
  refine Eq.trans ?_ (goal_at _ _ _ _).symm
  have hd : (t.val * 256 + p.val) / 256 = t.val := by omega
  have hm : (t.val * 256 + p.val) % 256 = p.val := by omega
  simp only [cos_rows_block m c t, sin_rows_block m c t, cos_cols_block m c t, sin_cols_block m c t, rows_block m c t, hw, hr, ho, hd, hm]

/-- The result array after the run is the reference's value of the arguments: the written blocks tile it. -/
theorem final (c : Dev nD) : (dats m 0 c).arrAt 4 cfg0.N
    = goal (m ((c : Thread nD τ).loc main_arg0)) (m ((c : Thread nD τ).loc main_arg1)) := by
  refine (dats m 0 c).arrAt_eq_of_covers 4 _ (by decide +kernel) fun t _ y => ?_
  blk_simp
  rw [after0_4]; unfold Gen.outsAt0; frame_out
  rw [eq_ix2 y]
  refine Eq.trans ?_ (point m c t (y 0) (y 1))
  refine congrArg (fun s => k0_pay7 (F := Ideal) (iblk m c 2 t) s (iblk m c 3 t) (ix2 (y 0) (y 1))) ?_
  rw [View.readCov_eq_canon']
  funext j
  refine (View.canon_apply_of_pieces (scratch (X0_0 m c t) (iblk m c 1 t)) _ (fun p hp i => ?_) _ ?_).trans (congrArg _ ?_)
  · simp only [List.mem_cons, List.mem_nil_iff, or_false] at hp
    rcases hp with rfl | rfl | rfl | rfl | rfl | rfl | rfl | rfl
    · exact sin_piece _ _ 768 rfl _ inb_S512x1024_S256x256_256_768 i
    · exact cos_piece _ _ 768 rfl _ inb_S512x1024_S256x256_0_768 i
    · exact sin_piece _ _ 512 rfl _ inb_S512x1024_S256x256_256_512 i
    · exact cos_piece _ _ 512 rfl _ inb_S512x1024_S256x256_0_512 i
    · exact sin_piece _ _ 256 rfl _ inb_S512x1024_S256x256_256_256 i
    · exact cos_piece _ _ 256 rfl _ inb_S512x1024_S256x256_0_256 i
    · exact sin_piece _ _ 0 rfl _ inb_S512x1024_S256x256_256_0 i
    · exact cos_piece _ _ 0 rfl _ inb_S512x1024_S256x256_0_0 i
  · refine View.cover_of_tiledL (s := S512x1024) _ S256x256.size ?_ _
    sl_kernel_rfl
  · funext a
    refine Fin.ext ?_
    fin_cases a
    · exact (by omega : 0 + 1 * (j 0).val = (j 0).val)
    · exact (by omega : 0 + 1 * (j 1).val = (j 1).val)

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v37) = goal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelFtIdeal.RefValue

/-! ## The claims -/

namespace Cert.Proof.FtClaims

/-- Every weakly fair execution of the kernel ends, with its arguments unchanged and every counter at zero. -/
theorem frame_kernel : Cert.quiescent_KernelFt := fun m ρ _ => Cert.KernelFt.Gen.frame m ρ

/-- The same of the kernel read at the extended reals. -/
theorem frame_ideal : Cert.quiescent_KernelFtIdeal := fun m ρ _ => Cert.KernelFtIdeal.Gen.frame m ρ

/-- The same of the reference, whose program has no counters. -/
theorem frame_reference : Cert.quiescent_ReferenceFtIdeal := fun m ρ _ =>
  (θ_run Cert.ReferenceFtIdeal.defs _ _).mono (fun r h => ⟨fun c => (h c).2,
      Idealize.ShloMosaic.sem_eq_zero_of_no_sems (by decide) r.2⟩)
    (Cert.ReferenceFtIdeal.Value.run (F := Ideal) m ρ)

/-- No operation was rewritten. -/
theorem preserves : Cert.preserves_KernelFt_KernelFtIdeal := trivial

/-- From agreeing arguments the kernel and the reference end with the same result at the extended reals. -/
theorem algebraic : Cert.algebraic_KernelFtIdeal_ReferenceFtIdeal := fun m ρ m' ρ' _ hag =>
  ⟨fun c => Cert.KernelFtIdeal.RefValue.goal (m ((c.tc : Thread Cert.KernelFtIdeal.nD Cert.KernelFtIdeal.τ).loc Cert.KernelFtIdeal.main_arg0)) (m ((c.tc : Thread Cert.KernelFtIdeal.nD Cert.KernelFtIdeal.τ).loc Cert.KernelFtIdeal.main_arg1)),
    Cert.KernelFtIdeal.RefValue.run m ρ,
    (θ_run Cert.ReferenceFtIdeal.defs _ _).mono (fun _ h c => ⟨(h c).1.trans (by
        rw [Cert.ReferenceFtIdeal.Read.val_main_v46_eq, (hag c).1, (hag c).2]), (h c).2⟩)
      (Cert.ReferenceFtIdeal.Value.run (F := Ideal) m' ρ')⟩

end Cert.Proof.FtClaims

end
-- ==== Proof.FtLat.lean ====
/-
  The Fourier mixing of the latent rows (`KernelFtLat`): the same body as over the context rows, on sequences of 2048
  rows. The first of a sequence's four grid points fills the scratch, and all four read it. At the extended reals the
  result array is the reference's.
-/
module

public import proofs.«01_k».proof.Defs
public import proofs.«01_k».proof.Proof.Gen.KernelFtLat.Frame
public import proofs.«01_k».proof.Proof.Gen.KernelFtLatIdeal.Value
public import proofs.«01_k».proof.Proof.Gen.ReferenceFtLatIdeal.Read
public import proofs.«01_k».proof.Proof.Dft
public import Idealize.ShloMosaic.Lib.StableHlo.RunRead
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The kernel's result array -/

namespace Cert.KernelFtLatIdeal.RefValue

open Cert.KernelFtLatIdeal Cert.KernelFtLatIdeal.Gen Cert.Dft

variable (m : (ℓ : Loc nD τ sig) → Buf (Elt Ideal) ℓ) (ρ : Dev nD → PrngReg)

/-- What the result array is shown to hold: the reference's last value, of the kernel's arguments. -/
abbrev goal (x0 : FVec Ideal S12288x8704 .f32) (x1 : FVec Ideal S1024x1024 .bf16) : FVec Ideal S8192x1024 .bf16 :=
  Cert.ReferenceFtLatIdeal.Read.val_main_v46 (F := Ideal) x0 x1

/-- The windows' block indices at every grid point. -/
theorem idx : ∀ t : Fin cfg0.N, win0_0.index t = ![2 + t.val / 4, 0] ∧ win0_1.index t = ![0, 0] ∧ win0_2.index t = ![t.val % 4, 0]
    ∧ win0_3.index t = ![0, 0] ∧ win0_4.index t = ![t.val, 0] :=
  (by decide +kernel : ∀ t : Fin grid0.N, _)

section Tables
open Cert.ReferenceFtLatIdeal.Read

/-- The reference's table for the rows, cosines left of negated sines. -/
def rowTable : FVec Ideal S2048x4096 .bf16 :=
  truncf .bf16 (concatenate S2048x4096 1 [⟨S2048x2048, val_main_v15 (F := Ideal)⟩, ⟨S2048x2048, val_main_v38 (F := Ideal)⟩]
    concatenates_S2048x2048_S2048x2048_S2048x4096_d1) bitsLt_bf16_f32

/-- The reference's table for the columns, cosines left of sines. -/
def colTable : FVec Ideal S256x512 .bf16 :=
  truncf .bf16 (concatenate S256x512 1 [⟨S256x256, val_main_v31 (F := Ideal)⟩, ⟨S256x256, val_main_v34 (F := Ideal)⟩]
    concatenates_S256x256_S256x256_S256x512_d1) bitsLt_bf16_f32

/-- The operations before the kernel, in order. -/
abbrev ops : List (HloOp τ sig (Elt Ideal)) :=
  hostOps0 ++ (hostOps0_1 ++ (hostOps0_2 ++ (hostOps0_3 ++ hostOps0_4)))

/-- The cosines of the row table, as the host leaves them, are the reference's. -/
theorem read_cos_rows (c : Dev nD) :
    StableHlo.upto ops (fun b => m (c, b)) 81 (Proc.tc.devRef main_v12) = val_main_v15 (F := Ideal) := by
  after_reads_simp
  rfl

/-- The negated sines of the row table are the reference's. -/
theorem read_sin_rows (c : Dev nD) :
    StableHlo.upto ops (fun b => m (c, b)) 81 (Proc.tc.devRef main_v32) = val_main_v38 (F := Ideal) := by
  after_reads_simp
  rfl

/-- The table the kernel reads for the rows is the reference's. -/
theorem read_rows (c : Dev nD) : V m c main_v34 = rowTable := by
  show StableHlo.after ops (fun b => m (c, b)) (Proc.tc.devRef main_v34) = _
  after_reads_simp
  rw [read_cos_rows m c, read_sin_rows m c]
  rfl

/-- The cosines of the column table, as the host leaves them, are the reference's. -/
theorem read_cos_cols (c : Dev nD) :
    StableHlo.upto ops (fun b => m (c, b)) 83 (Proc.tc.devRef main_v28) = val_main_v31 (F := Ideal) := by
  after_reads_simp
  rfl

/-- The sines of the column table are the reference's. -/
theorem read_sin_cols (c : Dev nD) :
    StableHlo.upto ops (fun b => m (c, b)) 83 (Proc.tc.devRef main_v31) = val_main_v34 (F := Ideal) := by
  after_reads_simp
  rfl

/-- The table the kernel reads for the columns is the reference's. -/
theorem read_cols (c : Dev nD) : V m c main_v36 = colTable := by
  show StableHlo.after ops (fun b => m (c, b)) (Proc.tc.devRef main_v36) = _
  after_reads_simp
  rw [read_cos_cols m c, read_sin_cols m c]
  rfl

/-- The reference's result at row `r` and column `o`. -/
theorem goal_at (z : FVec Ideal S12288x8704 .f32) (w : FVec Ideal S1024x1024 .bf16) (r : Fin 8192) (o : Fin 1024) :
    val_main_v46 (F := Ideal) z w (ix2 r o)
      = mix (n := 2048) (fun t l => z (ix2 ⟨4096 + (r.val / 2048 * 2048 + t.val), by omega⟩ ⟨l.val, by omega⟩))
          (fun t => val_main_v15 (F := Ideal) (ix2 ⟨r.val % 2048, by omega⟩ t)) (fun t => val_main_v38 (F := Ideal) (ix2 ⟨r.val % 2048, by omega⟩ t))
          (fun c q => val_main_v31 (F := Ideal) (ix2 c q)) (fun c q => val_main_v34 (F := Ideal) (ix2 c q)) (fun l => w (ix2 l o)) := by
  pointwise [val_main_v46, val_main_v45, val_main_v44, val_main_v43, val_main_v42, val_main_v41, val_main_v40, val_main_v39,
    val_main_v37, val_main_v36, val_main_v35, val_main_v2, val_main_v1, val_main_v0]
  unfold mix
  refine Finset.sum_congr rfl fun l _ => congrArg (· * _) (congrArg₂ (· + ·) ?_ ?_) <;>
    exact Finset.sum_congr rfl fun t _ => mul_comm _ _

end Tables

/-- The parts of the scratch the body fills: a block of rows times one half of the column table. -/
theorem cos_at (x : FVec Ideal S512x256 .f32) (d : FVec Ideal S256x512 .bf16) (r : Fin 512) (q : Fin 256) :
    k0_pay4 (F := Ideal) x d (ix2 r q) = ∑ c : Fin 256, x (ix2 r c) * d (ix2 c ⟨q.val, by omega⟩) := by
  pointwise [k0_pay4, k0_pay3]

/-- The same of the column table's right half. -/
theorem sin_at (x : FVec Ideal S512x256 .f32) (d : FVec Ideal S256x512 .bf16) (r : Fin 512) (q : Fin 256) :
    k0_pay5 (F := Ideal) x d (ix2 r q) = ∑ c : Fin 256, x (ix2 r c) * d (ix2 c ⟨256 + q.val, by omega⟩) := by
  pointwise [k0_pay5, k0_pay3]

/-- What the body stores, of the row table, the scratch and the weights. -/
theorem pay_at (k : FVec Ideal S512x4096 .bf16) (s : FVec Ideal S4096x1024 .bf16) (w : FVec Ideal S1024x1024 .bf16)
    (r : Fin 512) (o : Fin 1024) :
    k0_pay2 (F := Ideal) k s w (ix2 r o) = ∑ l : Fin 1024, (∑ j : Fin 4096, k (ix2 r j) * s (ix2 j l)) * w (ix2 l o) := by
  pointwise [k0_pay2]

/-- The scratch once it is filled. -/
abbrev scratch (x : FVec Ideal S2048x1024 .f32) (d : FVec Ideal S256x512 .bf16) : S4096x1024.Idx → EReal :=
  fun i => halves (n := 2048) (fun t l => x (ix2 t l)) (fun c q => d (ix2 c q)) (i 0) (i 1)

/-- A part of 512 rows and 256 columns lies in a sequence's block of rows. -/
theorem inb_rows {r o : Nat} (hr : r + 512 ≤ 2048) (ho : o + 256 ≤ 1024) :
    ∀ a, (![r, o] : Fin 2 → Nat) a + (![512, 256] : Fin 2 → Nat) a ≤ S2048x1024.size a := fun a => by
  fin_cases a
  exacts [hr, ho]

/-- A part of 512 rows and 256 columns lies in the scratch. -/
theorem inb_scratch {r o : Nat} (hr : r + 512 ≤ 4096) (ho : o + 256 ≤ 1024) :
    ∀ a, (![r, o] : Fin 2 → Nat) a + (![512, 256] : Fin 2 → Nat) a ≤ S4096x1024.size a := fun a => by
  fin_cases a
  exacts [hr, ho]

/-- The store in the upper half of the rows from `r` on and the columns from `o` on. -/
abbrev cosPiece (x : FVec Ideal S2048x1024 .f32) (d : FVec Ideal S256x512 .bf16) (r o : Nat) (hr : r + 512 ≤ 2048 := by decide)
    (ho : o + 256 ≤ 1024 := by decide) : View.Piece (Elt Ideal) S4096x1024 .bf16 :=
  ⟨Rect.unit (s := S4096x1024) ![r, o] ![512, 256] (inb_scratch (Nat.le_trans hr (by decide)) ho),
    k0_pay4 (F := Ideal) (View.ld x (Rect.unit (s := S2048x1024) ![r, o] ![512, 256] (inb_rows hr ho))) d⟩

/-- The store in the lower half of the rows from `r` on and the columns from `o` on. -/
abbrev sinPiece (x : FVec Ideal S2048x1024 .f32) (d : FVec Ideal S256x512 .bf16) (r o : Nat) (hr : r + 512 ≤ 2048 := by decide)
    (ho : o + 256 ≤ 1024 := by decide) : View.Piece (Elt Ideal) S4096x1024 .bf16 :=
  ⟨Rect.unit (s := S4096x1024) ![2048 + r, o] ![512, 256] (inb_scratch (by omega) ho),
    k0_pay5 (F := Ideal) (View.ld x (Rect.unit (s := S2048x1024) ![r, o] ![512, 256] (inb_rows hr ho))) d⟩

/-- A store in the upper half writes its part of the filled scratch. -/
theorem cos_piece (x : FVec Ideal S2048x1024 .f32) (d : FVec Ideal S256x512 .bf16) (r o : Nat) (hr : r + 512 ≤ 2048)
    (ho : o + 256 ≤ 1024) (hd : o % 256 = 0) (i : S512x256.Idx) :
    (cosPiece x d r o hr ho).2 i = scratch x d ((cosPiece x d r o hr ho).1.emb i) := by
  have h0 : (i 0).val < 512 := (i 0).isLt
  have h1 : (i 1).val < 256 := (i 1).isLt
  rw [eq_ix2 i]
  refine (cos_at _ _ (i 0) (i 1)).trans (Finset.sum_congr rfl fun c _ => congrArg₂ (· * ·) (congrArg x ?_) (congrArg d ?_)) <;>
    funext a <;> refine Fin.ext ?_ <;> fin_cases a
  · show r + 1 * (i 0).val = (r + 1 * (i 0).val) % 2048
    omega
  · show o + 1 * c.val = (o + 1 * (i 1).val) / 256 * 256 + c.val
    omega
  · rfl
  · show (i 1).val = (r + 1 * (i 0).val) / 2048 * 256 + (o + 1 * (i 1).val) % 256
    omega

/-- So does a store in the lower half. -/
theorem sin_piece (x : FVec Ideal S2048x1024 .f32) (d : FVec Ideal S256x512 .bf16) (r o : Nat) (hr : r + 512 ≤ 2048)
    (ho : o + 256 ≤ 1024) (hd : o % 256 = 0) (i : S512x256.Idx) :
    (sinPiece x d r o hr ho).2 i = scratch x d ((sinPiece x d r o hr ho).1.emb i) := by
  have h0 : (i 0).val < 512 := (i 0).isLt
  have h1 : (i 1).val < 256 := (i 1).isLt
  rw [eq_ix2 i]
  refine (sin_at _ _ (i 0) (i 1)).trans (Finset.sum_congr rfl fun c _ => congrArg₂ (· * ·) (congrArg x ?_) (congrArg d ?_)) <;>
    funext a <;> refine Fin.ext ?_ <;> fin_cases a
  · show r + 1 * (i 0).val = (2048 + r + 1 * (i 0).val) % 2048
    omega
  · show o + 1 * c.val = (o + 1 * (i 1).val) / 256 * 256 + c.val
    omega
  · rfl
  · show 256 + (i 1).val = (2048 + r + 1 * (i 0).val) / 2048 * 256 + (o + 1 * (i 1).val) % 256
    omega

/-- The stores that fill the scratch, the last one first. -/
abbrev pieces (x : FVec Ideal S2048x1024 .f32) (d : FVec Ideal S256x512 .bf16) : List (View.Piece (Elt Ideal) S4096x1024 .bf16) :=
  [sinPiece x d 1536 768, cosPiece x d 1536 768, sinPiece x d 1024 768, cosPiece x d 1024 768,
    sinPiece x d 512 768, cosPiece x d 512 768, sinPiece x d 0 768, cosPiece x d 0 768,
    sinPiece x d 1536 512, cosPiece x d 1536 512, sinPiece x d 1024 512, cosPiece x d 1024 512,
    sinPiece x d 512 512, cosPiece x d 512 512, sinPiece x d 0 512, cosPiece x d 0 512,
    sinPiece x d 1536 256, cosPiece x d 1536 256, sinPiece x d 1024 256, cosPiece x d 1024 256,
    sinPiece x d 512 256, cosPiece x d 512 256, sinPiece x d 0 256, cosPiece x d 0 256,
    sinPiece x d 1536 0, cosPiece x d 1536 0, sinPiece x d 1024 0, cosPiece x d 1024 0,
    sinPiece x d 512 0, cosPiece x d 512 0, sinPiece x d 0 0, cosPiece x d 0 0]

/-- Read back, the stores are the filled scratch. -/
theorem filled (x : FVec Ideal S2048x1024 .f32) (d : FVec Ideal S256x512 .bf16) (i : S4096x1024.Idx) :
    View.canon (pieces x d) i = scratch x d i := by
  refine View.canon_apply_of_pieces (Val := Elt Ideal) (e := .bf16) (scratch x d) _ (fun p hp j => ?_) i ?_
  · simp only [pieces, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    exacts [sin_piece x d 1536 768 _ _ rfl j, cos_piece x d 1536 768 _ _ rfl j,
      sin_piece x d 1024 768 _ _ rfl j, cos_piece x d 1024 768 _ _ rfl j,
      sin_piece x d 512 768 _ _ rfl j, cos_piece x d 512 768 _ _ rfl j,
      sin_piece x d 0 768 _ _ rfl j, cos_piece x d 0 768 _ _ rfl j,
      sin_piece x d 1536 512 _ _ rfl j, cos_piece x d 1536 512 _ _ rfl j,
      sin_piece x d 1024 512 _ _ rfl j, cos_piece x d 1024 512 _ _ rfl j,
      sin_piece x d 512 512 _ _ rfl j, cos_piece x d 512 512 _ _ rfl j,
      sin_piece x d 0 512 _ _ rfl j, cos_piece x d 0 512 _ _ rfl j,
      sin_piece x d 1536 256 _ _ rfl j, cos_piece x d 1536 256 _ _ rfl j,
      sin_piece x d 1024 256 _ _ rfl j, cos_piece x d 1024 256 _ _ rfl j,
      sin_piece x d 512 256 _ _ rfl j, cos_piece x d 512 256 _ _ rfl j,
      sin_piece x d 0 256 _ _ rfl j, cos_piece x d 0 256 _ _ rfl j,
      sin_piece x d 1536 0 _ _ rfl j, cos_piece x d 1536 0 _ _ rfl j,
      sin_piece x d 1024 0 _ _ rfl j, cos_piece x d 1024 0 _ _ rfl j,
      sin_piece x d 512 0 _ _ rfl j, cos_piece x d 512 0 _ _ rfl j,
      sin_piece x d 0 0 _ _ rfl j, cos_piece x d 0 0 _ _ rfl j]
  · refine View.cover_of_tiledL (s := S4096x1024) _ S512x256.size ?_ _
    sl_kernel_rfl

/-- The block of rows the body reads, entry by entry. -/
theorem rows_block (c : Dev nD) (t : Fin cfg0.N) (r : Fin 2048) (l : Fin 1024) :
    X0_0 m c t (ix2 r l) = m ((c : Thread nD τ).loc main_arg0) (ix2 ⟨4096 + (t.val / 4 * 2048 + r.val), by have : t.val < 16 := t.isLt; omega⟩ ⟨l.val, by omega⟩) := by
  unfold X0_0 Pipeline.Window.fill
  rw [dif_pos (moved0_0 t _)]
  blk_point [iblk, V, idx t]

/-- The body's block of the row table: cosines on the left, negated sines on the right. -/
theorem cos_rows_block (c : Dev nD) (t : Fin cfg0.N) (p : Fin 512) (q : Fin 2048) :
    iblk m c 2 t (ix2 p (⟨q.val, by omega⟩ : Fin 4096))
      = Cert.ReferenceFtLatIdeal.Read.val_main_v15 (F := Ideal) (ix2 ⟨t.val % 4 * 512 + p.val, by omega⟩ q) := by
  have h : iblk m c 2 t (ix2 p (⟨q.val, by omega⟩ : Fin 4096))
      = V m c main_v34 (ix2 ⟨t.val % 4 * 512 + p.val, by omega⟩ (⟨q.val, by omega⟩ : Fin 4096)) := by blk_point [iblk, idx t]
  rw [h, read_rows]
  pointwise [rowTable]

/-- The right half of the row table's block. -/
theorem sin_rows_block (c : Dev nD) (t : Fin cfg0.N) (p : Fin 512) (q : Fin 2048) :
    iblk m c 2 t (ix2 p (⟨2048 + q.val, by omega⟩ : Fin 4096))
      = Cert.ReferenceFtLatIdeal.Read.val_main_v38 (F := Ideal) (ix2 ⟨t.val % 4 * 512 + p.val, by omega⟩ q) := by
  have h : iblk m c 2 t (ix2 p (⟨2048 + q.val, by omega⟩ : Fin 4096))
      = V m c main_v34 (ix2 ⟨t.val % 4 * 512 + p.val, by omega⟩ (⟨2048 + q.val, by omega⟩ : Fin 4096)) := by blk_point [iblk, idx t]
  rw [h, read_rows]
  pointwise [rowTable]

/-- The body's block of the column table: cosines on the left, sines on the right. -/
theorem cos_cols_block (c : Dev nD) (t : Fin cfg0.N) (p q : Fin 256) :
    iblk m c 1 t (ix2 p (⟨q.val, by omega⟩ : Fin 512)) = Cert.ReferenceFtLatIdeal.Read.val_main_v31 (F := Ideal) (ix2 p q) := by
  have h : iblk m c 1 t (ix2 p (⟨q.val, by omega⟩ : Fin 512)) = V m c main_v36 (ix2 p (⟨q.val, by omega⟩ : Fin 512)) := by blk_point [iblk, idx t]
  rw [h, read_cols]
  pointwise [colTable]

/-- The right half of the column table's block. -/
theorem sin_cols_block (c : Dev nD) (t : Fin cfg0.N) (p q : Fin 256) :
    iblk m c 1 t (ix2 p (⟨256 + q.val, by omega⟩ : Fin 512)) = Cert.ReferenceFtLatIdeal.Read.val_main_v34 (F := Ideal) (ix2 p q) := by
  have h : iblk m c 1 t (ix2 p (⟨256 + q.val, by omega⟩ : Fin 512)) = V m c main_v36 (ix2 p (⟨256 + q.val, by omega⟩ : Fin 512)) := by blk_point [iblk, idx t]
  rw [h, read_cols]
  pointwise [colTable]

/-- What the body stores at row `p` and column `o` of its block is the reference's value where that entry sits. -/
theorem point (c : Dev nD) (t : Fin cfg0.N) (p : Fin 512) (o : Fin 1024) :
    k0_pay2 (iblk m c 2 t) (scratch (X0_0 m c t) (iblk m c 1 t)) (iblk m c 3 t) (ix2 p o)
      = goal (m ((c : Thread nD τ).loc main_arg0)) (m ((c : Thread nD τ).loc main_arg1)) (((cfg0.win 4).blk t).view.emb (ix2 p o)) := by
  have hw (l : Fin 1024) : iblk m c 3 t (ix2 l o) = m ((c : Thread nD τ).loc main_arg1) (ix2 l o) := by blk_point [iblk, V, idx t]
  have hr : (((cfg0.win 4).blk t).view.emb (ix2 p o) 0).val = t.val * 512 + p.val := by
    show win0_4.index t 0 * 512 + 1 * p.val = _
    rw [(idx t).2.2.2.2]
    show t.val * 512 + 1 * p.val = _
    omega
  have ho : ((cfg0.win 4).blk t).view.emb (ix2 p o) 1 = o := by
    refine Fin.ext ?_
    show win0_4.index t 1 * 1024 + 1 * o.val = _
    rw [(idx t).2.2.2.2]
    show 0 * 1024 + 1 * o.val = _
    omega
  refine (pay_at _ _ _ p o).trans ?_
  refine (sum_halves (n := 2048) (fun j => iblk m c 2 t (ix2 p j)) _ _ (fun l => iblk m c 3 t (ix2 l o))).trans ?_
  rw [eq_ix2 (((cfg0.win 4).blk t).view.emb (ix2 p o))]
  refine Eq.trans ?_ (goal_at _ _ _ _).symm
  have hd : (t.val * 512 + p.val) / 2048 = t.val / 4 := by omega
  have hm : (t.val * 512 + p.val) % 2048 = t.val % 4 * 512 + p.val := by omega
  simp only [cos_rows_block m c t, sin_rows_block m c t, cos_cols_block m c t, sin_cols_block m c t, rows_block m c t, hw, hr, ho, hd, hm]

/-- The filled scratch is the same at every grid point of a sequence. -/
theorem scratch_step (c : Dev nD) (t t' : Fin cfg0.N) (h : t.val / 4 = t'.val / 4) :
    scratch (X0_0 m c t) (iblk m c 1 t) = scratch (X0_0 m c t') (iblk m c 1 t') := by
  have hx : X0_0 m c t = X0_0 m c t' := by
    funext i
    rw [eq_ix2 i]
    refine (rows_block m c t (i 0) (i 1)).trans (Eq.trans ?_ (rows_block m c t' (i 0) (i 1)).symm)
    simp only [h]
  have hd : (iblk m c 1 t : FVec Ideal S256x512 .bf16) = iblk m c 1 t' := by
    have e (t : Fin cfg0.N) (a : Fin 256) (b : Fin 512) : iblk m c 1 t (ix2 a b) = V m c main_v36 (ix2 a b) := by
      blk_point [iblk, idx t]
    funext i
    rw [eq_ix2 i]
    exact (e t (i 0) (i 1)).trans (e t' (i 0) (i 1)).symm
  exact congrArg₂ scratch hx hd

/-- After every grid point the scratch holds the filled scratch of that point. -/
theorem carried (c : Dev nD) : ∀ (n : Nat) (hn : n < cfg0.N),
    (outsAt0 m c n hn).2 = scratch (X0_0 m c ⟨n, hn⟩) (iblk m c 1 ⟨n, hn⟩) := by
  intro n
  induction n with
  | zero =>
    intro hn
    rw [outsAt0_A m c ⟨0, hn⟩ rfl]
    dsimp only
    frame_out
    exact funext fun i => filled _ _ i
  | succ n ih =>
    intro hn
    by_cases h : (n + 1) % 4 = 0
    · rw [outsAt0_A m c ⟨n + 1, hn⟩ h]
      dsimp only
      frame_out
      exact funext fun i => filled _ _ i
    · rw [outsAt0_B m c ⟨n + 1, hn⟩ h]
      dsimp only [sout0_B_0]
      simp only [Nat.add_sub_cancel]
      rw [ih]
      refine scratch_step m c _ _ ?_
      show n / 4 = (n + 1) / 4
      omega

/-- What the body leaves in its block of the result. -/
theorem stored (c : Dev nD) (t : Fin cfg0.N) : (outsAt0 m c t.val t.isLt).1
    = k0_pay2 (iblk m c 2 t) (scratch (X0_0 m c t) (iblk m c 1 t)) (iblk m c 3 t) := by
  by_cases h : t.val % 4 = 0
  · rw [outsAt0_A m c t h]
    dsimp only
    frame_out
    refine congrArg (fun s => k0_pay2 (F := Ideal) (iblk m c 2 t) s (iblk m c 3 t)) ?_
    rw [View.readCov_eq_canon']
    funext j
    refine (filled _ _ _).trans (congrArg _ ?_)
    funext a
    refine Fin.ext ?_
    fin_cases a
    · exact (by omega : 0 + 1 * (j 0).val = (j 0).val)
    · exact (by omega : 0 + 1 * (j 1).val = (j 1).val)
  · rw [outsAt0_B m c t h]
    dsimp only
    frame_out
    refine congrArg (fun s => k0_pay2 (F := Ideal) (iblk m c 2 t) s (iblk m c 3 t)) ?_
    refine (Memref.IsWhole.read_unread _ _).trans ?_
    refine (carried m c _ _).trans (scratch_step m c _ _ ?_)
    show (t.val - 1) / 4 = t.val / 4
    omega

/-- The result array after the run is the reference's value of the arguments: the written blocks tile it. -/
theorem final (c : Dev nD) : (dats m 0 c).arrAt 4 cfg0.N
    = goal (m ((c : Thread nD τ).loc main_arg0)) (m ((c : Thread nD τ).loc main_arg1)) := by
  refine (dats m 0 c).arrAt_eq_of_covers 4 _ (by decide +kernel) fun t _ y => ?_
  blk_simp
  rw [after0_4, stored m c t, eq_ix2 y]
  exact point m c t (y 0) (y 1)

/-- The run, read: the result at the reference's value, the arguments unchanged. -/
theorem run : θ_run defs (onTc (τ := τ) (main (F := Ideal))) ⟨m, fun _ => 0, ρ⟩ fun r => ∀ c : Dev nD,
      r.2.mem ((c : Thread nD τ).loc main_v37) = goal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelFtLatIdeal.RefValue

/-! ## The claims -/

namespace Cert.Proof.FtLatClaims

/-- Every weakly fair execution of the kernel ends, with its arguments unchanged and every counter at zero. -/
theorem frame_kernel : Cert.quiescent_KernelFtLat := fun m ρ _ => Cert.KernelFtLat.Gen.frame m ρ

/-- The same of the kernel read at the extended reals. -/
theorem frame_ideal : Cert.quiescent_KernelFtLatIdeal := fun m ρ _ => Cert.KernelFtLatIdeal.Gen.frame m ρ

/-- The same of the reference, whose program has no counters. -/
theorem frame_reference : Cert.quiescent_ReferenceFtLatIdeal := fun m ρ _ =>
  (θ_run Cert.ReferenceFtLatIdeal.defs _ _).mono (fun r h => ⟨fun c => (h c).2,
      Idealize.ShloMosaic.sem_eq_zero_of_no_sems (by decide) r.2⟩)
    (Cert.ReferenceFtLatIdeal.Value.run (F := Ideal) m ρ)

/-- No operation was rewritten. -/
theorem preserves : Cert.preserves_KernelFtLat_KernelFtLatIdeal := trivial

/-- From agreeing arguments the kernel and the reference end with the same result at the extended reals. -/
theorem algebraic : Cert.algebraic_KernelFtLatIdeal_ReferenceFtLatIdeal := fun m ρ m' ρ' _ hag =>
  ⟨fun c => Cert.KernelFtLatIdeal.RefValue.goal (m ((c.tc : Thread Cert.KernelFtLatIdeal.nD Cert.KernelFtLatIdeal.τ).loc Cert.KernelFtLatIdeal.main_arg0)) (m ((c.tc : Thread Cert.KernelFtLatIdeal.nD Cert.KernelFtLatIdeal.τ).loc Cert.KernelFtLatIdeal.main_arg1)),
    Cert.KernelFtLatIdeal.RefValue.run m ρ,
    (θ_run Cert.ReferenceFtLatIdeal.defs _ _).mono (fun _ h c => ⟨(h c).1.trans (by
        rw [Cert.ReferenceFtLatIdeal.Read.val_main_v46_eq, (hag c).1, (hag c).2]), (h c).2⟩)
      (Cert.ReferenceFtLatIdeal.Value.run (F := Ideal) m' ρ')⟩

end Cert.Proof.FtLatClaims

end
-- ==== Proof.lean ====
/-
  The proof of `Cert.Claim`: the claims of every program, each proved in its own module, put together in the order the
  claim lists them — first every program's frame, then for every kernel that its idealization is sanctioned and that at
  the extended reals its result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelUp
public import proofs.«01_k».proof.Proof.Gen.KernelUpIdeal
public import proofs.«01_k».proof.Proof.Gen.ReferenceUpIdeal
public import proofs.«01_k».proof.Proof.Gen.KernelDown
public import proofs.«01_k».proof.Proof.Gen.KernelDownIdeal
public import proofs.«01_k».proof.Proof.Gen.ReferenceDownIdeal
public import proofs.«01_k».proof.Proof.Gen.KernelIn
public import proofs.«01_k».proof.Proof.Gen.KernelInIdeal
public import proofs.«01_k».proof.Proof.Gen.ReferenceInIdeal
public import proofs.«01_k».proof.Proof.Gen.KernelOut
public import proofs.«01_k».proof.Proof.Gen.KernelOutIdeal
public import proofs.«01_k».proof.Proof.Gen.ReferenceOutIdeal
public import proofs.«01_k».proof.Proof.Gen.KernelNa
public import proofs.«01_k».proof.Proof.Gen.KernelNaIdeal
public import proofs.«01_k».proof.Proof.Gen.ReferenceNaIdeal
public import proofs.«01_k».proof.Proof.Gen.KernelMods
public import proofs.«01_k».proof.Proof.Gen.KernelModsIdeal
public import proofs.«01_k».proof.Proof.Gen.ReferenceModsIdeal
public import proofs.«01_k».proof.Proof.Gen.KernelLn
public import proofs.«01_k».proof.Proof.Gen.KernelLnIdeal
public import proofs.«01_k».proof.Proof.Gen.ReferenceLnIdeal
public import proofs.«01_k».proof.Proof.Gen.KernelMix
public import proofs.«01_k».proof.Proof.Gen.KernelMixIdeal
public import proofs.«01_k».proof.Proof.Gen.ReferenceMixIdeal
public import proofs.«01_k».proof.Proof.Gen.KernelGlu
public import proofs.«01_k».proof.Proof.Gen.KernelGluIdeal
public import proofs.«01_k».proof.Proof.Gen.ReferenceGluIdeal
public import proofs.«01_k».proof.Proof.Gen.KernelGluCtx
public import proofs.«01_k».proof.Proof.Gen.KernelGluCtxIdeal
public import proofs.«01_k».proof.Proof.Gen.ReferenceGluCtxIdeal
public import proofs.«01_k».proof.Proof.Gen.KernelFt
public import proofs.«01_k».proof.Proof.Gen.KernelFtIdeal
public import proofs.«01_k».proof.Proof.Gen.ReferenceFtIdeal
public import proofs.«01_k».proof.Proof.Gen.KernelFtLat
public import proofs.«01_k».proof.Proof.Gen.KernelFtLatIdeal
public import proofs.«01_k».proof.Proof.Gen.ReferenceFtLatIdeal
public import proofs.«01_k».proof.Proof.CtxAttn
public import proofs.«01_k».proof.Proof.Up
public import proofs.«01_k».proof.Proof.Down
public import proofs.«01_k».proof.Proof.InProj
public import proofs.«01_k».proof.Proof.OutProj
public import proofs.«01_k».proof.Proof.NbrAttn
public import proofs.«01_k».proof.Proof.Mods
public import proofs.«01_k».proof.Proof.Ln
public import proofs.«01_k».proof.Proof.Mix
public import proofs.«01_k».proof.Proof.Glu
public import proofs.«01_k».proof.Proof.GluCtx
public import proofs.«01_k».proof.Proof.Ft
public import proofs.«01_k».proof.Proof.FtLat
public import Idealize.ShloMosaic.Adequacy
public import Idealize.ShloMosaic.Init

@[expose] public section

noncomputable section

namespace Cert.Proof

/-- The claim: the instances of the programs' stated facts, then the claims themselves. -/
theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelNa.Gen.facts, Cert.KernelNaIdeal.Gen.facts, Cert.ReferenceNaIdeal.Gen.facts,
    Cert.KernelMods.Gen.facts, Cert.KernelModsIdeal.Gen.facts, Cert.ReferenceModsIdeal.Gen.facts,
    Cert.KernelLn.Gen.facts, Cert.KernelLnIdeal.Gen.facts, Cert.ReferenceLnIdeal.Gen.facts,
    Cert.KernelMix.Gen.facts, Cert.KernelMixIdeal.Gen.facts, Cert.ReferenceMixIdeal.Gen.facts,
    Cert.KernelGlu.Gen.facts, Cert.KernelGluIdeal.Gen.facts, Cert.ReferenceGluIdeal.Gen.facts,
    Cert.KernelGluCtx.Gen.facts, Cert.KernelGluCtxIdeal.Gen.facts, Cert.ReferenceGluCtxIdeal.Gen.facts,
    Cert.KernelFt.Gen.facts, Cert.KernelFtIdeal.Gen.facts, Cert.ReferenceFtIdeal.Gen.facts,
    Cert.KernelFtLat.Gen.facts, Cert.KernelFtLatIdeal.Gen.facts, Cert.ReferenceFtLatIdeal.Gen.facts,
    NaClaims.precondition_facts,
    MixClaims.precondition_facts,
    CtxClaims.frame_kernel, CtxClaims.frame_ideal, CtxClaims.frame_reference,
    UpClaims.frame_kernel, UpClaims.frame_ideal, UpClaims.frame_reference,
    DownClaims.frame_kernel, DownClaims.frame_ideal, DownClaims.frame_reference,
    InClaims.frame_kernel, InClaims.frame_ideal, InClaims.frame_reference,
    OutClaims.frame_kernel, OutClaims.frame_ideal, OutClaims.frame_reference,
    NaClaims.frame_kernel, NaClaims.frame_ideal, haveI := NaClaims.precondition_facts; NaClaims.frame_ideal_finite, NaClaims.frame_reference, haveI := NaClaims.precondition_facts; NaClaims.frame_reference_finite,
    ModsClaims.frame_kernel, ModsClaims.frame_ideal, ModsClaims.frame_reference,
    LnClaims.frame_kernel, LnClaims.frame_ideal, LnClaims.frame_reference,
    MixClaims.frame_kernel, MixClaims.frame_ideal, haveI := MixClaims.precondition_facts; MixClaims.frame_ideal_finite, MixClaims.frame_reference, haveI := MixClaims.precondition_facts; MixClaims.frame_reference_finite,
    GluClaims.frame_kernel, GluClaims.frame_ideal, GluClaims.frame_reference,
    GluCtxClaims.frame_kernel, GluCtxClaims.frame_ideal, GluCtxClaims.frame_reference,
    FtClaims.frame_kernel, FtClaims.frame_ideal, FtClaims.frame_reference,
    FtLatClaims.frame_kernel, FtLatClaims.frame_ideal, FtLatClaims.frame_reference,
    CtxClaims.preserves, CtxClaims.algebraic,
    UpClaims.preserves, UpClaims.algebraic,
    DownClaims.preserves, DownClaims.algebraic,
    InClaims.preserves, InClaims.algebraic,
    OutClaims.preserves, OutClaims.algebraic,
    NaClaims.preserves, haveI := NaClaims.precondition_facts; NaClaims.algebraic,
    ModsClaims.preserves, ModsClaims.algebraic,
    LnClaims.preserves, LnClaims.algebraic,
    MixClaims.preserves, haveI := MixClaims.precondition_facts; MixClaims.algebraic,
    GluClaims.preserves, GluClaims.algebraic,
    GluCtxClaims.preserves, GluCtxClaims.algebraic,
    FtClaims.preserves, FtClaims.algebraic,
    FtLatClaims.preserves, FtLatClaims.algebraic⟩

end Cert.Proof

end
